-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x128x128 : Shape := ⟨4, ![1, 4096, 128, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x128x128 : S_.BroadcastsInDim S1x4096x128x128 (![] : Fin 0 → Fin S1x4096x128x128.rank)
  reducesTo_S1x4096x128x128_S_d0_1_2_3 : S1x4096x128x128.ReducesTo [0, 1, 2, 3] S_

variable [Facts]

def fn {F : FTy → Type} [FloatOps F] (main_arg0 : FVec F S1x256x1024 .f32) (main_arg1 : FVec F S1024x1024 .f32) (main_arg2 : FVec F S1x4096x128x128 .f32) (main_arg3 : FVec F S1x4096x128x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x128x128 .f32 := Host.absf main_arg2
  let main_cst_2 : FVec F S_ .f32 := constant S_ .f32 0x7F800000#32
  let main_v10 : FVec F S1x4096x128x128 .f32 := broadcastInDim S1x4096x128x128 ![] bcast_S_S1x4096x128x128 main_cst_2
  let main_v11 : IVec S1x4096x128x128 1 := cmpf .olt main_v9 main_v10
  let main_c_3 : IVec S_ 1 := constantI S_ 1 1#1
  let main_v12 : IVec S_ 1 := (fun x v => Host.reduce IntOp.andi x v reducesTo_S1x4096x128x128_S_d0_1_2_3 h_S_) main_v11 main_c_3
  let main_v13 : IVec S_ 1 := andi main_v8 main_v12
  main_v13
-- ==== Pre_finite_scores_ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x4096x128x128 : S_.BroadcastsInDim S1x4096x128x128 (![] : Fin 0 → Fin S1x4096x128x128.rank)
  reducesTo_S1x4096x128x128_S_d0_1_2_3 : S1x4096x128x128.ReducesTo [0, 1, 2, 3] S_

variable [Facts]

def fn {F : FTy → Type} [FloatOps F] (main_arg0 : FVec F S1x256x1024 .f32) (main_arg1 : FVec F S1024x16384 .f32) (main_arg2 : FVec F S1x4096x128x128 .f32) (main_arg3 : FVec F S1x4096x128x128 .f32) (main_arg4 : FVec F S16384x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x4096x128x128 .f32 := Host.absf main_arg2
  let main_cst_2 : FVec F S_ .f32 := constant S_ .f32 0x7F800000#32
  let main_v10 : FVec F S1x4096x128x128 .f32 := broadcastInDim S1x4096x128x128 ![] bcast_S_S1x4096x128x128 main_cst_2
  let main_v11 : IVec S1x4096x128x128 1 := cmpf .olt main_v9 main_v10
  let main_c_3 : IVec S_ 1 := constantI S_ 1 1#1
  let main_v12 : IVec S_ 1 := (fun x v => Host.reduce IntOp.andi x v reducesTo_S1x4096x128x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x128x128 : Shape := ⟨4, ![1, 4096, 128, 128]⟩
abbrev S256x1024 : Shape := ⟨2, ![256, 1024]⟩
abbrev S8x4352x128 : Shape := ⟨3, ![8, 4352, 128]⟩
abbrev S16x16x1024 : Shape := ⟨3, ![16, 16, 1024]⟩
abbrev S8 : Shape := ⟨1, ![8]⟩
abbrev S16 : Shape := ⟨1, ![16]⟩
abbrev S_ : Shape := ⟨0, ![]⟩
abbrev S1 : Shape := ⟨1, ![1]⟩
abbrev S1x64x128 : Shape := ⟨3, ![1, 64, 128]⟩
abbrev S64x128 : Shape := ⟨2, ![64, 128]⟩
abbrev S1x64x1x128 : Shape := ⟨4, ![1, 64, 1, 128]⟩
abbrev S256x128 : Shape := ⟨2, ![256, 128]⟩
abbrev S128x128 : Shape := ⟨2, ![128, 128]⟩
abbrev S1x1408x128 : Shape := ⟨3, ![1, 1408, 128]⟩
abbrev S1408x128 : Shape := ⟨2, ![1408, 128]⟩
abbrev S128x1408 : Shape := ⟨2, ![128, 1408]⟩
abbrev S128 : Shape := ⟨1, ![128]⟩
abbrev S128x1 : Shape := ⟨2, ![128, 1]⟩
abbrev S1x1472x128 : Shape := ⟨3, ![1, 1472, 128]⟩
abbrev S1472x128 : Shape := ⟨2, ![1472, 128]⟩
abbrev S64x1472 : Shape := ⟨2, ![64, 1472]⟩
abbrev S64 : Shape := ⟨1, ![64]⟩
abbrev S64x1 : Shape := ⟨2, ![64, 1]⟩
abbrev S1x16x1024 : Shape := ⟨3, ![1, 16, 1024]⟩
abbrev S16x1024 : Shape := ⟨2, ![16, 1024]⟩
abbrev S15x16x1024 : Shape := ⟨3, ![15, 16, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x128x128, .f32⟩
  | .hbm, ⟨3, _⟩ => ⟨S1x4096x128x128, .f32⟩
  | .hbm, ⟨4, _⟩ => ⟨S1024x1024, .f32⟩
  | .hbm, ⟨5, _⟩ => ⟨S256x1024, .bf16⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .bf16⟩
  | .local _ .vmem, ⟨4, _⟩ => ⟨S8x4352x128, .f32⟩
  | .local _ .vmem, ⟨5, _⟩ => ⟨S8x4352x128, .f32⟩
  | .local _ .vmem, ⟨6, _⟩ => ⟨S256x1024, .f32⟩
  | .local _ .vmem, ⟨7, _⟩ => ⟨S256x1024, .bf16⟩
  | .local _ .vmem, ⟨8, _⟩ => ⟨S16x16x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.addi v2 c1_i32_0
  let c16_i32_1 : BitVec 32 := 16#32
  let c0_i32 : BitVec 32 := 0#32
  let v6 : BitVec 1 := Scalar.cmpi .eq c16_i32_1 c0_i32
  let c1_i32_2 : BitVec 32 := 1#32
  let v7 : BitVec 32 := Scalar.select v6 c1_i32_2 c16_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_7 : BitVec 32 := 1#32
  let v16 : BitVec 32 := Scalar.muli v15 c1_i32_7
  let v17 : BitVec 32 := Scalar.addi c0_i32_8 v16
  v17.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v18 : BitVec 32 := Scalar.addi v2 c2_i32
  let c16_i32_9 : BitVec 32 := 16#32
  let c0_i32_10 : BitVec 32 := 0#32
  let v19 : BitVec 1 := Scalar.cmpi .eq c16_i32_9 c0_i32_10
  let c1_i32_11 : BitVec 32 := 1#32
  let v20 : BitVec 32 := Scalar.select v19 c1_i32_11 c16_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_16 : BitVec 32 := 1#32
  let v29 : BitVec 32 := Scalar.muli v28 c1_i32_16
  let v30 : BitVec 32 := Scalar.addi c0_i32_17 v29
  v30.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v31 : BitVec 32 := Scalar.addi v2 c3_i32
  let c16_i32_18 : BitVec 32 := 16#32
  let c0_i32_19 : BitVec 32 := 0#32
  let v32 : BitVec 1 := Scalar.cmpi .eq c16_i32_18 c0_i32_19
  let c1_i32_20 : BitVec 32 := 1#32
  let v33 : BitVec 32 := Scalar.select v32 c1_i32_20 c16_i32_18
  let v34 : BitVec 32 := Scalar.remsi v31 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c1_i32_25 : BitVec 32 := 1#32
  let v42 : BitVec 32 := Scalar.muli v41 c1_i32_25
  let v43 : BitVec 32 := Scalar.addi c0_i32_26 v42
  v43.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v44 : BitVec 32 := Scalar.addi v2 c4_i32
  let c16_i32_27 : BitVec 32 := 16#32
  let c0_i32_28 : BitVec 32 := 0#32
  let v45 : BitVec 1 := Scalar.cmpi .eq c16_i32_27 c0_i32_28
  let c1_i32_29 : BitVec 32 := 1#32
  let v46 : BitVec 32 := Scalar.select v45 c1_i32_29 c16_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c1_i32_34 : BitVec 32 := 1#32
  let v55 : BitVec 32 := Scalar.muli v54 c1_i32_34
  let v56 : BitVec 32 := Scalar.addi c0_i32_35 v55
  v56.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v57 : BitVec 32 := Scalar.addi v2 c5_i32
  let c16_i32_36 : BitVec 32 := 16#32
  let c0_i32_37 : BitVec 32 := 0#32
  let v58 : BitVec 1 := Scalar.cmpi .eq c16_i32_36 c0_i32_37
  let c1_i32_38 : BitVec 32 := 1#32
  let v59 : BitVec 32 := Scalar.select v58 c1_i32_38 c16_i32_36
  let v60 : BitVec 32 := Scalar.remsi v57 v59
  let c0_i32_40 : BitVec 32 := 0#32
  let v62 : BitVec 1 := Scalar.cmpi .slt v60 c0_i32_40
  let c0_i32_41 : BitVec 32 := 0#32
  let v63 : BitVec 1 := Scalar.cmpi .slt v59 c0_i32_41
  let v64 : BitVec 1 := Scalar.xori v62 v63
  let c0_i32_39 : BitVec 32 := 0#32
  let v61 : BitVec 1 := Scalar.cmpi .ne v60 c0_i32_39
  let v65 : BitVec 1 := Scalar.andi v64 v61
  let v66 : BitVec 32 := Scalar.addi v60 v59
  let v67 : BitVec 32 := Scalar.select v65 v66 v60
  let c1_i32_43 : BitVec 32 := 1#32
  let v68 : BitVec 32 := Scalar.muli v67 c1_i32_43
  let v69 : BitVec 32 := Scalar.addi c0_i32_44 v68
  v69.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v70 : BitVec 32 := Scalar.addi v2 c6_i32
  let c16_i32_45 : BitVec 32 := 16#32
  let c0_i32_46 : BitVec 32 := 0#32
  let v71 : BitVec 1 := Scalar.cmpi .eq c16_i32_45 c0_i32_46
  let c1_i32_47 : BitVec 32 := 1#32
  let v72 : BitVec 32 := Scalar.select v71 c1_i32_47 c16_i32_45
  let v73 : BitVec 32 := Scalar.remsi v70 v72
  let c0_i32_49 : BitVec 32 := 0#32
  let v75 : BitVec 1 := Scalar.cmpi .slt v73 c0_i32_49
  let c0_i32_50 : BitVec 32 := 0#32
  let v76 : BitVec 1 := Scalar.cmpi .slt v72 c0_i32_50
  let v77 : BitVec 1 := Scalar.xori v75 v76
  let c0_i32_48 : BitVec 32 := 0#32
  let v74 : BitVec 1 := Scalar.cmpi .ne v73 c0_i32_48
  let v78 : BitVec 1 := Scalar.andi v77 v74
  let v79 : BitVec 32 := Scalar.addi v73 v72
  let v80 : BitVec 32 := Scalar.select v78 v79 v73
  let c1_i32_52 : BitVec 32 := 1#32
  let v81 : BitVec 32 := Scalar.muli v80 c1_i32_52
  let v82 : BitVec 32 := Scalar.addi c0_i32_53 v81
  v82.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v83 : BitVec 32 := Scalar.addi v2 c7_i32
  let c16_i32_54 : BitVec 32 := 16#32
  let c0_i32_55 : BitVec 32 := 0#32
  let v84 : BitVec 1 := Scalar.cmpi .eq c16_i32_54 c0_i32_55
  let c1_i32_56 : BitVec 32 := 1#32
  let v85 : BitVec 32 := Scalar.select v84 c1_i32_56 c16_i32_54
  let v86 : BitVec 32 := Scalar.remsi v83 v85
  let c0_i32_58 : BitVec 32 := 0#32
  let v88 : BitVec 1 := Scalar.cmpi .slt v86 c0_i32_58
  let c0_i32_59 : BitVec 32 := 0#32
  let v89 : BitVec 1 := Scalar.cmpi .slt v85 c0_i32_59
  let v90 : BitVec 1 := Scalar.xori v88 v89
  let c0_i32_57 : BitVec 32 := 0#32
  let v87 : BitVec 1 := Scalar.cmpi .ne v86 c0_i32_57
  let v91 : BitVec 1 := Scalar.andi v90 v87
  let v92 : BitVec 32 := Scalar.addi v86 v85
  let v93 : BitVec 32 := Scalar.select v91 v92 v86
  let c1_i32_61 : BitVec 32 := 1#32
  let v94 : BitVec 32 := Scalar.muli v93 c1_i32_61
  let v95 : BitVec 32 := Scalar.addi c0_i32_62 v94
  v95.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_63 : BitVec 32 := 8#32
  let v96 : BitVec 32 := Scalar.addi v2 c8_i32_63
  let c16_i32_64 : BitVec 32 := 16#32
  let c0_i32_65 : BitVec 32 := 0#32
  let v97 : BitVec 1 := Scalar.cmpi .eq c16_i32_64 c0_i32_65
  let c1_i32_66 : BitVec 32 := 1#32
  let v98 : BitVec 32 := Scalar.select v97 c1_i32_66 c16_i32_64
  let v99 : BitVec 32 := Scalar.remsi v96 v98
  let c0_i32_68 : BitVec 32 := 0#32
  let v101 : BitVec 1 := Scalar.cmpi .slt v99 c0_i32_68
  let c0_i32_69 : BitVec 32 := 0#32
  let v102 : BitVec 1 := Scalar.cmpi .slt v98 c0_i32_69
  let v103 : BitVec 1 := Scalar.xori v101 v102
  let c0_i32_67 : BitVec 32 := 0#32
  let v100 : BitVec 1 := Scalar.cmpi .ne v99 c0_i32_67
  let v104 : BitVec 1 := Scalar.andi v103 v100
  let v105 : BitVec 32 := Scalar.addi v99 v98
  let v106 : BitVec 32 := Scalar.select v104 v105 v99
  let c1_i32_71 : BitVec 32 := 1#32
  let v107 : BitVec 32 := Scalar.muli v106 c1_i32_71
  let v108 : BitVec 32 := Scalar.addi c0_i32_72 v107
  v108.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v109 : BitVec 32 := Scalar.addi v2 c9_i32
  let c16_i32_73 : BitVec 32 := 16#32
  let c0_i32_74 : BitVec 32 := 0#32
  let v110 : BitVec 1 := Scalar.cmpi .eq c16_i32_73 c0_i32_74
  let c1_i32_75 : BitVec 32 := 1#32
  let v111 : BitVec 32 := Scalar.select v110 c1_i32_75 c16_i32_73
  let v112 : BitVec 32 := Scalar.remsi v109 v111
  let c0_i32_77 : BitVec 32 := 0#32
  let v114 : BitVec 1 := Scalar.cmpi .slt v112 c0_i32_77
  let c0_i32_78 : BitVec 32 := 0#32
  let v115 : BitVec 1 := Scalar.cmpi .slt v111 c0_i32_78
  let v116 : BitVec 1 := Scalar.xori v114 v115
  let c0_i32_76 : BitVec 32 := 0#32
  let v113 : BitVec 1 := Scalar.cmpi .ne v112 c0_i32_76
  let v117 : BitVec 1 := Scalar.andi v116 v113
  let v118 : BitVec 32 := Scalar.addi v112 v111
  let v119 : BitVec 32 := Scalar.select v117 v118 v112
  let c1_i32_80 : BitVec 32 := 1#32
  let v120 : BitVec 32 := Scalar.muli v119 c1_i32_80
  let v121 : BitVec 32 := Scalar.addi c0_i32_81 v120
  v121.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v122 : BitVec 32 := Scalar.addi v2 c10_i32
  let c16_i32_82 : BitVec 32 := 16#32
  let c0_i32_83 : BitVec 32 := 0#32
  let v123 : BitVec 1 := Scalar.cmpi .eq c16_i32_82 c0_i32_83
  let c1_i32_84 : BitVec 32 := 1#32
  let v124 : BitVec 32 := Scalar.select v123 c1_i32_84 c16_i32_82
  let v125 : BitVec 32 := Scalar.remsi v122 v124
  let c0_i32_86 : BitVec 32 := 0#32
  let v127 : BitVec 1 := Scalar.cmpi .slt v125 c0_i32_86
  let c0_i32_87 : BitVec 32 := 0#32
  let v128 : BitVec 1 := Scalar.cmpi .slt v124 c0_i32_87
  let v129 : BitVec 1 := Scalar.xori v127 v128
  let c0_i32_85 : BitVec 32 := 0#32
  let v126 : BitVec 1 := Scalar.cmpi .ne v125 c0_i32_85
  let v130 : BitVec 1 := Scalar.andi v129 v126
  let v131 : BitVec 32 := Scalar.addi v125 v124
  let v132 : BitVec 32 := Scalar.select v130 v131 v125
  let c1_i32_89 : BitVec 32 := 1#32
  let v133 : BitVec 32 := Scalar.muli v132 c1_i32_89
  let v134 : BitVec 32 := Scalar.addi c0_i32_90 v133
  v134.toNat
def k0_dev11 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v135 : BitVec 32 := Scalar.addi v2 c11_i32
  let c16_i32_91 : BitVec 32 := 16#32
  let c0_i32_92 : BitVec 32 := 0#32
  let v136 : BitVec 1 := Scalar.cmpi .eq c16_i32_91 c0_i32_92
  let c1_i32_93 : BitVec 32 := 1#32
  let v137 : BitVec 32 := Scalar.select v136 c1_i32_93 c16_i32_91
  let v138 : BitVec 32 := Scalar.remsi v135 v137
  let c0_i32_95 : BitVec 32 := 0#32
  let v140 : BitVec 1 := Scalar.cmpi .slt v138 c0_i32_95
  let c0_i32_96 : BitVec 32 := 0#32
  let v141 : BitVec 1 := Scalar.cmpi .slt v137 c0_i32_96
  let v142 : BitVec 1 := Scalar.xori v140 v141
  let c0_i32_94 : BitVec 32 := 0#32
  let v139 : BitVec 1 := Scalar.cmpi .ne v138 c0_i32_94
  let v143 : BitVec 1 := Scalar.andi v142 v139
  let v144 : BitVec 32 := Scalar.addi v138 v137
  let v145 : BitVec 32 := Scalar.select v143 v144 v138
  let c1_i32_98 : BitVec 32 := 1#32
  let v146 : BitVec 32 := Scalar.muli v145 c1_i32_98
  let v147 : BitVec 32 := Scalar.addi c0_i32_99 v146
  v147.toNat
def k0_dev12 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v148 : BitVec 32 := Scalar.addi v2 c12_i32
  let c16_i32_100 : BitVec 32 := 16#32
  let c0_i32_101 : BitVec 32 := 0#32
  let v149 : BitVec 1 := Scalar.cmpi .eq c16_i32_100 c0_i32_101
  let c1_i32_102 : BitVec 32 := 1#32
  let v150 : BitVec 32 := Scalar.select v149 c1_i32_102 c16_i32_100
  let v151 : BitVec 32 := Scalar.remsi v148 v150
  let c0_i32_104 : BitVec 32 := 0#32
  let v153 : BitVec 1 := Scalar.cmpi .slt v151 c0_i32_104
  let c0_i32_105 : BitVec 32 := 0#32
  let v154 : BitVec 1 := Scalar.cmpi .slt v150 c0_i32_105
  let v155 : BitVec 1 := Scalar.xori v153 v154
  let c0_i32_103 : BitVec 32 := 0#32
  let v152 : BitVec 1 := Scalar.cmpi .ne v151 c0_i32_103
  let v156 : BitVec 1 := Scalar.andi v155 v152
  let v157 : BitVec 32 := Scalar.addi v151 v150
  let v158 : BitVec 32 := Scalar.select v156 v157 v151
  let c1_i32_107 : BitVec 32 := 1#32
  let v159 : BitVec 32 := Scalar.muli v158 c1_i32_107
  let v160 : BitVec 32 := Scalar.addi c0_i32_108 v159
  v160.toNat
def k0_dev13 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v161 : BitVec 32 := Scalar.addi v2 c13_i32
  let c16_i32_109 : BitVec 32 := 16#32
  let c0_i32_110 : BitVec 32 := 0#32
  let v162 : BitVec 1 := Scalar.cmpi .eq c16_i32_109 c0_i32_110
  let c1_i32_111 : BitVec 32 := 1#32
  let v163 : BitVec 32 := Scalar.select v162 c1_i32_111 c16_i32_109
  let v164 : BitVec 32 := Scalar.remsi v161 v163
  let c0_i32_113 : BitVec 32 := 0#32
  let v166 : BitVec 1 := Scalar.cmpi .slt v164 c0_i32_113
  let c0_i32_114 : BitVec 32 := 0#32
  let v167 : BitVec 1 := Scalar.cmpi .slt v163 c0_i32_114
  let v168 : BitVec 1 := Scalar.xori v166 v167
  let c0_i32_112 : BitVec 32 := 0#32
  let v165 : BitVec 1 := Scalar.cmpi .ne v164 c0_i32_112
  let v169 : BitVec 1 := Scalar.andi v168 v165
  let v170 : BitVec 32 := Scalar.addi v164 v163
  let v171 : BitVec 32 := Scalar.select v169 v170 v164
  let c1_i32_116 : BitVec 32 := 1#32
  let v172 : BitVec 32 := Scalar.muli v171 c1_i32_116
  let v173 : BitVec 32 := Scalar.addi c0_i32_117 v172
  v173.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v174 : BitVec 32 := Scalar.addi v2 c14_i32
  let c16_i32_118 : BitVec 32 := 16#32
  let c0_i32_119 : BitVec 32 := 0#32
  let v175 : BitVec 1 := Scalar.cmpi .eq c16_i32_118 c0_i32_119
  let c1_i32_120 : BitVec 32 := 1#32
  let v176 : BitVec 32 := Scalar.select v175 c1_i32_120 c16_i32_118
  let v177 : BitVec 32 := Scalar.remsi v174 v176
  let c0_i32_122 : BitVec 32 := 0#32
  let v179 : BitVec 1 := Scalar.cmpi .slt v177 c0_i32_122
  let c0_i32_123 : BitVec 32 := 0#32
  let v180 : BitVec 1 := Scalar.cmpi .slt v176 c0_i32_123
  let v181 : BitVec 1 := Scalar.xori v179 v180
  let c0_i32_121 : BitVec 32 := 0#32
  let v178 : BitVec 1 := Scalar.cmpi .ne v177 c0_i32_121
  let v182 : BitVec 1 := Scalar.andi v181 v178
  let v183 : BitVec 32 := Scalar.addi v177 v176
  let v184 : BitVec 32 := Scalar.select v182 v183 v177
  let c1_i32_125 : BitVec 32 := 1#32
  let v185 : BitVec 32 := Scalar.muli v184 c1_i32_125
  let v186 : BitVec 32 := Scalar.addi c0_i32_126 v185
  v186.toNat
def k0_dev15 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v187 : BitVec 32 := Scalar.addi v2 c15_i32
  let c16_i32_127 : BitVec 32 := 16#32
  let c0_i32_128 : BitVec 32 := 0#32
  let v188 : BitVec 1 := Scalar.cmpi .eq c16_i32_127 c0_i32_128
  let c1_i32_129 : BitVec 32 := 1#32
  let v189 : BitVec 32 := Scalar.select v188 c1_i32_129 c16_i32_127
  let v190 : BitVec 32 := Scalar.remsi v187 v189
  let c0_i32_131 : BitVec 32 := 0#32
  let v192 : BitVec 1 := Scalar.cmpi .slt v190 c0_i32_131
  let c0_i32_132 : BitVec 32 := 0#32
  let v193 : BitVec 1 := Scalar.cmpi .slt v189 c0_i32_132
  let v194 : BitVec 1 := Scalar.xori v192 v193
  let c0_i32_130 : BitVec 32 := 0#32
  let v191 : BitVec 1 := Scalar.cmpi .ne v190 c0_i32_130
  let v195 : BitVec 1 := Scalar.andi v194 v191
  let v196 : BitVec 32 := Scalar.addi v190 v189
  let v197 : BitVec 32 := Scalar.select v195 v196 v190
  let c1_i32_134 : BitVec 32 := 1#32
  let v198 : BitVec 32 := Scalar.muli v197 c1_i32_134
  let v199 : BitVec 32 := Scalar.addi c0_i32_135 v198
  v199.toNat
def k0_off1 (d0 : Dev nD) (c0_i32_137 : BitVec 32) : Fin 4 → Nat :=
  let c0_i32_138 : BitVec 32 := 0#32
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_144 : BitVec 32 := 0#32
  ![0, 0, v200.toNat, 0]
def k0_off2 (d0 : Dev nD) (c0_i32_137 : BitVec 32) : Fin 4 → Nat :=
  let c0_i32_152 : BitVec 32 := 0#32
  let c192_i32 : BitVec 32 := 192#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_156 : BitVec 32 := 0#32
  ![0, 192, v200.toNat, 0]
def k0_off3 (d0 : Dev nD) (c0_i32_137 : BitVec 32) : Fin 4 → Nat :=
  let c0_i32_164 : BitVec 32 := 0#32
  let c384_i32 : BitVec 32 := 384#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_168 : BitVec 32 := 0#32
  ![0, 384, v200.toNat, 0]
def k0_off4 (d0 : Dev nD) (c0_i32_137 : BitVec 32) : Fin 4 → Nat :=
  let c0_i32_176 : BitVec 32 := 0#32
  let c576_i32 : BitVec 32 := 576#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_181 : BitVec 32 := 0#32
  ![0, 576, v200.toNat, 0]
def k0_off5 (d0 : Dev nD) (c0_i32_137 : BitVec 32) : Fin 4 → Nat :=
  let c0_i32_189 : BitVec 32 := 0#32
  let c768_i32 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_193 : BitVec 32 := 0#32
  ![0, 768, v200.toNat, 0]
def k0_off6 (d0 : Dev nD) (c0_i32_137 : BitVec 32) : Fin 4 → Nat :=
  let c0_i32_201 : BitVec 32 := 0#32
  let c960_i32 : BitVec 32 := 960#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_205 : BitVec 32 := 0#32
  ![0, 960, v200.toNat, 0]
def k0_off7 (d0 : Dev nD) (c0_i32_137 : BitVec 32) : Fin 4 → Nat :=
  let c0_i32_213 : BitVec 32 := 0#32
  let c1152_i32 : BitVec 32 := 1152#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_218 : BitVec 32 := 0#32
  ![0, 1152, v200.toNat, 0]
def k0_off8 (d0 : Dev nD) (c0_i32_137 : BitVec 32) : Fin 4 → Nat :=
  let c0_i32_226 : BitVec 32 := 0#32
  let c1344_i32 : BitVec 32 := 1344#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_230 : BitVec 32 := 0#32
  ![0, 1344, v200.toNat, 0]
def k0_off9 (d0 : Dev nD) (c0_i32_137 : BitVec 32) : Fin 4 → Nat :=
  let c0_i32_238 : BitVec 32 := 0#32
  let c1536_i32 : BitVec 32 := 1536#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_242 : BitVec 32 := 0#32
  ![0, 1536, v200.toNat, 0]
def k0_off10 (d0 : Dev nD) (c0_i32_137 : BitVec 32) : Fin 4 → Nat :=
  let c0_i32_250 : BitVec 32 := 0#32
  let c1728_i32 : BitVec 32 := 1728#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_255 : BitVec 32 := 0#32
  ![0, 1728, v200.toNat, 0]
def k0_off11 (d0 : Dev nD) (c0_i32_137 : BitVec 32) : Fin 4 → Nat :=
  let c0_i32_263 : BitVec 32 := 0#32
  let c1920_i32 : BitVec 32 := 1920#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_267 : BitVec 32 := 0#32
  ![0, 1920, v200.toNat, 0]
def k0_off12 (d0 : Dev nD) (c0_i32_137 : BitVec 32) : Fin 4 → Nat :=
  let c0_i32_275 : BitVec 32 := 0#32
  let c2112_i32 : BitVec 32 := 2112#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_279 : BitVec 32 := 0#32
  ![0, 2112, v200.toNat, 0]
def k0_off13 (d0 : Dev nD) (c0_i32_137 : BitVec 32) : Fin 4 → Nat :=
  let c0_i32_287 : BitVec 32 := 0#32
  let c2304_i32 : BitVec 32 := 2304#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_292 : BitVec 32 := 0#32
  ![0, 2304, v200.toNat, 0]
def k0_off14 (d0 : Dev nD) (c0_i32_137 : BitVec 32) : Fin 4 → Nat :=
  let c0_i32_300 : BitVec 32 := 0#32
  let c2496_i32 : BitVec 32 := 2496#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_304 : BitVec 32 := 0#32
  ![0, 2496, v200.toNat, 0]
def k0_off15 (d0 : Dev nD) (c0_i32_137 : BitVec 32) : Fin 4 → Nat :=
  let c0_i32_312 : BitVec 32 := 0#32
  let c2688_i32 : BitVec 32 := 2688#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_316 : BitVec 32 := 0#32
  ![0, 2688, v200.toNat, 0]
def k0_off16 (d0 : Dev nD) (c0_i32_137 : BitVec 32) : Fin 4 → Nat :=
  let c0_i32_324 : BitVec 32 := 0#32
  let c2880_i32 : BitVec 32 := 2880#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_329 : BitVec 32 := 0#32
  ![0, 2880, v200.toNat, 0]
def k0_off17 (d0 : Dev nD) (c0_i32_137 : BitVec 32) : Fin 4 → Nat :=
  let c0_i32_337 : BitVec 32 := 0#32
  let c3072_i32 : BitVec 32 := 3072#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_341 : BitVec 32 := 0#32
  ![0, 3072, v200.toNat, 0]
def k0_off18 (d0 : Dev nD) (c0_i32_137 : BitVec 32) : Fin 4 → Nat :=
  let c0_i32_349 : BitVec 32 := 0#32
  let c3264_i32 : BitVec 32 := 3264#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_353 : BitVec 32 := 0#32
  ![0, 3264, v200.toNat, 0]
def k0_off19 (d0 : Dev nD) (c0_i32_137 : BitVec 32) : Fin 4 → Nat :=
  let c0_i32_361 : BitVec 32 := 0#32
  let c3456_i32 : BitVec 32 := 3456#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_366 : BitVec 32 := 0#32
  ![0, 3456, v200.toNat, 0]
def k0_off20 (d0 : Dev nD) (c0_i32_137 : BitVec 32) : Fin 4 → Nat :=
  let c0_i32_374 : BitVec 32 := 0#32
  let c3648_i32 : BitVec 32 := 3648#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_378 : BitVec 32 := 0#32
  ![0, 3648, v200.toNat, 0]
def k0_off21 (d0 : Dev nD) (c0_i32_137 : BitVec 32) : Fin 4 → Nat :=
  let c0_i32_386 : BitVec 32 := 0#32
  let c3840_i32 : BitVec 32 := 3840#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_390 : BitVec 32 := 0#32
  ![0, 3840, v200.toNat, 0]
def k0_off22 (d0 : Dev nD) (c0_i32_137 : BitVec 32) : Fin 4 → Nat :=
  let c0_i32_398 : BitVec 32 := 0#32
  let c4032_i32 : BitVec 32 := 4032#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_403 : BitVec 32 := 0#32
  ![0, 4032, v200.toNat, 0]
def k0_off23 (d0 : Dev nD) (c0_i32_137 : BitVec 32) : Fin 4 → Nat :=
  let c0_i32_424 : BitVec 32 := 0#32
  let c64_i32_428 : BitVec 32 := 64#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_429 : BitVec 32 := 0#32
  ![0, 64, v200.toNat, 0]
def k0_off24 (d0 : Dev nD) (c0_i32_137 : BitVec 32) : Fin 4 → Nat :=
  let c0_i32_437 : BitVec 32 := 0#32
  let c128_i32_442 : BitVec 32 := 128#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_443 : BitVec 32 := 0#32
  ![0, 128, v200.toNat, 0]
def k0_off25 (d0 : Dev nD) (c0_i32_137 : BitVec 32) : Fin 4 → Nat :=
  let c0_i32_451 : BitVec 32 := 0#32
  let c320_i32_455 : BitVec 32 := 320#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_456 : BitVec 32 := 0#32
  ![0, 320, v200.toNat, 0]
def k0_off26 (d0 : Dev nD) (c0_i32_137 : BitVec 32) : Fin 4 → Nat :=
  let c0_i32_464 : BitVec 32 := 0#32
  let c512_i32_468 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_469 : BitVec 32 := 0#32
  ![0, 512, v200.toNat, 0]
def k0_off27 (d0 : Dev nD) (c0_i32_137 : BitVec 32) : Fin 4 → Nat :=
  let c0_i32_477 : BitVec 32 := 0#32
  let c704_i32_482 : BitVec 32 := 704#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_483 : BitVec 32 := 0#32
  ![0, 704, v200.toNat, 0]
def k0_off28 (d0 : Dev nD) (c0_i32_137 : BitVec 32) : Fin 4 → Nat :=
  let c0_i32_491 : BitVec 32 := 0#32
  let c896_i32_495 : BitVec 32 := 896#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_496 : BitVec 32 := 0#32
  ![0, 896, v200.toNat, 0]
def k0_off29 (d0 : Dev nD) (c0_i32_137 : BitVec 32) : Fin 4 → Nat :=
  let c0_i32_504 : BitVec 32 := 0#32
  let c1088_i32_508 : BitVec 32 := 1088#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_509 : BitVec 32 := 0#32
  ![0, 1088, v200.toNat, 0]
def k0_off30 (d0 : Dev nD) (c0_i32_137 : BitVec 32) : Fin 4 → Nat :=
  let c0_i32_517 : BitVec 32 := 0#32
  let c1280_i32_522 : BitVec 32 := 1280#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_523 : BitVec 32 := 0#32
  ![0, 1280, v200.toNat, 0]
def k0_off31 (d0 : Dev nD) (c0_i32_137 : BitVec 32) : Fin 4 → Nat :=
  let c0_i32_531 : BitVec 32 := 0#32
  let c1472_i32_535 : BitVec 32 := 1472#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_536 : BitVec 32 := 0#32
  ![0, 1472, v200.toNat, 0]
def k0_off32 (d0 : Dev nD) (c0_i32_137 : BitVec 32) : Fin 4 → Nat :=
  let c0_i32_544 : BitVec 32 := 0#32
  let c1664_i32_548 : BitVec 32 := 1664#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_549 : BitVec 32 := 0#32
  ![0, 1664, v200.toNat, 0]
def k0_off33 (d0 : Dev nD) (c0_i32_137 : BitVec 32) : Fin 4 → Nat :=
  let c0_i32_557 : BitVec 32 := 0#32
  let c1856_i32_562 : BitVec 32 := 1856#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_563 : BitVec 32 := 0#32
  ![0, 1856, v200.toNat, 0]
def k0_off34 (d0 : Dev nD) (c0_i32_137 : BitVec 32) : Fin 4 → Nat :=
  let c0_i32_571 : BitVec 32 := 0#32
  let c2048_i32_575 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_576 : BitVec 32 := 0#32
  ![0, 2048, v200.toNat, 0]
def k0_off35 (d0 : Dev nD) (c0_i32_137 : BitVec 32) : Fin 4 → Nat :=
  let c0_i32_584 : BitVec 32 := 0#32
  let c2240_i32_588 : BitVec 32 := 2240#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_589 : BitVec 32 := 0#32
  ![0, 2240, v200.toNat, 0]
def k0_off36 (d0 : Dev nD) (c0_i32_137 : BitVec 32) : Fin 4 → Nat :=
  let c0_i32_597 : BitVec 32 := 0#32
  let c2432_i32 : BitVec 32 := 2432#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_602 : BitVec 32 := 0#32
  ![0, 2432, v200.toNat, 0]
def k0_off37 (d0 : Dev nD) (c0_i32_137 : BitVec 32) : Fin 4 → Nat :=
  let c0_i32_610 : BitVec 32 := 0#32
  let c2624_i32 : BitVec 32 := 2624#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_614 : BitVec 32 := 0#32
  ![0, 2624, v200.toNat, 0]
def k0_off38 (d0 : Dev nD) (c0_i32_137 : BitVec 32) : Fin 4 → Nat :=
  let c0_i32_622 : BitVec 32 := 0#32
  let c2816_i32 : BitVec 32 := 2816#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_627 : BitVec 32 := 0#32
  ![0, 2816, v200.toNat, 0]
def k0_off39 (d0 : Dev nD) (c0_i32_137 : BitVec 32) : Fin 4 → Nat :=
  let c0_i32_635 : BitVec 32 := 0#32
  let c3008_i32 : BitVec 32 := 3008#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_640 : BitVec 32 := 0#32
  ![0, 3008, v200.toNat, 0]
def k0_off40 (d0 : Dev nD) (c0_i32_137 : BitVec 32) : Fin 4 → Nat :=
  let c0_i32_648 : BitVec 32 := 0#32
  let c3200_i32 : BitVec 32 := 3200#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_652 : BitVec 32 := 0#32
  ![0, 3200, v200.toNat, 0]
def k0_off41 (d0 : Dev nD) (c0_i32_137 : BitVec 32) : Fin 4 → Nat :=
  let c0_i32_660 : BitVec 32 := 0#32
  let c3392_i32 : BitVec 32 := 3392#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_665 : BitVec 32 := 0#32
  ![0, 3392, v200.toNat, 0]
def k0_off42 (d0 : Dev nD) (c0_i32_137 : BitVec 32) : Fin 4 → Nat :=
  let c0_i32_673 : BitVec 32 := 0#32
  let c3584_i32 : BitVec 32 := 3584#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_678 : BitVec 32 := 0#32
  ![0, 3584, v200.toNat, 0]
def k0_off43 (d0 : Dev nD) (c0_i32_137 : BitVec 32) : Fin 4 → Nat :=
  let c0_i32_686 : BitVec 32 := 0#32
  let c3776_i32 : BitVec 32 := 3776#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_690 : BitVec 32 := 0#32
  ![0, 3776, v200.toNat, 0]
def k0_off44 (d0 : Dev nD) (c0_i32_137 : BitVec 32) : Fin 4 → Nat :=
  let c0_i32_698 : BitVec 32 := 0#32
  let c3968_i32 : BitVec 32 := 3968#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_703 : BitVec 32 := 0#32
  ![0, 3968, v200.toNat, 0]
def k0_off45 (d0 : Dev nD) (c0_i32_137 : BitVec 32) : Fin 4 → Nat :=
  let c0_i32_752 : BitVec 32 := 0#32
  let c256_i32_757 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_758 : BitVec 32 := 0#32
  ![0, 256, v200.toNat, 0]
def k0_off46 (d0 : Dev nD) (c0_i32_137 : BitVec 32) : Fin 4 → Nat :=
  let c0_i32_766 : BitVec 32 := 0#32
  let c448_i32_770 : BitVec 32 := 448#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_771 : BitVec 32 := 0#32
  ![0, 448, v200.toNat, 0]
def k0_off47 (d0 : Dev nD) (c0_i32_137 : BitVec 32) : Fin 4 → Nat :=
  let c0_i32_779 : BitVec 32 := 0#32
  let c640_i32_784 : BitVec 32 := 640#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_785 : BitVec 32 := 0#32
  ![0, 640, v200.toNat, 0]
def k0_off48 (d0 : Dev nD) (c0_i32_137 : BitVec 32) : Fin 4 → Nat :=
  let c0_i32_793 : BitVec 32 := 0#32
  let c832_i32_798 : BitVec 32 := 832#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_799 : BitVec 32 := 0#32
  ![0, 832, v200.toNat, 0]
def k0_off49 (d0 : Dev nD) (c0_i32_137 : BitVec 32) : Fin 4 → Nat :=
  let c0_i32_807 : BitVec 32 := 0#32
  let c1024_i32_811 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_812 : BitVec 32 := 0#32
  ![0, 1024, v200.toNat, 0]
def k0_off50 (d0 : Dev nD) (c0_i32_137 : BitVec 32) : Fin 4 → Nat :=
  let c0_i32_820 : BitVec 32 := 0#32
  let c1216_i32_825 : BitVec 32 := 1216#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_826 : BitVec 32 := 0#32
  ![0, 1216, v200.toNat, 0]
def k0_off51 (d0 : Dev nD) (c0_i32_137 : BitVec 32) : Fin 4 → Nat :=
  let c0_i32_834 : BitVec 32 := 0#32
  let c1408_i32_839 : BitVec 32 := 1408#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_840 : BitVec 32 := 0#32
  ![0, 1408, v200.toNat, 0]
def k0_off52 (d0 : Dev nD) (c0_i32_137 : BitVec 32) : Fin 4 → Nat :=
  let c0_i32_848 : BitVec 32 := 0#32
  let c1600_i32_852 : BitVec 32 := 1600#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_853 : BitVec 32 := 0#32
  ![0, 1600, v200.toNat, 0]
def k0_off53 (d0 : Dev nD) (c0_i32_137 : BitVec 32) : Fin 4 → Nat :=
  let c0_i32_861 : BitVec 32 := 0#32
  let c1792_i32_866 : BitVec 32 := 1792#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_867 : BitVec 32 := 0#32
  ![0, 1792, v200.toNat, 0]
def k0_off54 (d0 : Dev nD) (c0_i32_137 : BitVec 32) : Fin 4 → Nat :=
  let c0_i32_875 : BitVec 32 := 0#32
  let c1984_i32_880 : BitVec 32 := 1984#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_881 : BitVec 32 := 0#32
  ![0, 1984, v200.toNat, 0]
def k0_off55 (d0 : Dev nD) (c0_i32_137 : BitVec 32) : Fin 4 → Nat :=
  let c0_i32_889 : BitVec 32 := 0#32
  let c2176_i32_893 : BitVec 32 := 2176#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_894 : BitVec 32 := 0#32
  ![0, 2176, v200.toNat, 0]
def k0_off56 (d0 : Dev nD) (c0_i32_137 : BitVec 32) : Fin 4 → Nat :=
  let c0_i32_902 : BitVec 32 := 0#32
  let c2368_i32_907 : BitVec 32 := 2368#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_908 : BitVec 32 := 0#32
  ![0, 2368, v200.toNat, 0]
def k0_off57 (d0 : Dev nD) (c0_i32_137 : BitVec 32) : Fin 4 → Nat :=
  let c0_i32_916 : BitVec 32 := 0#32
  let c2560_i32_921 : BitVec 32 := 2560#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_922 : BitVec 32 := 0#32
  ![0, 2560, v200.toNat, 0]
def k0_off58 (d0 : Dev nD) (c0_i32_137 : BitVec 32) : Fin 4 → Nat :=
  let c0_i32_930 : BitVec 32 := 0#32
  let c2752_i32_934 : BitVec 32 := 2752#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_935 : BitVec 32 := 0#32
  ![0, 2752, v200.toNat, 0]
def k0_off59 (d0 : Dev nD) (c0_i32_137 : BitVec 32) : Fin 4 → Nat :=
  let c0_i32_943 : BitVec 32 := 0#32
  let c2944_i32_948 : BitVec 32 := 2944#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_949 : BitVec 32 := 0#32
  ![0, 2944, v200.toNat, 0]
def k0_off60 (d0 : Dev nD) (c0_i32_137 : BitVec 32) : Fin 4 → Nat :=
  let c0_i32_957 : BitVec 32 := 0#32
  let c3136_i32_962 : BitVec 32 := 3136#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_963 : BitVec 32 := 0#32
  ![0, 3136, v200.toNat, 0]
def k0_off61 (d0 : Dev nD) (c0_i32_137 : BitVec 32) : Fin 4 → Nat :=
  let c0_i32_971 : BitVec 32 := 0#32
  let c3328_i32_975 : BitVec 32 := 3328#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_976 : BitVec 32 := 0#32
  ![0, 3328, v200.toNat, 0]
def k0_off62 (d0 : Dev nD) (c0_i32_137 : BitVec 32) : Fin 4 → Nat :=
  let c0_i32_984 : BitVec 32 := 0#32
  let c3520_i32_988 : BitVec 32 := 3520#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_989 : BitVec 32 := 0#32
  ![0, 3520, v200.toNat, 0]
def k0_off63 (d0 : Dev nD) (c0_i32_137 : BitVec 32) : Fin 4 → Nat :=
  let c0_i32_997 : BitVec 32 := 0#32
  let c3712_i32_1001 : BitVec 32 := 3712#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_1002 : BitVec 32 := 0#32
  ![0, 3712, v200.toNat, 0]
def k0_off64 (d0 : Dev nD) (c0_i32_137 : BitVec 32) : Fin 4 → Nat :=
  let c0_i32_1010 : BitVec 32 := 0#32
  let c3904_i32_1014 : BitVec 32 := 3904#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v200 : BitVec 32 := Scalar.addi v3 c0_i32_137
  let c0_i32_1015 : BitVec 32 := 0#32
  ![0, 3904, v200.toNat, 0]
def k0_off65 (d0 : Dev nD) (c1_i32_15608 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13851 : BitVec 32 := Scalar.addi v2 c1_i32_15608
  let c16_i32_15609 : BitVec 32 := 16#32
  let c0_i32_15610 : BitVec 32 := 0#32
  let v13852 : BitVec 1 := Scalar.cmpi .eq c16_i32_15609 c0_i32_15610
  let c1_i32_15611 : BitVec 32 := 1#32
  let v13853 : BitVec 32 := Scalar.select v13852 c1_i32_15611 c16_i32_15609
  let v13854 : BitVec 32 := Scalar.remsi v13851 v13853
  let c0_i32_15613 : BitVec 32 := 0#32
  let v13856 : BitVec 1 := Scalar.cmpi .slt v13854 c0_i32_15613
  let c0_i32_15614 : BitVec 32 := 0#32
  let v13857 : BitVec 1 := Scalar.cmpi .slt v13853 c0_i32_15614
  let v13858 : BitVec 1 := Scalar.xori v13856 v13857
  let c0_i32_15612 : BitVec 32 := 0#32
  let v13855 : BitVec 1 := Scalar.cmpi .ne v13854 c0_i32_15612
  let v13859 : BitVec 1 := Scalar.andi v13858 v13855
  let v13860 : BitVec 32 := Scalar.addi v13854 v13853
  let v13861 : BitVec 32 := Scalar.select v13859 v13860 v13854
  let c16_i32_15615 : BitVec 32 := 16#32
  let v13862 : BitVec 32 := Scalar.muli v13861 c16_i32_15615
  let c0_i32_15623 : BitVec 32 := 0#32
  ![v13862.toNat, 0]
def k0_dev16 (d0 : Dev nD) : Nat :=
  let c0_i32_15620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_15608 : BitVec 32 := 1#32
  let v13851 : BitVec 32 := Scalar.addi v2 c1_i32_15608
  let c16_i32_15609 : BitVec 32 := 16#32
  let c0_i32_15610 : BitVec 32 := 0#32
  let v13852 : BitVec 1 := Scalar.cmpi .eq c16_i32_15609 c0_i32_15610
  let c1_i32_15611 : BitVec 32 := 1#32
  let v13853 : BitVec 32 := Scalar.select v13852 c1_i32_15611 c16_i32_15609
  let v13854 : BitVec 32 := Scalar.remsi v13851 v13853
  let c0_i32_15613 : BitVec 32 := 0#32
  let v13856 : BitVec 1 := Scalar.cmpi .slt v13854 c0_i32_15613
  let c0_i32_15614 : BitVec 32 := 0#32
  let v13857 : BitVec 1 := Scalar.cmpi .slt v13853 c0_i32_15614
  let v13858 : BitVec 1 := Scalar.xori v13856 v13857
  let c0_i32_15612 : BitVec 32 := 0#32
  let v13855 : BitVec 1 := Scalar.cmpi .ne v13854 c0_i32_15612
  let v13859 : BitVec 1 := Scalar.andi v13858 v13855
  let v13860 : BitVec 32 := Scalar.addi v13854 v13853
  let v13861 : BitVec 32 := Scalar.select v13859 v13860 v13854
  let c1_i32_15619 : BitVec 32 := 1#32
  let v13863 : BitVec 32 := Scalar.muli v13861 c1_i32_15619
  let v13864 : BitVec 32 := Scalar.addi c0_i32_15620 v13863
  v13864.toNat
def k0_dev17 (d0 : Dev nD) : Nat :=
  let c0_i32_15636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_15624 : BitVec 32 := 2#32
  let v13872 : BitVec 32 := Scalar.addi v2 c2_i32_15624
  let c16_i32_15625 : BitVec 32 := 16#32
  let c0_i32_15626 : BitVec 32 := 0#32
  let v13873 : BitVec 1 := Scalar.cmpi .eq c16_i32_15625 c0_i32_15626
  let c1_i32_15627 : BitVec 32 := 1#32
  let v13874 : BitVec 32 := Scalar.select v13873 c1_i32_15627 c16_i32_15625
  let v13875 : BitVec 32 := Scalar.remsi v13872 v13874
  let c0_i32_15629 : BitVec 32 := 0#32
  let v13877 : BitVec 1 := Scalar.cmpi .slt v13875 c0_i32_15629
  let c0_i32_15630 : BitVec 32 := 0#32
  let v13878 : BitVec 1 := Scalar.cmpi .slt v13874 c0_i32_15630
  let v13879 : BitVec 1 := Scalar.xori v13877 v13878
  let c0_i32_15628 : BitVec 32 := 0#32
  let v13876 : BitVec 1 := Scalar.cmpi .ne v13875 c0_i32_15628
  let v13880 : BitVec 1 := Scalar.andi v13879 v13876
  let v13881 : BitVec 32 := Scalar.addi v13875 v13874
  let v13882 : BitVec 32 := Scalar.select v13880 v13881 v13875
  let c1_i32_15635 : BitVec 32 := 1#32
  let v13884 : BitVec 32 := Scalar.muli v13882 c1_i32_15635
  let v13885 : BitVec 32 := Scalar.addi c0_i32_15636 v13884
  v13885.toNat
def k0_dev18 (d0 : Dev nD) : Nat :=
  let c0_i32_15652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_15640 : BitVec 32 := 3#32
  let v13893 : BitVec 32 := Scalar.addi v2 c3_i32_15640
  let c16_i32_15641 : BitVec 32 := 16#32
  let c0_i32_15642 : BitVec 32 := 0#32
  let v13894 : BitVec 1 := Scalar.cmpi .eq c16_i32_15641 c0_i32_15642
  let c1_i32_15643 : BitVec 32 := 1#32
  let v13895 : BitVec 32 := Scalar.select v13894 c1_i32_15643 c16_i32_15641
  let v13896 : BitVec 32 := Scalar.remsi v13893 v13895
  let c0_i32_15645 : BitVec 32 := 0#32
  let v13898 : BitVec 1 := Scalar.cmpi .slt v13896 c0_i32_15645
  let c0_i32_15646 : BitVec 32 := 0#32
  let v13899 : BitVec 1 := Scalar.cmpi .slt v13895 c0_i32_15646
  let v13900 : BitVec 1 := Scalar.xori v13898 v13899
  let c0_i32_15644 : BitVec 32 := 0#32
  let v13897 : BitVec 1 := Scalar.cmpi .ne v13896 c0_i32_15644
  let v13901 : BitVec 1 := Scalar.andi v13900 v13897
  let v13902 : BitVec 32 := Scalar.addi v13896 v13895
  let v13903 : BitVec 32 := Scalar.select v13901 v13902 v13896
  let c1_i32_15651 : BitVec 32 := 1#32
  let v13905 : BitVec 32 := Scalar.muli v13903 c1_i32_15651
  let v13906 : BitVec 32 := Scalar.addi c0_i32_15652 v13905
  v13906.toNat
def k0_dev19 (d0 : Dev nD) : Nat :=
  let c0_i32_15668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_15656 : BitVec 32 := 4#32
  let v13914 : BitVec 32 := Scalar.addi v2 c4_i32_15656
  let c16_i32_15657 : BitVec 32 := 16#32
  let c0_i32_15658 : BitVec 32 := 0#32
  let v13915 : BitVec 1 := Scalar.cmpi .eq c16_i32_15657 c0_i32_15658
  let c1_i32_15659 : BitVec 32 := 1#32
  let v13916 : BitVec 32 := Scalar.select v13915 c1_i32_15659 c16_i32_15657
  let v13917 : BitVec 32 := Scalar.remsi v13914 v13916
  let c0_i32_15661 : BitVec 32 := 0#32
  let v13919 : BitVec 1 := Scalar.cmpi .slt v13917 c0_i32_15661
  let c0_i32_15662 : BitVec 32 := 0#32
  let v13920 : BitVec 1 := Scalar.cmpi .slt v13916 c0_i32_15662
  let v13921 : BitVec 1 := Scalar.xori v13919 v13920
  let c0_i32_15660 : BitVec 32 := 0#32
  let v13918 : BitVec 1 := Scalar.cmpi .ne v13917 c0_i32_15660
  let v13922 : BitVec 1 := Scalar.andi v13921 v13918
  let v13923 : BitVec 32 := Scalar.addi v13917 v13916
  let v13924 : BitVec 32 := Scalar.select v13922 v13923 v13917
  let c1_i32_15667 : BitVec 32 := 1#32
  let v13926 : BitVec 32 := Scalar.muli v13924 c1_i32_15667
  let v13927 : BitVec 32 := Scalar.addi c0_i32_15668 v13926
  v13927.toNat
def k0_dev20 (d0 : Dev nD) : Nat :=
  let c0_i32_15684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_15672 : BitVec 32 := 5#32
  let v13935 : BitVec 32 := Scalar.addi v2 c5_i32_15672
  let c16_i32_15673 : BitVec 32 := 16#32
  let c0_i32_15674 : BitVec 32 := 0#32
  let v13936 : BitVec 1 := Scalar.cmpi .eq c16_i32_15673 c0_i32_15674
  let c1_i32_15675 : BitVec 32 := 1#32
  let v13937 : BitVec 32 := Scalar.select v13936 c1_i32_15675 c16_i32_15673
  let v13938 : BitVec 32 := Scalar.remsi v13935 v13937
  let c0_i32_15677 : BitVec 32 := 0#32
  let v13940 : BitVec 1 := Scalar.cmpi .slt v13938 c0_i32_15677
  let c0_i32_15678 : BitVec 32 := 0#32
  let v13941 : BitVec 1 := Scalar.cmpi .slt v13937 c0_i32_15678
  let v13942 : BitVec 1 := Scalar.xori v13940 v13941
  let c0_i32_15676 : BitVec 32 := 0#32
  let v13939 : BitVec 1 := Scalar.cmpi .ne v13938 c0_i32_15676
  let v13943 : BitVec 1 := Scalar.andi v13942 v13939
  let v13944 : BitVec 32 := Scalar.addi v13938 v13937
  let v13945 : BitVec 32 := Scalar.select v13943 v13944 v13938
  let c1_i32_15683 : BitVec 32 := 1#32
  let v13947 : BitVec 32 := Scalar.muli v13945 c1_i32_15683
  let v13948 : BitVec 32 := Scalar.addi c0_i32_15684 v13947
  v13948.toNat
def k0_dev21 (d0 : Dev nD) : Nat :=
  let c0_i32_15700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_15688 : BitVec 32 := 6#32
  let v13956 : BitVec 32 := Scalar.addi v2 c6_i32_15688
  let c16_i32_15689 : BitVec 32 := 16#32
  let c0_i32_15690 : BitVec 32 := 0#32
  let v13957 : BitVec 1 := Scalar.cmpi .eq c16_i32_15689 c0_i32_15690
  let c1_i32_15691 : BitVec 32 := 1#32
  let v13958 : BitVec 32 := Scalar.select v13957 c1_i32_15691 c16_i32_15689
  let v13959 : BitVec 32 := Scalar.remsi v13956 v13958
  let c0_i32_15693 : BitVec 32 := 0#32
  let v13961 : BitVec 1 := Scalar.cmpi .slt v13959 c0_i32_15693
  let c0_i32_15694 : BitVec 32 := 0#32
  let v13962 : BitVec 1 := Scalar.cmpi .slt v13958 c0_i32_15694
  let v13963 : BitVec 1 := Scalar.xori v13961 v13962
  let c0_i32_15692 : BitVec 32 := 0#32
  let v13960 : BitVec 1 := Scalar.cmpi .ne v13959 c0_i32_15692
  let v13964 : BitVec 1 := Scalar.andi v13963 v13960
  let v13965 : BitVec 32 := Scalar.addi v13959 v13958
  let v13966 : BitVec 32 := Scalar.select v13964 v13965 v13959
  let c1_i32_15699 : BitVec 32 := 1#32
  let v13968 : BitVec 32 := Scalar.muli v13966 c1_i32_15699
  let v13969 : BitVec 32 := Scalar.addi c0_i32_15700 v13968
  v13969.toNat
def k0_dev22 (d0 : Dev nD) : Nat :=
  let c0_i32_15716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_15704 : BitVec 32 := 7#32
  let v13977 : BitVec 32 := Scalar.addi v2 c7_i32_15704
  let c16_i32_15705 : BitVec 32 := 16#32
  let c0_i32_15706 : BitVec 32 := 0#32
  let v13978 : BitVec 1 := Scalar.cmpi .eq c16_i32_15705 c0_i32_15706
  let c1_i32_15707 : BitVec 32 := 1#32
  let v13979 : BitVec 32 := Scalar.select v13978 c1_i32_15707 c16_i32_15705
  let v13980 : BitVec 32 := Scalar.remsi v13977 v13979
  let c0_i32_15709 : BitVec 32 := 0#32
  let v13982 : BitVec 1 := Scalar.cmpi .slt v13980 c0_i32_15709
  let c0_i32_15710 : BitVec 32 := 0#32
  let v13983 : BitVec 1 := Scalar.cmpi .slt v13979 c0_i32_15710
  let v13984 : BitVec 1 := Scalar.xori v13982 v13983
  let c0_i32_15708 : BitVec 32 := 0#32
  let v13981 : BitVec 1 := Scalar.cmpi .ne v13980 c0_i32_15708
  let v13985 : BitVec 1 := Scalar.andi v13984 v13981
  let v13986 : BitVec 32 := Scalar.addi v13980 v13979
  let v13987 : BitVec 32 := Scalar.select v13985 v13986 v13980
  let c1_i32_15715 : BitVec 32 := 1#32
  let v13989 : BitVec 32 := Scalar.muli v13987 c1_i32_15715
  let v13990 : BitVec 32 := Scalar.addi c0_i32_15716 v13989
  v13990.toNat
def k0_dev23 (d0 : Dev nD) : Nat :=
  let c0_i32_15732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_15720 : BitVec 32 := 8#32
  let v13998 : BitVec 32 := Scalar.addi v2 c8_i32_15720
  let c16_i32_15721 : BitVec 32 := 16#32
  let c0_i32_15722 : BitVec 32 := 0#32
  let v13999 : BitVec 1 := Scalar.cmpi .eq c16_i32_15721 c0_i32_15722
  let c1_i32_15723 : BitVec 32 := 1#32
  let v14000 : BitVec 32 := Scalar.select v13999 c1_i32_15723 c16_i32_15721
  let v14001 : BitVec 32 := Scalar.remsi v13998 v14000
  let c0_i32_15725 : BitVec 32 := 0#32
  let v14003 : BitVec 1 := Scalar.cmpi .slt v14001 c0_i32_15725
  let c0_i32_15726 : BitVec 32 := 0#32
  let v14004 : BitVec 1 := Scalar.cmpi .slt v14000 c0_i32_15726
  let v14005 : BitVec 1 := Scalar.xori v14003 v14004
  let c0_i32_15724 : BitVec 32 := 0#32
  let v14002 : BitVec 1 := Scalar.cmpi .ne v14001 c0_i32_15724
  let v14006 : BitVec 1 := Scalar.andi v14005 v14002
  let v14007 : BitVec 32 := Scalar.addi v14001 v14000
  let v14008 : BitVec 32 := Scalar.select v14006 v14007 v14001
  let c1_i32_15731 : BitVec 32 := 1#32
  let v14010 : BitVec 32 := Scalar.muli v14008 c1_i32_15731
  let v14011 : BitVec 32 := Scalar.addi c0_i32_15732 v14010
  v14011.toNat
def k0_dev24 (d0 : Dev nD) : Nat :=
  let c0_i32_15748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_15736 : BitVec 32 := 9#32
  let v14019 : BitVec 32 := Scalar.addi v2 c9_i32_15736
  let c16_i32_15737 : BitVec 32 := 16#32
  let c0_i32_15738 : BitVec 32 := 0#32
  let v14020 : BitVec 1 := Scalar.cmpi .eq c16_i32_15737 c0_i32_15738
  let c1_i32_15739 : BitVec 32 := 1#32
  let v14021 : BitVec 32 := Scalar.select v14020 c1_i32_15739 c16_i32_15737
  let v14022 : BitVec 32 := Scalar.remsi v14019 v14021
  let c0_i32_15741 : BitVec 32 := 0#32
  let v14024 : BitVec 1 := Scalar.cmpi .slt v14022 c0_i32_15741
  let c0_i32_15742 : BitVec 32 := 0#32
  let v14025 : BitVec 1 := Scalar.cmpi .slt v14021 c0_i32_15742
  let v14026 : BitVec 1 := Scalar.xori v14024 v14025
  let c0_i32_15740 : BitVec 32 := 0#32
  let v14023 : BitVec 1 := Scalar.cmpi .ne v14022 c0_i32_15740
  let v14027 : BitVec 1 := Scalar.andi v14026 v14023
  let v14028 : BitVec 32 := Scalar.addi v14022 v14021
  let v14029 : BitVec 32 := Scalar.select v14027 v14028 v14022
  let c1_i32_15747 : BitVec 32 := 1#32
  let v14031 : BitVec 32 := Scalar.muli v14029 c1_i32_15747
  let v14032 : BitVec 32 := Scalar.addi c0_i32_15748 v14031
  v14032.toNat
def k0_dev25 (d0 : Dev nD) : Nat :=
  let c0_i32_15764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_15752 : BitVec 32 := 10#32
  let v14040 : BitVec 32 := Scalar.addi v2 c10_i32_15752
  let c16_i32_15753 : BitVec 32 := 16#32
  let c0_i32_15754 : BitVec 32 := 0#32
  let v14041 : BitVec 1 := Scalar.cmpi .eq c16_i32_15753 c0_i32_15754
  let c1_i32_15755 : BitVec 32 := 1#32
  let v14042 : BitVec 32 := Scalar.select v14041 c1_i32_15755 c16_i32_15753
  let v14043 : BitVec 32 := Scalar.remsi v14040 v14042
  let c0_i32_15757 : BitVec 32 := 0#32
  let v14045 : BitVec 1 := Scalar.cmpi .slt v14043 c0_i32_15757
  let c0_i32_15758 : BitVec 32 := 0#32
  let v14046 : BitVec 1 := Scalar.cmpi .slt v14042 c0_i32_15758
  let v14047 : BitVec 1 := Scalar.xori v14045 v14046
  let c0_i32_15756 : BitVec 32 := 0#32
  let v14044 : BitVec 1 := Scalar.cmpi .ne v14043 c0_i32_15756
  let v14048 : BitVec 1 := Scalar.andi v14047 v14044
  let v14049 : BitVec 32 := Scalar.addi v14043 v14042
  let v14050 : BitVec 32 := Scalar.select v14048 v14049 v14043
  let c1_i32_15763 : BitVec 32 := 1#32
  let v14052 : BitVec 32 := Scalar.muli v14050 c1_i32_15763
  let v14053 : BitVec 32 := Scalar.addi c0_i32_15764 v14052
  v14053.toNat
def k0_dev26 (d0 : Dev nD) : Nat :=
  let c0_i32_15780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_15768 : BitVec 32 := 11#32
  let v14061 : BitVec 32 := Scalar.addi v2 c11_i32_15768
  let c16_i32_15769 : BitVec 32 := 16#32
  let c0_i32_15770 : BitVec 32 := 0#32
  let v14062 : BitVec 1 := Scalar.cmpi .eq c16_i32_15769 c0_i32_15770
  let c1_i32_15771 : BitVec 32 := 1#32
  let v14063 : BitVec 32 := Scalar.select v14062 c1_i32_15771 c16_i32_15769
  let v14064 : BitVec 32 := Scalar.remsi v14061 v14063
  let c0_i32_15773 : BitVec 32 := 0#32
  let v14066 : BitVec 1 := Scalar.cmpi .slt v14064 c0_i32_15773
  let c0_i32_15774 : BitVec 32 := 0#32
  let v14067 : BitVec 1 := Scalar.cmpi .slt v14063 c0_i32_15774
  let v14068 : BitVec 1 := Scalar.xori v14066 v14067
  let c0_i32_15772 : BitVec 32 := 0#32
  let v14065 : BitVec 1 := Scalar.cmpi .ne v14064 c0_i32_15772
  let v14069 : BitVec 1 := Scalar.andi v14068 v14065
  let v14070 : BitVec 32 := Scalar.addi v14064 v14063
  let v14071 : BitVec 32 := Scalar.select v14069 v14070 v14064
  let c1_i32_15779 : BitVec 32 := 1#32
  let v14073 : BitVec 32 := Scalar.muli v14071 c1_i32_15779
  let v14074 : BitVec 32 := Scalar.addi c0_i32_15780 v14073
  v14074.toNat
def k0_dev27 (d0 : Dev nD) : Nat :=
  let c0_i32_15796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_15784 : BitVec 32 := 12#32
  let v14082 : BitVec 32 := Scalar.addi v2 c12_i32_15784
  let c16_i32_15785 : BitVec 32 := 16#32
  let c0_i32_15786 : BitVec 32 := 0#32
  let v14083 : BitVec 1 := Scalar.cmpi .eq c16_i32_15785 c0_i32_15786
  let c1_i32_15787 : BitVec 32 := 1#32
  let v14084 : BitVec 32 := Scalar.select v14083 c1_i32_15787 c16_i32_15785
  let v14085 : BitVec 32 := Scalar.remsi v14082 v14084
  let c0_i32_15789 : BitVec 32 := 0#32
  let v14087 : BitVec 1 := Scalar.cmpi .slt v14085 c0_i32_15789
  let c0_i32_15790 : BitVec 32 := 0#32
  let v14088 : BitVec 1 := Scalar.cmpi .slt v14084 c0_i32_15790
  let v14089 : BitVec 1 := Scalar.xori v14087 v14088
  let c0_i32_15788 : BitVec 32 := 0#32
  let v14086 : BitVec 1 := Scalar.cmpi .ne v14085 c0_i32_15788
  let v14090 : BitVec 1 := Scalar.andi v14089 v14086
  let v14091 : BitVec 32 := Scalar.addi v14085 v14084
  let v14092 : BitVec 32 := Scalar.select v14090 v14091 v14085
  let c1_i32_15795 : BitVec 32 := 1#32
  let v14094 : BitVec 32 := Scalar.muli v14092 c1_i32_15795
  let v14095 : BitVec 32 := Scalar.addi c0_i32_15796 v14094
  v14095.toNat
def k0_dev28 (d0 : Dev nD) : Nat :=
  let c0_i32_15812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_15800 : BitVec 32 := 13#32
  let v14103 : BitVec 32 := Scalar.addi v2 c13_i32_15800
  let c16_i32_15801 : BitVec 32 := 16#32
  let c0_i32_15802 : BitVec 32 := 0#32
  let v14104 : BitVec 1 := Scalar.cmpi .eq c16_i32_15801 c0_i32_15802
  let c1_i32_15803 : BitVec 32 := 1#32
  let v14105 : BitVec 32 := Scalar.select v14104 c1_i32_15803 c16_i32_15801
  let v14106 : BitVec 32 := Scalar.remsi v14103 v14105
  let c0_i32_15805 : BitVec 32 := 0#32
  let v14108 : BitVec 1 := Scalar.cmpi .slt v14106 c0_i32_15805
  let c0_i32_15806 : BitVec 32 := 0#32
  let v14109 : BitVec 1 := Scalar.cmpi .slt v14105 c0_i32_15806
  let v14110 : BitVec 1 := Scalar.xori v14108 v14109
  let c0_i32_15804 : BitVec 32 := 0#32
  let v14107 : BitVec 1 := Scalar.cmpi .ne v14106 c0_i32_15804
  let v14111 : BitVec 1 := Scalar.andi v14110 v14107
  let v14112 : BitVec 32 := Scalar.addi v14106 v14105
  let v14113 : BitVec 32 := Scalar.select v14111 v14112 v14106
  let c1_i32_15811 : BitVec 32 := 1#32
  let v14115 : BitVec 32 := Scalar.muli v14113 c1_i32_15811
  let v14116 : BitVec 32 := Scalar.addi c0_i32_15812 v14115
  v14116.toNat
def k0_dev29 (d0 : Dev nD) : Nat :=
  let c0_i32_15828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_15816 : BitVec 32 := 14#32
  let v14124 : BitVec 32 := Scalar.addi v2 c14_i32_15816
  let c16_i32_15817 : BitVec 32 := 16#32
  let c0_i32_15818 : BitVec 32 := 0#32
  let v14125 : BitVec 1 := Scalar.cmpi .eq c16_i32_15817 c0_i32_15818
  let c1_i32_15819 : BitVec 32 := 1#32
  let v14126 : BitVec 32 := Scalar.select v14125 c1_i32_15819 c16_i32_15817
  let v14127 : BitVec 32 := Scalar.remsi v14124 v14126
  let c0_i32_15821 : BitVec 32 := 0#32
  let v14129 : BitVec 1 := Scalar.cmpi .slt v14127 c0_i32_15821
  let c0_i32_15822 : BitVec 32 := 0#32
  let v14130 : BitVec 1 := Scalar.cmpi .slt v14126 c0_i32_15822
  let v14131 : BitVec 1 := Scalar.xori v14129 v14130
  let c0_i32_15820 : BitVec 32 := 0#32
  let v14128 : BitVec 1 := Scalar.cmpi .ne v14127 c0_i32_15820
  let v14132 : BitVec 1 := Scalar.andi v14131 v14128
  let v14133 : BitVec 32 := Scalar.addi v14127 v14126
  let v14134 : BitVec 32 := Scalar.select v14132 v14133 v14127
  let c1_i32_15827 : BitVec 32 := 1#32
  let v14136 : BitVec 32 := Scalar.muli v14134 c1_i32_15827
  let v14137 : BitVec 32 := Scalar.addi c0_i32_15828 v14136
  v14137.toNat
def k0_dev30 (d0 : Dev nD) : Nat :=
  let c0_i32_15844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_15832 : BitVec 32 := 15#32
  let v14145 : BitVec 32 := Scalar.addi v2 c15_i32_15832
  let c16_i32_15833 : BitVec 32 := 16#32
  let c0_i32_15834 : BitVec 32 := 0#32
  let v14146 : BitVec 1 := Scalar.cmpi .eq c16_i32_15833 c0_i32_15834
  let c1_i32_15835 : BitVec 32 := 1#32
  let v14147 : BitVec 32 := Scalar.select v14146 c1_i32_15835 c16_i32_15833
  let v14148 : BitVec 32 := Scalar.remsi v14145 v14147
  let c0_i32_15837 : BitVec 32 := 0#32
  let v14150 : BitVec 1 := Scalar.cmpi .slt v14148 c0_i32_15837
  let c0_i32_15838 : BitVec 32 := 0#32
  let v14151 : BitVec 1 := Scalar.cmpi .slt v14147 c0_i32_15838
  let v14152 : BitVec 1 := Scalar.xori v14150 v14151
  let c0_i32_15836 : BitVec 32 := 0#32
  let v14149 : BitVec 1 := Scalar.cmpi .ne v14148 c0_i32_15836
  let v14153 : BitVec 1 := Scalar.andi v14152 v14149
  let v14154 : BitVec 32 := Scalar.addi v14148 v14147
  let v14155 : BitVec 32 := Scalar.select v14153 v14154 v14148
  let c1_i32_15843 : BitVec 32 := 1#32
  let v14157 : BitVec 32 := Scalar.muli v14155 c1_i32_15843
  let v14158 : BitVec 32 := Scalar.addi c0_i32_15844 v14157
  v14158.toNat
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_15998 : BitVec 32 := 16#32
  let v14286 : BitVec 32 := Scalar.muli v2 c16_i32_15998
  let v14287 : Index := Scalar.indexCast v14286
  let c0_15999 : Index := 0#32
  ![v14287.toNat, 0]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_16007 : BitVec 32 := 16#32
  let v14299 : BitVec 32 := Scalar.muli v2 c16_i32_16007
  let c0_i32_16019 : BitVec 32 := 0#32
  ![v14299.toNat, 0]
def k0_dev31 (d0 : Dev nD) : Nat :=
  let c0_i32_16018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16008 : BitVec 32 := 1#32
  let v14300 : BitVec 32 := Scalar.addi v2 c1_i32_16008
  let c16_i32_16009 : BitVec 32 := 16#32
  let c0_i32_16010 : BitVec 32 := 0#32
  let v14301 : BitVec 1 := Scalar.cmpi .eq c16_i32_16009 c0_i32_16010
  let c1_i32_16011 : BitVec 32 := 1#32
  let v14302 : BitVec 32 := Scalar.select v14301 c1_i32_16011 c16_i32_16009
  let v14303 : BitVec 32 := Scalar.remsi v14300 v14302
  let c0_i32_16013 : BitVec 32 := 0#32
  let v14305 : BitVec 1 := Scalar.cmpi .slt v14303 c0_i32_16013
  let c0_i32_16014 : BitVec 32 := 0#32
  let v14306 : BitVec 1 := Scalar.cmpi .slt v14302 c0_i32_16014
  let v14307 : BitVec 1 := Scalar.xori v14305 v14306
  let c0_i32_16012 : BitVec 32 := 0#32
  let v14304 : BitVec 1 := Scalar.cmpi .ne v14303 c0_i32_16012
  let v14308 : BitVec 1 := Scalar.andi v14307 v14304
  let v14309 : BitVec 32 := Scalar.addi v14303 v14302
  let v14310 : BitVec 32 := Scalar.select v14308 v14309 v14303
  let c1_i32_16017 : BitVec 32 := 1#32
  let v14311 : BitVec 32 := Scalar.muli v14310 c1_i32_16017
  let v14312 : BitVec 32 := Scalar.addi c0_i32_16018 v14311
  v14312.toNat
def k0_dev32 (d0 : Dev nD) : Nat :=
  let c0_i32_16033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_16023 : BitVec 32 := 2#32
  let v14321 : BitVec 32 := Scalar.addi v2 c2_i32_16023
  let c16_i32_16024 : BitVec 32 := 16#32
  let c0_i32_16025 : BitVec 32 := 0#32
  let v14322 : BitVec 1 := Scalar.cmpi .eq c16_i32_16024 c0_i32_16025
  let c1_i32_16026 : BitVec 32 := 1#32
  let v14323 : BitVec 32 := Scalar.select v14322 c1_i32_16026 c16_i32_16024
  let v14324 : BitVec 32 := Scalar.remsi v14321 v14323
  let c0_i32_16028 : BitVec 32 := 0#32
  let v14326 : BitVec 1 := Scalar.cmpi .slt v14324 c0_i32_16028
  let c0_i32_16029 : BitVec 32 := 0#32
  let v14327 : BitVec 1 := Scalar.cmpi .slt v14323 c0_i32_16029
  let v14328 : BitVec 1 := Scalar.xori v14326 v14327
  let c0_i32_16027 : BitVec 32 := 0#32
  let v14325 : BitVec 1 := Scalar.cmpi .ne v14324 c0_i32_16027
  let v14329 : BitVec 1 := Scalar.andi v14328 v14325
  let v14330 : BitVec 32 := Scalar.addi v14324 v14323
  let v14331 : BitVec 32 := Scalar.select v14329 v14330 v14324
  let c1_i32_16032 : BitVec 32 := 1#32
  let v14332 : BitVec 32 := Scalar.muli v14331 c1_i32_16032
  let v14333 : BitVec 32 := Scalar.addi c0_i32_16033 v14332
  v14333.toNat
def k0_dev33 (d0 : Dev nD) : Nat :=
  let c0_i32_16048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16038 : BitVec 32 := 3#32
  let v14342 : BitVec 32 := Scalar.addi v2 c3_i32_16038
  let c16_i32_16039 : BitVec 32 := 16#32
  let c0_i32_16040 : BitVec 32 := 0#32
  let v14343 : BitVec 1 := Scalar.cmpi .eq c16_i32_16039 c0_i32_16040
  let c1_i32_16041 : BitVec 32 := 1#32
  let v14344 : BitVec 32 := Scalar.select v14343 c1_i32_16041 c16_i32_16039
  let v14345 : BitVec 32 := Scalar.remsi v14342 v14344
  let c0_i32_16043 : BitVec 32 := 0#32
  let v14347 : BitVec 1 := Scalar.cmpi .slt v14345 c0_i32_16043
  let c0_i32_16044 : BitVec 32 := 0#32
  let v14348 : BitVec 1 := Scalar.cmpi .slt v14344 c0_i32_16044
  let v14349 : BitVec 1 := Scalar.xori v14347 v14348
  let c0_i32_16042 : BitVec 32 := 0#32
  let v14346 : BitVec 1 := Scalar.cmpi .ne v14345 c0_i32_16042
  let v14350 : BitVec 1 := Scalar.andi v14349 v14346
  let v14351 : BitVec 32 := Scalar.addi v14345 v14344
  let v14352 : BitVec 32 := Scalar.select v14350 v14351 v14345
  let c1_i32_16047 : BitVec 32 := 1#32
  let v14353 : BitVec 32 := Scalar.muli v14352 c1_i32_16047
  let v14354 : BitVec 32 := Scalar.addi c0_i32_16048 v14353
  v14354.toNat
def k0_dev34 (d0 : Dev nD) : Nat :=
  let c0_i32_16063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_16053 : BitVec 32 := 4#32
  let v14363 : BitVec 32 := Scalar.addi v2 c4_i32_16053
  let c16_i32_16054 : BitVec 32 := 16#32
  let c0_i32_16055 : BitVec 32 := 0#32
  let v14364 : BitVec 1 := Scalar.cmpi .eq c16_i32_16054 c0_i32_16055
  let c1_i32_16056 : BitVec 32 := 1#32
  let v14365 : BitVec 32 := Scalar.select v14364 c1_i32_16056 c16_i32_16054
  let v14366 : BitVec 32 := Scalar.remsi v14363 v14365
  let c0_i32_16058 : BitVec 32 := 0#32
  let v14368 : BitVec 1 := Scalar.cmpi .slt v14366 c0_i32_16058
  let c0_i32_16059 : BitVec 32 := 0#32
  let v14369 : BitVec 1 := Scalar.cmpi .slt v14365 c0_i32_16059
  let v14370 : BitVec 1 := Scalar.xori v14368 v14369
  let c0_i32_16057 : BitVec 32 := 0#32
  let v14367 : BitVec 1 := Scalar.cmpi .ne v14366 c0_i32_16057
  let v14371 : BitVec 1 := Scalar.andi v14370 v14367
  let v14372 : BitVec 32 := Scalar.addi v14366 v14365
  let v14373 : BitVec 32 := Scalar.select v14371 v14372 v14366
  let c1_i32_16062 : BitVec 32 := 1#32
  let v14374 : BitVec 32 := Scalar.muli v14373 c1_i32_16062
  let v14375 : BitVec 32 := Scalar.addi c0_i32_16063 v14374
  v14375.toNat
def k0_dev35 (d0 : Dev nD) : Nat :=
  let c0_i32_16078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_16068 : BitVec 32 := 5#32
  let v14384 : BitVec 32 := Scalar.addi v2 c5_i32_16068
  let c16_i32_16069 : BitVec 32 := 16#32
  let c0_i32_16070 : BitVec 32 := 0#32
  let v14385 : BitVec 1 := Scalar.cmpi .eq c16_i32_16069 c0_i32_16070
  let c1_i32_16071 : BitVec 32 := 1#32
  let v14386 : BitVec 32 := Scalar.select v14385 c1_i32_16071 c16_i32_16069
  let v14387 : BitVec 32 := Scalar.remsi v14384 v14386
  let c0_i32_16073 : BitVec 32 := 0#32
  let v14389 : BitVec 1 := Scalar.cmpi .slt v14387 c0_i32_16073
  let c0_i32_16074 : BitVec 32 := 0#32
  let v14390 : BitVec 1 := Scalar.cmpi .slt v14386 c0_i32_16074
  let v14391 : BitVec 1 := Scalar.xori v14389 v14390
  let c0_i32_16072 : BitVec 32 := 0#32
  let v14388 : BitVec 1 := Scalar.cmpi .ne v14387 c0_i32_16072
  let v14392 : BitVec 1 := Scalar.andi v14391 v14388
  let v14393 : BitVec 32 := Scalar.addi v14387 v14386
  let v14394 : BitVec 32 := Scalar.select v14392 v14393 v14387
  let c1_i32_16077 : BitVec 32 := 1#32
  let v14395 : BitVec 32 := Scalar.muli v14394 c1_i32_16077
  let v14396 : BitVec 32 := Scalar.addi c0_i32_16078 v14395
  v14396.toNat
def k0_dev36 (d0 : Dev nD) : Nat :=
  let c0_i32_16093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_16083 : BitVec 32 := 6#32
  let v14405 : BitVec 32 := Scalar.addi v2 c6_i32_16083
  let c16_i32_16084 : BitVec 32 := 16#32
  let c0_i32_16085 : BitVec 32 := 0#32
  let v14406 : BitVec 1 := Scalar.cmpi .eq c16_i32_16084 c0_i32_16085
  let c1_i32_16086 : BitVec 32 := 1#32
  let v14407 : BitVec 32 := Scalar.select v14406 c1_i32_16086 c16_i32_16084
  let v14408 : BitVec 32 := Scalar.remsi v14405 v14407
  let c0_i32_16088 : BitVec 32 := 0#32
  let v14410 : BitVec 1 := Scalar.cmpi .slt v14408 c0_i32_16088
  let c0_i32_16089 : BitVec 32 := 0#32
  let v14411 : BitVec 1 := Scalar.cmpi .slt v14407 c0_i32_16089
  let v14412 : BitVec 1 := Scalar.xori v14410 v14411
  let c0_i32_16087 : BitVec 32 := 0#32
  let v14409 : BitVec 1 := Scalar.cmpi .ne v14408 c0_i32_16087
  let v14413 : BitVec 1 := Scalar.andi v14412 v14409
  let v14414 : BitVec 32 := Scalar.addi v14408 v14407
  let v14415 : BitVec 32 := Scalar.select v14413 v14414 v14408
  let c1_i32_16092 : BitVec 32 := 1#32
  let v14416 : BitVec 32 := Scalar.muli v14415 c1_i32_16092
  let v14417 : BitVec 32 := Scalar.addi c0_i32_16093 v14416
  v14417.toNat
def k0_dev37 (d0 : Dev nD) : Nat :=
  let c0_i32_16108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_16098 : BitVec 32 := 7#32
  let v14426 : BitVec 32 := Scalar.addi v2 c7_i32_16098
  let c16_i32_16099 : BitVec 32 := 16#32
  let c0_i32_16100 : BitVec 32 := 0#32
  let v14427 : BitVec 1 := Scalar.cmpi .eq c16_i32_16099 c0_i32_16100
  let c1_i32_16101 : BitVec 32 := 1#32
  let v14428 : BitVec 32 := Scalar.select v14427 c1_i32_16101 c16_i32_16099
  let v14429 : BitVec 32 := Scalar.remsi v14426 v14428
  let c0_i32_16103 : BitVec 32 := 0#32
  let v14431 : BitVec 1 := Scalar.cmpi .slt v14429 c0_i32_16103
  let c0_i32_16104 : BitVec 32 := 0#32
  let v14432 : BitVec 1 := Scalar.cmpi .slt v14428 c0_i32_16104
  let v14433 : BitVec 1 := Scalar.xori v14431 v14432
  let c0_i32_16102 : BitVec 32 := 0#32
  let v14430 : BitVec 1 := Scalar.cmpi .ne v14429 c0_i32_16102
  let v14434 : BitVec 1 := Scalar.andi v14433 v14430
  let v14435 : BitVec 32 := Scalar.addi v14429 v14428
  let v14436 : BitVec 32 := Scalar.select v14434 v14435 v14429
  let c1_i32_16107 : BitVec 32 := 1#32
  let v14437 : BitVec 32 := Scalar.muli v14436 c1_i32_16107
  let v14438 : BitVec 32 := Scalar.addi c0_i32_16108 v14437
  v14438.toNat
def k0_dev38 (d0 : Dev nD) : Nat :=
  let c0_i32_16123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_16113 : BitVec 32 := 8#32
  let v14447 : BitVec 32 := Scalar.addi v2 c8_i32_16113
  let c16_i32_16114 : BitVec 32 := 16#32
  let c0_i32_16115 : BitVec 32 := 0#32
  let v14448 : BitVec 1 := Scalar.cmpi .eq c16_i32_16114 c0_i32_16115
  let c1_i32_16116 : BitVec 32 := 1#32
  let v14449 : BitVec 32 := Scalar.select v14448 c1_i32_16116 c16_i32_16114
  let v14450 : BitVec 32 := Scalar.remsi v14447 v14449
  let c0_i32_16118 : BitVec 32 := 0#32
  let v14452 : BitVec 1 := Scalar.cmpi .slt v14450 c0_i32_16118
  let c0_i32_16119 : BitVec 32 := 0#32
  let v14453 : BitVec 1 := Scalar.cmpi .slt v14449 c0_i32_16119
  let v14454 : BitVec 1 := Scalar.xori v14452 v14453
  let c0_i32_16117 : BitVec 32 := 0#32
  let v14451 : BitVec 1 := Scalar.cmpi .ne v14450 c0_i32_16117
  let v14455 : BitVec 1 := Scalar.andi v14454 v14451
  let v14456 : BitVec 32 := Scalar.addi v14450 v14449
  let v14457 : BitVec 32 := Scalar.select v14455 v14456 v14450
  let c1_i32_16122 : BitVec 32 := 1#32
  let v14458 : BitVec 32 := Scalar.muli v14457 c1_i32_16122
  let v14459 : BitVec 32 := Scalar.addi c0_i32_16123 v14458
  v14459.toNat
def k0_dev39 (d0 : Dev nD) : Nat :=
  let c0_i32_16138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_16128 : BitVec 32 := 9#32
  let v14468 : BitVec 32 := Scalar.addi v2 c9_i32_16128
  let c16_i32_16129 : BitVec 32 := 16#32
  let c0_i32_16130 : BitVec 32 := 0#32
  let v14469 : BitVec 1 := Scalar.cmpi .eq c16_i32_16129 c0_i32_16130
  let c1_i32_16131 : BitVec 32 := 1#32
  let v14470 : BitVec 32 := Scalar.select v14469 c1_i32_16131 c16_i32_16129
  let v14471 : BitVec 32 := Scalar.remsi v14468 v14470
  let c0_i32_16133 : BitVec 32 := 0#32
  let v14473 : BitVec 1 := Scalar.cmpi .slt v14471 c0_i32_16133
  let c0_i32_16134 : BitVec 32 := 0#32
  let v14474 : BitVec 1 := Scalar.cmpi .slt v14470 c0_i32_16134
  let v14475 : BitVec 1 := Scalar.xori v14473 v14474
  let c0_i32_16132 : BitVec 32 := 0#32
  let v14472 : BitVec 1 := Scalar.cmpi .ne v14471 c0_i32_16132
  let v14476 : BitVec 1 := Scalar.andi v14475 v14472
  let v14477 : BitVec 32 := Scalar.addi v14471 v14470
  let v14478 : BitVec 32 := Scalar.select v14476 v14477 v14471
  let c1_i32_16137 : BitVec 32 := 1#32
  let v14479 : BitVec 32 := Scalar.muli v14478 c1_i32_16137
  let v14480 : BitVec 32 := Scalar.addi c0_i32_16138 v14479
  v14480.toNat
def k0_dev40 (d0 : Dev nD) : Nat :=
  let c0_i32_16153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_16143 : BitVec 32 := 10#32
  let v14489 : BitVec 32 := Scalar.addi v2 c10_i32_16143
  let c16_i32_16144 : BitVec 32 := 16#32
  let c0_i32_16145 : BitVec 32 := 0#32
  let v14490 : BitVec 1 := Scalar.cmpi .eq c16_i32_16144 c0_i32_16145
  let c1_i32_16146 : BitVec 32 := 1#32
  let v14491 : BitVec 32 := Scalar.select v14490 c1_i32_16146 c16_i32_16144
  let v14492 : BitVec 32 := Scalar.remsi v14489 v14491
  let c0_i32_16148 : BitVec 32 := 0#32
  let v14494 : BitVec 1 := Scalar.cmpi .slt v14492 c0_i32_16148
  let c0_i32_16149 : BitVec 32 := 0#32
  let v14495 : BitVec 1 := Scalar.cmpi .slt v14491 c0_i32_16149
  let v14496 : BitVec 1 := Scalar.xori v14494 v14495
  let c0_i32_16147 : BitVec 32 := 0#32
  let v14493 : BitVec 1 := Scalar.cmpi .ne v14492 c0_i32_16147
  let v14497 : BitVec 1 := Scalar.andi v14496 v14493
  let v14498 : BitVec 32 := Scalar.addi v14492 v14491
  let v14499 : BitVec 32 := Scalar.select v14497 v14498 v14492
  let c1_i32_16152 : BitVec 32 := 1#32
  let v14500 : BitVec 32 := Scalar.muli v14499 c1_i32_16152
  let v14501 : BitVec 32 := Scalar.addi c0_i32_16153 v14500
  v14501.toNat
def k0_dev41 (d0 : Dev nD) : Nat :=
  let c0_i32_16168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_16158 : BitVec 32 := 11#32
  let v14510 : BitVec 32 := Scalar.addi v2 c11_i32_16158
  let c16_i32_16159 : BitVec 32 := 16#32
  let c0_i32_16160 : BitVec 32 := 0#32
  let v14511 : BitVec 1 := Scalar.cmpi .eq c16_i32_16159 c0_i32_16160
  let c1_i32_16161 : BitVec 32 := 1#32
  let v14512 : BitVec 32 := Scalar.select v14511 c1_i32_16161 c16_i32_16159
  let v14513 : BitVec 32 := Scalar.remsi v14510 v14512
  let c0_i32_16163 : BitVec 32 := 0#32
  let v14515 : BitVec 1 := Scalar.cmpi .slt v14513 c0_i32_16163
  let c0_i32_16164 : BitVec 32 := 0#32
  let v14516 : BitVec 1 := Scalar.cmpi .slt v14512 c0_i32_16164
  let v14517 : BitVec 1 := Scalar.xori v14515 v14516
  let c0_i32_16162 : BitVec 32 := 0#32
  let v14514 : BitVec 1 := Scalar.cmpi .ne v14513 c0_i32_16162
  let v14518 : BitVec 1 := Scalar.andi v14517 v14514
  let v14519 : BitVec 32 := Scalar.addi v14513 v14512
  let v14520 : BitVec 32 := Scalar.select v14518 v14519 v14513
  let c1_i32_16167 : BitVec 32 := 1#32
  let v14521 : BitVec 32 := Scalar.muli v14520 c1_i32_16167
  let v14522 : BitVec 32 := Scalar.addi c0_i32_16168 v14521
  v14522.toNat
def k0_dev42 (d0 : Dev nD) : Nat :=
  let c0_i32_16183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_16173 : BitVec 32 := 12#32
  let v14531 : BitVec 32 := Scalar.addi v2 c12_i32_16173
  let c16_i32_16174 : BitVec 32 := 16#32
  let c0_i32_16175 : BitVec 32 := 0#32
  let v14532 : BitVec 1 := Scalar.cmpi .eq c16_i32_16174 c0_i32_16175
  let c1_i32_16176 : BitVec 32 := 1#32
  let v14533 : BitVec 32 := Scalar.select v14532 c1_i32_16176 c16_i32_16174
  let v14534 : BitVec 32 := Scalar.remsi v14531 v14533
  let c0_i32_16178 : BitVec 32 := 0#32
  let v14536 : BitVec 1 := Scalar.cmpi .slt v14534 c0_i32_16178
  let c0_i32_16179 : BitVec 32 := 0#32
  let v14537 : BitVec 1 := Scalar.cmpi .slt v14533 c0_i32_16179
  let v14538 : BitVec 1 := Scalar.xori v14536 v14537
  let c0_i32_16177 : BitVec 32 := 0#32
  let v14535 : BitVec 1 := Scalar.cmpi .ne v14534 c0_i32_16177
  let v14539 : BitVec 1 := Scalar.andi v14538 v14535
  let v14540 : BitVec 32 := Scalar.addi v14534 v14533
  let v14541 : BitVec 32 := Scalar.select v14539 v14540 v14534
  let c1_i32_16182 : BitVec 32 := 1#32
  let v14542 : BitVec 32 := Scalar.muli v14541 c1_i32_16182
  let v14543 : BitVec 32 := Scalar.addi c0_i32_16183 v14542
  v14543.toNat
def k0_dev43 (d0 : Dev nD) : Nat :=
  let c0_i32_16198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_16188 : BitVec 32 := 13#32
  let v14552 : BitVec 32 := Scalar.addi v2 c13_i32_16188
  let c16_i32_16189 : BitVec 32 := 16#32
  let c0_i32_16190 : BitVec 32 := 0#32
  let v14553 : BitVec 1 := Scalar.cmpi .eq c16_i32_16189 c0_i32_16190
  let c1_i32_16191 : BitVec 32 := 1#32
  let v14554 : BitVec 32 := Scalar.select v14553 c1_i32_16191 c16_i32_16189
  let v14555 : BitVec 32 := Scalar.remsi v14552 v14554
  let c0_i32_16193 : BitVec 32 := 0#32
  let v14557 : BitVec 1 := Scalar.cmpi .slt v14555 c0_i32_16193
  let c0_i32_16194 : BitVec 32 := 0#32
  let v14558 : BitVec 1 := Scalar.cmpi .slt v14554 c0_i32_16194
  let v14559 : BitVec 1 := Scalar.xori v14557 v14558
  let c0_i32_16192 : BitVec 32 := 0#32
  let v14556 : BitVec 1 := Scalar.cmpi .ne v14555 c0_i32_16192
  let v14560 : BitVec 1 := Scalar.andi v14559 v14556
  let v14561 : BitVec 32 := Scalar.addi v14555 v14554
  let v14562 : BitVec 32 := Scalar.select v14560 v14561 v14555
  let c1_i32_16197 : BitVec 32 := 1#32
  let v14563 : BitVec 32 := Scalar.muli v14562 c1_i32_16197
  let v14564 : BitVec 32 := Scalar.addi c0_i32_16198 v14563
  v14564.toNat
def k0_dev44 (d0 : Dev nD) : Nat :=
  let c0_i32_16213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_16203 : BitVec 32 := 14#32
  let v14573 : BitVec 32 := Scalar.addi v2 c14_i32_16203
  let c16_i32_16204 : BitVec 32 := 16#32
  let c0_i32_16205 : BitVec 32 := 0#32
  let v14574 : BitVec 1 := Scalar.cmpi .eq c16_i32_16204 c0_i32_16205
  let c1_i32_16206 : BitVec 32 := 1#32
  let v14575 : BitVec 32 := Scalar.select v14574 c1_i32_16206 c16_i32_16204
  let v14576 : BitVec 32 := Scalar.remsi v14573 v14575
  let c0_i32_16208 : BitVec 32 := 0#32
  let v14578 : BitVec 1 := Scalar.cmpi .slt v14576 c0_i32_16208
  let c0_i32_16209 : BitVec 32 := 0#32
  let v14579 : BitVec 1 := Scalar.cmpi .slt v14575 c0_i32_16209
  let v14580 : BitVec 1 := Scalar.xori v14578 v14579
  let c0_i32_16207 : BitVec 32 := 0#32
  let v14577 : BitVec 1 := Scalar.cmpi .ne v14576 c0_i32_16207
  let v14581 : BitVec 1 := Scalar.andi v14580 v14577
  let v14582 : BitVec 32 := Scalar.addi v14576 v14575
  let v14583 : BitVec 32 := Scalar.select v14581 v14582 v14576
  let c1_i32_16212 : BitVec 32 := 1#32
  let v14584 : BitVec 32 := Scalar.muli v14583 c1_i32_16212
  let v14585 : BitVec 32 := Scalar.addi c0_i32_16213 v14584
  v14585.toNat
def k0_dev45 (d0 : Dev nD) : Nat :=
  let c0_i32_16228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_16218 : BitVec 32 := 15#32
  let v14594 : BitVec 32 := Scalar.addi v2 c15_i32_16218
  let c16_i32_16219 : BitVec 32 := 16#32
  let c0_i32_16220 : BitVec 32 := 0#32
  let v14595 : BitVec 1 := Scalar.cmpi .eq c16_i32_16219 c0_i32_16220
  let c1_i32_16221 : BitVec 32 := 1#32
  let v14596 : BitVec 32 := Scalar.select v14595 c1_i32_16221 c16_i32_16219
  let v14597 : BitVec 32 := Scalar.remsi v14594 v14596
  let c0_i32_16223 : BitVec 32 := 0#32
  let v14599 : BitVec 1 := Scalar.cmpi .slt v14597 c0_i32_16223
  let c0_i32_16224 : BitVec 32 := 0#32
  let v14600 : BitVec 1 := Scalar.cmpi .slt v14596 c0_i32_16224
  let v14601 : BitVec 1 := Scalar.xori v14599 v14600
  let c0_i32_16222 : BitVec 32 := 0#32
  let v14598 : BitVec 1 := Scalar.cmpi .ne v14597 c0_i32_16222
  let v14602 : BitVec 1 := Scalar.andi v14601 v14598
  let v14603 : BitVec 32 := Scalar.addi v14597 v14596
  let v14604 : BitVec 32 := Scalar.select v14602 v14603 v14597
  let c1_i32_16227 : BitVec 32 := 1#32
  let v14605 : BitVec 32 := Scalar.muli v14604 c1_i32_16227
  let v14606 : BitVec 32 := Scalar.addi c0_i32_16228 v14605
  v14606.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S1x256x16384 : Shape := ⟨3, ![1, 256, 16384]⟩
abbrev S1x256x128x128 : Shape := ⟨4, ![1, 256, 128, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x128x256x4096 : Shape := ⟨4, ![1, 128, 256, 4096]⟩
abbrev S1x1x256x4096 : Shape := ⟨4, ![1, 1, 256, 4096]⟩
abbrev S1x128x256 : Shape := ⟨3, ![1, 128, 256]⟩
abbrev S1x128x256x1 : Shape := ⟨4, ![1, 128, 256, 1]⟩
abbrev S1x1x256x1 : Shape := ⟨4, ![1, 1, 256, 1]⟩
abbrev S1x128x128x256 : Shape := ⟨4, ![1, 128, 128, 256]⟩
abbrev S256x1024 : Shape := ⟨2, ![256, 1024]⟩

abbrev nBuf : Space → Nat
  | .hbm => 125
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S1x4096x128x128, .f32⟩
  | .hbm, ⟨3, _⟩ => ⟨S1x4096x128x128, .f32⟩
  | .hbm, ⟨4, _⟩ => ⟨S16384x1024, .f32⟩
  | .hbm, ⟨5, _⟩ => ⟨S1x256x16384, .f32⟩
  | .hbm, ⟨6, _⟩ => ⟨S1x256x128x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S1x128x256x4096, .f32⟩
  | .hbm, ⟨85, _⟩ => ⟨S_, .f32⟩
  | .hbm, ⟨86, _⟩ => ⟨S1x128x256x4096, .f32⟩
  | .hbm, ⟨87, _⟩ => ⟨S1x128x256x4096, .f32⟩
  | .hbm, ⟨88, _⟩ => ⟨S1x1x256x4096, .i1⟩
  | .hbm, ⟨89, _⟩ => ⟨S_, .f32⟩
  | .hbm, ⟨90, _⟩ => ⟨S_, .f32⟩
  | .hbm, ⟨91, _⟩ => ⟨S1x128x256x4096, .i1⟩
  | .hbm, ⟨92, _⟩ => ⟨S1x128x256x4096, .f32⟩
  | .hbm, ⟨93, _⟩ => ⟨S1x128x256x4096, .f32⟩
  | .hbm, ⟨94, _⟩ => ⟨S_, .f32⟩
  | .hbm, ⟨95, _⟩ => ⟨S1x128x256, .f32⟩
  | .hbm, ⟨96, _⟩ => ⟨S1x128x256x1, .f32⟩
  | .hbm, ⟨97, _⟩ => ⟨S1x128x256x4096, .f32⟩
  | .hbm, ⟨98, _⟩ => ⟨S1x128x256x4096, .f32⟩
  | .hbm, ⟨99, _⟩ => ⟨S1x128x256x4096, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x128x256, .f32⟩
  | .hbm, ⟨105, _⟩ => ⟨S1x128x256x1, .f32⟩
  | .hbm, ⟨106, _⟩ => ⟨S_, .f32⟩
  | .hbm, ⟨107, _⟩ => ⟨S_, .f32⟩
  | .hbm, ⟨108, _⟩ => ⟨S1x128x256x1, .i1⟩
  | .hbm, ⟨109, _⟩ => ⟨S1x128x256x1, .f32⟩
  | .hbm, ⟨110, _⟩ => ⟨S1x128x256x1, .f32⟩
  | .hbm, ⟨111, _⟩ => ⟨S1x128x256x4096, .f32⟩
  | .hbm, ⟨112, _⟩ => ⟨S1x128x256x4096, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x128x256x4096, .i1⟩
  | .hbm, ⟨117, _⟩ => ⟨S1x128x256x4096, .f32⟩
  | .hbm, ⟨118, _⟩ => ⟨S1x128x256x4096, .f32⟩
  | .hbm, ⟨119, _⟩ => ⟨S1x128x128x256, .f32⟩
  | .hbm, ⟨120, _⟩ => ⟨S1x256x128x128, .f32⟩
  | .hbm, ⟨121, _⟩ => ⟨S1x256x16384, .f32⟩
  | .hbm, ⟨122, _⟩ => ⟨S1x256x1024, .f32⟩
  | .hbm, ⟨123, _⟩ => ⟨S256x1024, .f32⟩
  | .hbm, ⟨124, _⟩ => ⟨S256x1024, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩

abbrev nD : Nat := 1
abbrev τ : Topo := Topo.v7x

variable {F : FTy → Type} [FloatOps F]
-- ==== Proof.Text.lean ====
/-
# The kernel's program, written as loops

The printed program is one straight line of some three thousand effects. Here it is again as nested loops over the heads, the
gathered blocks and the peers: the same effects with the same operands, in the same order. `Text*.lean` shows the two equal.
-/
module

public import proofs.«01_k».proof.Proof.Gen.KernelIdeal

@[expose] public section

noncomputable section

namespace Cert.Attn

open Cert.KernelIdeal Cert.KernelIdeal.Gen
open Idealize.ShloMosaic Idealize.ShloMosaic.TcCoe
open Idealize.SL.Sem

variable {F : FTy → Type} [FloatOps F]

/-- The kernel's programs. -/
abbrev P (F : FTy → Type) (α : Type) := Prog (TpuEff nD τ sig (Elt F) Λ₀ .tc) α

/-- The bodies `f a`, `f (a + 1)`, …: `n` of them in order. -/
def seg (f : ℕ → P F PUnit) : ℕ → ℕ → P F PUnit
  | _, 0 => .ret ⟨⟩
  | a, n + 1 => Prog.bind (f a) fun _ => seg f (a + 1) n

theorem seg_add (f : ℕ → P F PUnit) (n m : ℕ) : ∀ a, seg f a (n + m) = Prog.bind (seg f a n) fun _ => seg f (a + n) m := by
  induction n with
  | zero => intro a; rw [Nat.zero_add]; rfl
  | succ n ih =>
    intro a
    rw [Nat.add_right_comm]
    show Prog.bind (f a) (fun _ => seg f (a + 1) (n + m)) = Prog.bind (Prog.bind (f a) fun _ => seg f (a + 1) n) fun _ => seg f (a + (n + 1)) m
    refine Eq.trans ?_ (Prog.bind_assoc (f a) (fun _ => seg f (a + 1) n) fun _ => seg f (a + (n + 1)) m).symm
    show Prog.bind (f a) (fun _ => seg f (a + 1) (n + m)) = Prog.bind (f a) fun _ => Prog.bind (seg f (a + 1) n) fun _ => seg f (a + (n + 1)) m
    congr 1
    funext _
    rw [ih, Nat.add_assoc, Nat.add_comm 1 n]

/-! ## Offsets and peers -/

/-- The key block that the gathered block `i` holds: blocks 0–21 are those of the query blocks 0 and 3, blocks 22–44 those of
    query block 1, blocks 45–67 those of query block 2. -/
def kb (i : ℕ) : ℕ := if i < 22 then 3 * i else if i < 24 then i - 22 else if i < 45 then 2 + 3 * (i - 24)
  else if i < 46 then 0 else if i < 47 then 2 else 1 + 3 * (i - 47)

/-- Where gathered block `i` of head `h` lies in the keys and values. -/
def srcOff (d : Dev nD) (h : ℕ) (i : ℕ) : Fin 4 → ℕ :=
  ![0, 64 * kb i, (Scalar.addi (Scalar.muli (Scalar.remsi (Scalar.divsi (Dev.word d) 1#32) 16#32) 8#32) (BitVec.ofNat 32 h)).toNat, 0]

theorem kb_lt : ∀ i : Fin 68, kb i.val < 64 := by decide
theorem head_word : ∀ (d : Dev nD) (h : Fin 8),
    (Scalar.addi (Scalar.muli (Scalar.remsi (Scalar.divsi (Dev.word d) 1#32) 16#32) 8#32) (BitVec.ofNat 32 h.val)).toNat = 8 * d.val + h.val := by
  decide
theorem srcOff_inb (d : Dev nD) (h : Fin 8) (i : Fin 68) : ∀ a, srcOff d h.val i.val a + S1x64x1x128.size a ≤ S1x4096x128x128.size a := by
  have hd : d.val < 16 := d.isLt
  have hh := h.isLt
  have hk := kb_lt i
  intro a
  unfold srcOff
  rw [head_word]
  fin_cases a
  · show 0 + 1 ≤ 1; omega
  · show 64 * kb i.val + 64 ≤ 4096; omega
  · show 8 * d.val + h.val + 1 ≤ 128; omega
  · show 0 + 128 ≤ 128; omega

/-- The peer at distance `t`, as the kernel computes it: `(my + t) mod 16`, by a truncated remainder and its correction. -/
def peerW (d : Dev nD) (t : ℕ) : BitVec 32 :=
  let r : BitVec 32 := Scalar.remsi (Scalar.addi (Scalar.remsi (Scalar.divsi (Dev.word d) 1#32) 16#32) (BitVec.ofNat 32 t)) (Scalar.select (Scalar.cmpi .eq 16#32 0#32) 1#32 16#32)
  let m : BitVec 32 := Scalar.select (Scalar.cmpi .eq 16#32 0#32) 1#32 16#32
  Scalar.select (Scalar.andi (Scalar.xori (Scalar.cmpi .slt r 0#32) (Scalar.cmpi .slt m 0#32)) (Scalar.cmpi .ne r 0#32)) (Scalar.addi r m) r

def peerN (d : Dev nD) (t : ℕ) : ℕ := (Scalar.addi 0#32 (Scalar.muli (peerW d t) 1#32)).toNat
def peerOff (d : Dev nD) (t : ℕ) : Fin 2 → ℕ := ![(Scalar.muli (peerW d t) 16#32).toNat, 0]
def myOff (d : Dev nD) : Fin 2 → ℕ := ![(Scalar.muli (Scalar.remsi (Scalar.divsi (Dev.word d) 1#32) 16#32) 16#32).toNat, 0]

theorem peerN_eq : ∀ (d : Dev nD) (t : Fin 15), peerN d (1 + t.val) = (d.val + (1 + t.val)) % 16 := by decide
theorem peerOff_eq : ∀ (d : Dev nD) (t : Fin 15), peerOff d (1 + t.val) = ![16 * ((d.val + (1 + t.val)) % 16), 0] := by decide
theorem myOff_eq : ∀ d : Dev nD, myOff d = ![16 * d.val, 0] := by decide

theorem peerN_lt (d : Dev nD) (t : Fin 15) : peerN d (1 + t.val) < nD := by rw [peerN_eq]; exact Nat.mod_lt _ (by decide)
theorem peerOff_inb (d : Dev nD) (t : Fin 15) : ∀ a, peerOff d (1 + t.val) a + S16x1024.size a ≤ S256x1024.size a := by
  rw [peerOff_eq]
  have := Nat.mod_lt (d.val + (1 + t.val)) (show 16 > 0 by decide)
  intro a
  fin_cases a
  · show 16 * ((d.val + (1 + t.val)) % 16) + 16 ≤ 256; omega
  · show 0 + 1024 ≤ 1024; omega
theorem myOff_inb (d : Dev nD) : ∀ a, myOff d a + S16x1024.size a ≤ S256x1024.size a := by
  rw [myOff_eq]
  have : d.val < 16 := d.isLt
  intro a
  fin_cases a
  · show 16 * d.val + 16 ≤ 256; omega
  · show 0 + 1024 ≤ 1024; omega

/-! ## Operands -/

abbrev xM : Memref sig .tc .vmem S1x256x1024 .f32 := Memref.whole cc0_stg0_0
abbrev wqM : Memref sig .tc .vmem S1024x1024 .f32 := Memref.whole cc0_stg1_0
abbrev keyM : Memref sig .tc .hbm S1x4096x128x128 .f32 := Memref.whole main_arg2
abbrev valM : Memref sig .tc .hbm S1x4096x128x128 .f32 := Memref.whole main_arg3
abbrev woM : Memref sig .tc .vmem S1024x1024 .f32 := Memref.whole cc0_stg2_0
abbrev outM : Memref sig .tc .vmem S256x1024 .bf16 := Memref.whole cc0_stg3_0
abbrev kM : Memref sig .tc .vmem S8x4352x128 .f32 := Memref.whole cc0_scratch0
abbrev vM : Memref sig .tc .vmem S8x4352x128 .f32 := Memref.whole cc0_scratch1
abbrev ctxM : Memref sig .tc .vmem S256x1024 .f32 := Memref.whole cc0_scratch2
abbrev pM : Memref sig .tc .vmem S256x1024 .bf16 := Memref.whole cc0_scratch3
abbrev rsM : Memref sig .tc .vmem S16x16x1024 .bf16 := Memref.whole cc0_scratch4

theorem head_inb (h : Fin 8) : ∀ a, (![h.val] : Fin 1 → ℕ) a + S1.size a ≤ S8.size a := by revert h; decide
theorem slot_inb (h : Fin 8) (i : Fin 68) : ∀ a, (![h.val, 64 * i.val, 0] : Fin 3 → ℕ) a + S1x64x128.size a ≤ S8x4352x128.size a := by
  have := h.isLt
  have := i.isLt
  intro a
  fin_cases a
  · show h.val + 1 ≤ 8; omega
  · show 64 * i.val + 64 ≤ 4352; omega
  · show 0 + 128 ≤ 128; omega
theorem peer_inb (t : Fin 15) : ∀ a, (![1 + t.val] : Fin 1 → ℕ) a + S1.size a ≤ S16.size a := by revert t; decide
theorem landing_inb (t : Fin 15) : ∀ a, (![1 + t.val, 0, 0] : Fin 3 → ℕ) a + S1x16x1024.size a ≤ S16x16x1024.size a := by revert t; decide

/-- The gathered block `i` of head `h` in the keys (values), and its place in the gathered buffer. -/
abbrev srcSl (m : Memref sig .tc .hbm S1x4096x128x128 .f32) (d : Dev nD) (h : Fin 8) (i : Fin 68) : Memref sig .tc .hbm S64x128 .f32 :=
  (m.slice (Rect.unit (s := S1x4096x128x128) (srcOff d h.val i.val) S1x64x1x128.size (srcOff_inb d h i)) (fun _ => rfl)).squeeze S64x128 squeezes_S1x64x1x128_S64x128
abbrev dstSl (m : Memref sig .tc .vmem S8x4352x128 .f32) (h : Fin 8) (i : Fin 68) : Memref sig .tc .vmem S64x128 .f32 :=
  (m.slice (Rect.unit (s := S8x4352x128) ![h.val, 64 * i.val, 0] S1x64x128.size (slot_inb h i)) (fun _ => rfl)).squeeze S64x128 squeezes_S1x64x128_S64x128
abbrev headSem (s : DmaSems sig S8) (h : Fin 8) : DmaSem sig := ((s.slice (Rect.unit (s := S8) ![h.val] S1.size (head_inb h))).squeeze S_ squeezes_S1_S_).sem
abbrev peerSem (s : DmaSems sig S16) (t : Fin 15) : DmaSem sig := ((s.slice (Rect.unit (s := S16) ![1 + t.val] S1.size (peer_inb t))).squeeze S_ squeezes_S1_S_).sem
abbrev barSem := (SemArray.scalar (sig.barrier 0 rfl) : Sems sig S_).sem
abbrev peer (d : Dev nD) (t : Fin 15) : Dev nD := ⟨peerN d (1 + t.val), peerN_lt d t⟩
abbrev pSl (d : Dev nD) (t : Fin 15) : Memref sig .tc .vmem S16x1024 .bf16 := pM.slice (Rect.unit (s := S256x1024) (peerOff d (1 + t.val)) S16x1024.size (peerOff_inb d t)) (fun _ => rfl)
abbrev rsSl (t : Fin 15) : Memref sig .tc .vmem S16x1024 .bf16 :=
  (rsM.slice (Rect.unit (s := S16x16x1024) ![1 + t.val, 0, 0] S1x16x1024.size (landing_inb t)) (fun _ => rfl)).squeeze S16x1024 squeezes_S1x16x1024_S16x1024
abbrev myRect (d : Dev nD) : Rect S256x1024 := Rect.unit (s := S256x1024) (myOff d) S16x1024.size (myOff_inb d)
abbrev mySl (d : Dev nD) : Memref sig .tc .vmem S16x1024 .bf16 := outM.slice (myRect d) (fun _ => rfl)

theorem peerOff_words (d : Dev nD) (t : Fin 15) :
    (Rect.unit (s := S256x1024) (peerOff d (1 + t.val)) S16x1024.size (peerOff_inb d t)).WholeWords (EltTy.packing .bf16) := k0_off65_wordsbf16 d t
theorem myOff_words (d : Dev nD) : (myRect d).WholeWords (EltTy.packing .bf16) := k0_off67_wordsbf16 d
theorem myOff_packed (d : Dev nD) : (myRect d).PackedRows (EltTy.packing .bf16) := k0_off66_packedbf16 d
theorem landing_words (t : Fin 15) :
    (Rect.unit (s := S16x16x1024) ![1 + t.val, 0, 0] S1x16x1024.size (landing_inb t)).WholeWords (EltTy.packing .bf16) := by
  revert t; decide

theorem pSl_words (d : Dev nD) (t : Fin 15) : (pSl d t).view.WordExact := (Memref.isWhole_whole cc0_scratch3).wordExact_slice rfl _ (peerOff_words d t)
theorem rsSl_words (t : Fin 15) : (rsSl t).view.WordExact := ((Memref.isWhole_whole cc0_scratch4).wordExact_slice rfl _ (landing_words t)).reshape _ _
theorem mySl_words (d : Dev nD) : (mySl d).view.WordExact := (Memref.isWhole_whole cc0_stg3_0).wordExact_slice rfl _ (myOff_words d)

/-! ## The effects -/

/-- The start of, and the wait for, one gathered block. -/
def start1 (src : Memref sig .tc .hbm S1x4096x128x128 .f32) (dst : Memref sig .tc .vmem S8x4352x128 .f32) (s : DmaSems sig S8) (d : Dev nD) (h : Fin 8) (i : Fin 68) : P F PUnit :=
  Prog.lift (.enqueueDma (srcSl src d h i) (.here (dstSl dst h i)) (.dma (headSem s h)) ((View.wordExact_bits rfl).reshape _ _) ((View.wordExact_bits rfl).reshape _ _) ⟨Or.inl rfl, trivial⟩)
def await1 (src : Memref sig .tc .hbm S1x4096x128x128 .f32) (dst : Memref sig .tc .vmem S8x4352x128 .f32) (s : DmaSems sig S8) (d : Dev nD) (h : Fin 8) (i : Fin 68) : P F PUnit :=
  Prog.lift (.waitDma2 (headSem s h) (srcSl src d h i) (dstSl dst h i) ((View.wordExact_bits rfl).reshape _ _) ((View.wordExact_bits rfl).reshape _ _))

def hd (n : ℕ) : Fin 8 := ⟨n % 8, Nat.mod_lt _ (by decide)⟩
def blk (n : ℕ) : Fin 68 := ⟨n % 68, Nat.mod_lt _ (by decide)⟩
def per (n : ℕ) : Fin 15 := ⟨n % 15, Nat.mod_lt _ (by decide)⟩

/-- Starts and waits in order: head by head, in each block by block, the keys' before the values'. -/
def start (d : Dev nD) (n : ℕ) : P F PUnit :=
  cond (Nat.beq (n % 2) 0) (start1 keyM kM cc0_scratch5 d (hd (n / 136)) (blk (n / 2))) (start1 valM vM cc0_scratch6 d (hd (n / 136)) (blk (n / 2)))
def await (d : Dev nD) (h : Fin 8) (n : ℕ) : P F PUnit :=
  cond (Nat.beq (n % 2) 0) (await1 keyM kM cc0_scratch5 d h (blk (n / 2))) (await1 valM vM cc0_scratch6 d h (blk (n / 2)))

/-- The barrier's signals and its wait. -/
def signal (d : Dev nD) (n : ℕ) : P F PUnit := semSignalWord (peer d (per n)) barSem 1#32
def send (d : Dev nD) (n : ℕ) : P F PUnit :=
  Prog.lift (.enqueueDma (pSl d (per n)) (.remote (Dev.tc (peer d (per n))) (rsSl (per n)) (.dma (peerSem cc0_scratch7 (per n)))) (.dma (peerSem cc0_scratch8 (per n)))
    (pSl_words d (per n)) (rsSl_words (per n)) ⟨⟨rfl, Or.inl rfl⟩, trivial⟩)
def recv (n : ℕ) : P F PUnit :=
  Prog.lift (.waitDma2 (peerSem cc0_scratch8 (per n)) (rsSl (per n)) (rsSl (per n)) (rsSl_words (per n)) (rsSl_words (per n)))
def share (d : Dev nD) (n : ℕ) : P F PUnit :=
  Prog.lift (.enqueueDma (mySl d) (.remote (Dev.tc (peer d (per n))) (mySl d) (.dma (peerSem cc0_scratch9 (per n)))) (.dma (peerSem cc0_scratch10 (per n)))
    (mySl_words d) (mySl_words d) ⟨⟨rfl, Or.inl rfl⟩, trivial⟩)

theorem top_inb : ∀ a, (![0, 0] : Fin 2 → ℕ) a + S16x1024.size a ≤ S256x1024.size a := by decide
abbrev topSl : Memref sig .tc .vmem S16x1024 .bf16 := outM.slice (Rect.unit (s := S256x1024) ![0, 0] S16x1024.size top_inb) (fun _ => rfl)
theorem topSl_words : topSl.view.WordExact := (Memref.isWhole_whole cc0_stg3_0).wordExact_slice rfl _ wordsbf16_S256x1024_S16x1024_0_0
def heard (n : ℕ) : P F PUnit := Prog.lift (.waitDma2 (peerSem cc0_scratch10 (per n)) topSl topSl topSl_words topSl_words)
def sent (d : Dev nD) (n : ℕ) : P F PUnit :=
  Prog.lift (.waitDma2 (peerSem cc0_scratch7 (per n)) (rsSl (per n)) (pSl d (per n)) (rsSl_words (per n)) (pSl_words d (per n)))
def shared (d : Dev nD) (n : ℕ) : P F PUnit :=
  Prog.lift (.waitDma2 (peerSem cc0_scratch9 (per n)) (mySl d) (mySl d) (mySl_words d) (mySl_words d))

/-! ## The attention of one head -/

/-- The queries. -/
def queries (x : Vec F S1x256x1024 .f32) (wq : Vec F S1024x1024 .f32) : FVec F S256x1024 .f32 :=
  matmul dot_S256x1024_S1024x1024_S256x1024_1_0_0_1_n_n none
    (truncf .bf16 (mulf (shapeCast S256x1024 x shapeCasts_S1x256x1024_S256x1024) (broadcast S256x1024 (Scalar.ofBits .f32 0x3DB504F3#32))) bitsLt_bf16_f32)
    (truncf .bf16 (shapeCast S1024x1024 wq shapeCasts_S1024x1024_S1024x1024) bitsLt_bf16_f32)
    (constant S256x1024 .f32 0x00000000#32)

theorem col_slices (h : Fin 8) : S256x1024.Slices ![0, 128 * h.val] S256x128 := by revert h; decide
theorem row_slices (b : Fin 4) : S256x128.Slices ![64 * b.val, 0] S64x128 := by revert b; decide
def headQ (q : FVec F S256x1024 .f32) (h : Fin 8) : FVec F S256x128 .f32 := extractStridedSlice S256x128 ![0, 128 * h.val] q (col_slices h)
def rowsQ (q : FVec F S256x128 .f32) (b : Fin 4) : FVec F S64x128 .f32 := extractStridedSlice S64x128 ![64 * b.val, 0] q (row_slices b)

/-- Query blocks 0 and 3 against the 22 key blocks they share: weights, their sums, the unnormalized output. -/
def e03 (q : FVec F S256x128 .f32) (k : Vec F S1x1408x128 .f32) : FVec F S128x1408 .f32 :=
  exp (matmul dot_S128x128_S1408x128_S128x1408_1_1_0_0_n_n none
    (truncf .bf16 (concatenate S128x128 0 [⟨S64x128, rowsQ q 0⟩, ⟨S64x128, rowsQ q 3⟩] concatenates_S64x128_S64x128_S128x128_d0) bitsLt_bf16_f32)
    (truncf .bf16 (shapeCast S1408x128 k shapeCasts_S1x1408x128_S1408x128) bitsLt_bf16_f32) (constant S128x1408 .f32 0x00000000#32))
def den03 (q : FVec F S256x128 .f32) (k : Vec F S1x1408x128 .f32) : FVec F S128x1 .f32 :=
  shapeCast S128x1 (multiReduction .add [1] S128 (e03 q k) 0x00000000#32 reduces_S128x1408_S128 (.inl rfl) rfl) shapeCasts_S128_S128x1
def num03 (q : FVec F S256x128 .f32) (k v : Vec F S1x1408x128 .f32) : FVec F S128x128 .f32 :=
  matmul dot_S128x1408_S1408x128_S128x128_1_0_0_1_n_n none (truncf .bf16 (e03 q k) bitsLt_bf16_f32)
    (truncf .bf16 (shapeCast S1408x128 v shapeCasts_S1x1408x128_S1408x128) bitsLt_bf16_f32) (constant S128x128 .f32 0x00000000#32)
def out03 (num : FVec F S128x128 .f32) (den : FVec F S128x1 .f32) : FVec F S128x128 .f32 :=
  mulf num (broadcastTo S128x128 (divf (broadcast S128x1 (Scalar.ofBits .f32 0x3F800000#32)) den) broadcasts_S128x1_S128x128)

/-- Query block 1 (and 2) against its 23 key blocks. -/
def e12 (q : FVec F S64x128 .f32) (k : Vec F S1x1472x128 .f32) : FVec F S64x1472 .f32 :=
  exp (matmul dot_S64x128_S1472x128_S64x1472_1_1_0_0_n_n none (truncf .bf16 q bitsLt_bf16_f32)
    (truncf .bf16 (shapeCast S1472x128 k shapeCasts_S1x1472x128_S1472x128) bitsLt_bf16_f32) (constant S64x1472 .f32 0x00000000#32))
def out12 (q : FVec F S64x128 .f32) (k v : Vec F S1x1472x128 .f32) : FVec F S64x128 .f32 :=
  mulf
    (matmul dot_S64x1472_S1472x128_S64x128_1_0_0_1_n_n none (truncf .bf16 (e12 q k) bitsLt_bf16_f32)
      (truncf .bf16 (shapeCast S1472x128 v shapeCasts_S1x1472x128_S1472x128) bitsLt_bf16_f32) (constant S64x128 .f32 0x00000000#32))
    (broadcastTo S64x128 (divf (broadcast S64x1 (Scalar.ofBits .f32 0x3F800000#32))
      (shapeCast S64x1 (multiReduction .add [1] S64 (e12 q k) 0x00000000#32 reduces_S64x1472_S64 (.inl rfl) rfl) shapeCasts_S64_S64x1)) broadcasts_S64x1_S64x128)

theorem ctx_inb (b : Fin 4) (h : Fin 8) : ∀ a, (![64 * b.val, 128 * h.val] : Fin 2 → ℕ) a + S64x128.size a ≤ S256x1024.size a := by revert b h; decide
theorem run0_inb (h : Fin 8) : ∀ a, (![h.val, 0, 0] : Fin 3 → ℕ) a + S1x1408x128.size a ≤ S8x4352x128.size a := by revert h; decide
theorem run_inb (h : Fin 8) (j : Fin 2) : ∀ a, (![h.val, 1408 + 1472 * j.val, 0] : Fin 3 → ℕ) a + S1x1472x128.size a ≤ S8x4352x128.size a := by revert h j; decide
abbrev ctxRect (b : Fin 4) (h : Fin 8) : Rect S256x1024 := Rect.unit (s := S256x1024) ![64 * b.val, 128 * h.val] S64x128.size (ctx_inb b h)
abbrev run0 (h : Fin 8) : Rect S8x4352x128 := Rect.unit (s := S8x4352x128) ![h.val, 0, 0] S1x1408x128.size (run0_inb h)
abbrev run1 (h : Fin 8) (j : Fin 2) : Rect S8x4352x128 := Rect.unit (s := S8x4352x128) ![h.val, 1408 + 1472 * j.val, 0] S1x1472x128.size (run_inb h j)

/-- Writing rows of the context. -/
def put (b : Fin 4) (h : Fin 8) (o : FVec F S64x128 .f32) : P F PUnit :=
  Prog.bind (Prog.lift (.load ctxM (ctxRect b h).toLoadRect (View.loadsAt_vmem h_S64x128))) fun _ =>
  Prog.lift (.store ctxM (ctxRect b h) (shapeCast S64x128 o shapeCasts_S64x128_S64x128) Finset.univ (View.stores_vmem_bits_univ h_S64x128 rfl) (.inl rfl))

def get0 (m : Memref sig .tc .vmem S8x4352x128 .f32) (h : Fin 8) : P F (Vec F S1x1408x128 .f32) :=
  Prog.lift (.load m (run0 h).toLoadRect (View.loadsAt_vmem h_S1x1408x128))
def get1 (m : Memref sig .tc .vmem S8x4352x128 .f32) (h : Fin 8) (j : Fin 2) : P F (Vec F S1x1472x128 .f32) :=
  Prog.lift (.load m (run1 h j).toLoadRect (View.loadsAt_vmem h_S1x1472x128))

def one12 (q : FVec F S256x128 .f32) (h : Fin 8) (b : Fin 4) (j : Fin 2) : P F PUnit :=
  Prog.bind (get1 kM h j) fun k => Prog.bind (get1 vM h j) fun v => put b h (out12 (rowsQ q b) k v)

def rest03 (q : FVec F S256x128 .f32) (num : FVec F S128x128 .f32) (den : FVec F S128x1 .f32) (h : Fin 8) : P F PUnit :=
  Prog.bind (put 0 h (extractStridedSlice S64x128 ![0, 0] (out03 num den) slices_S128x128_o0_0_S64x128)) fun _ =>
  Prog.bind (put 3 h (extractStridedSlice S64x128 ![64, 0] (out03 num den) slices_S128x128_o64_0_S64x128)) fun _ =>
  Prog.bind (one12 q h 1 0) fun _ => one12 q h 2 1

def attend (q : FVec F S256x128 .f32) (h : Fin 8) : P F PUnit :=
  Prog.bind (get0 kM h) fun k => Prog.bind (get0 vM h) fun v => rest03 q (num03 q k v) (den03 q k) h

/-- One head: its waits, then its attention. -/
def head (d : Dev nD) (q : FVec F S256x1024 .f32) (n : ℕ) : P F PUnit :=
  Prog.bind (seg (await d (hd n)) 0 136) fun _ => attend (headQ q (hd n)) (hd n)

/-! ## Projection, sum, and the whole -/

abbrev wholeRect : Rect S256x1024 := Rect.unit (s := S256x1024) ![0, 0] S256x1024.size inb_S256x1024_S256x1024_0_0
abbrev wholeX : Rect S1x256x1024 := Rect.unit (s := S1x256x1024) ![0, 0, 0] S1x256x1024.size inb_S1x256x1024_S1x256x1024_0_0_0
abbrev wholeW : Rect S1024x1024 := Rect.unit (s := S1024x1024) ![0, 0] S1024x1024.size inb_S1024x1024_S1024x1024_0_0

def partialOf (wo : Vec F S1024x1024 .f32) (ctx : Vec F S256x1024 .f32) : FVec F S256x1024 .bf16 :=
  truncf .bf16 (matmul dot_S256x1024_S1024x1024_S256x1024_1_0_0_1_n_n none (truncf .bf16 ctx bitsLt_bf16_f32)
    (truncf .bf16 (shapeCast S1024x1024 wo shapeCasts_S1024x1024_S1024x1024) bitsLt_bf16_f32) (constant S256x1024 .f32 0x00000000#32)) bitsLt_bf16_f32

def project : P F PUnit :=
  Prog.bind (Prog.lift (.load woM wholeW.toLoadRect (View.loadsAt_vmem h_S1024x1024))) fun (wo : Vec F S1024x1024 .f32) =>
  Prog.bind (Prog.lift (.load ctxM wholeRect.toLoadRect (View.loadsAt_vmem h_S256x1024))) fun (ctx : Vec F S256x1024 .f32) =>
  Prog.bind (Prog.lift (.load pM wholeRect.toLoadRect (View.loadsAt_vmem h_S256x1024))) fun _ =>
  Prog.lift (.store pM wholeRect (shapeCast S256x1024 (partialOf wo ctx) shapeCasts_S256x1024_S256x1024) Finset.univ
    (View.stores_vmem h_S256x1024 ((Memref.isWhole_whole cc0_scratch3).storeExact_slice rfl _ packedbf16_S256x1024_S256x1024_0_0) (fun _ => rfl)) (.inl rfl))

def summed (own : Vec F S16x1024 .bf16) (got : Vec F S15x16x1024 .bf16) : FVec F S16x1024 .bf16 :=
  truncf .bf16 (addf (extf .f32 own bitsLt_bf16_f32)
    (multiReduction .add [0] S16x1024 (extf .f32 got bitsLt_bf16_f32) 0x00000000#32 reduces_S15x16x1024_S16x1024 (.inl rfl) rfl)) bitsLt_bf16_f32

abbrev gotRect : Rect S16x16x1024 := Rect.unit (s := S16x16x1024) ![1, 0, 0] S15x16x1024.size inb_S16x16x1024_S15x16x1024_1_0_0

def combine (d : Dev nD) : P F PUnit :=
  Prog.bind (Prog.lift (.load pM (myRect d).toLoadRect (View.loadsAt_vmem h_S16x1024))) fun (own : Vec F S16x1024 .bf16) =>
  Prog.bind (Prog.lift (.load rsM gotRect.toLoadRect (View.loadsAt_vmem h_S15x16x1024))) fun (got : Vec F S15x16x1024 .bf16) =>
  Prog.bind (Prog.lift (.load outM (myRect d).toLoadRect (View.loadsAt_vmem h_S16x1024))) fun _ =>
  Prog.lift (.store outM (myRect d) (summed own got) Finset.univ
    (View.stores_vmem h_S16x1024 ((Memref.isWhole_whole cc0_stg3_0).storeExact_slice rfl _ (myOff_packed d)) (fun _ => rfl)) (.inl rfl))

def getX : P F (Vec F S1x256x1024 .f32) := Prog.lift (.load xM wholeX.toLoadRect (View.loadsAt_vmem h_S1x256x1024))
def getWq : P F (Vec F S1024x1024 .f32) := Prog.lift (.load wqM wholeW.toLoadRect (View.loadsAt_vmem h_S1024x1024))

def bar : P F PUnit := semWaitWord barSem 15#32

/-- The exchange that follows the projection. -/
def exchange (d : Dev nD) : P F PUnit :=
  Prog.bind (seg (send d) 0 15) fun _ =>
  Prog.bind (seg recv 0 15) fun _ =>
  Prog.bind (combine d) fun _ =>
  Prog.bind (seg (share d) 0 15) fun _ =>
  Prog.bind (seg heard 0 15) fun _ =>
  Prog.bind (seg (sent d) 0 15) fun _ =>
  seg (shared d) 0 15

/-- The program of device `d`. -/
def prog (d : Dev nD) : P F PUnit :=
  Prog.bind (seg (signal d) 0 15) fun _ =>
  Prog.bind bar fun _ =>
  Prog.bind (seg (start d) 0 1088) fun _ =>
  Prog.bind getX fun x => Prog.bind getWq fun wq =>
  Prog.bind (seg (head d (queries x wq)) 0 8) fun _ =>
  Prog.bind project fun _ => exchange d

end Cert.Attn
-- ==== Proof.Blocks.lean ====
/-
# The blocks the kernel moves and what they hold

The gathered keys and values are cut into slots of 64 rows, the context into blocks of 64 rows and 128 columns (one query
block, one head), the partial products and the result into chunks of 16 rows (one device each), the landing buffer into
slabs (one peer each). Each cut is by a function of the index, and each buffer's contents are one function of its index.
-/
module

public import proofs.«01_k».proof.Proof.Text
public import Idealize.ShloMosaic.Lib.ValueLayout
public import Idealize.ShloMosaic.Lib.Pointwise.Reshape
public import Idealize.ShloMosaic.Lib.Pipeline.Value

@[expose] public section

noncomputable section

namespace Cert.Attn

open Cert.KernelIdeal Cert.KernelIdeal.Gen
open Idealize.ShloMosaic Idealize.ShloMosaic.TcCoe
open Idealize.SL.Sem

variable {F : FTy → Type} [FloatOps F]

abbrev Ext (F : FTy → Type) := S1x4096x128x128.Idx → F .f32
abbrev Big (F : FTy → Type) := S8x4352x128.Idx → F .f32
abbrev Ctx (F : FTy → Type) := S256x1024.Idx → F .f32
abbrev Arr (F : FTy → Type) := S256x1024.Idx → F .bf16
abbrev Land (F : FTy → Type) := S16x16x1024.Idx → F .bf16

/-! ## Peers -/

/-- The peer at distance `1 + t`. -/
def dst (c : Dev nD) (t : Fin 15) : Dev nD := ⟨(c.val + (1 + t.val)) % 16, Nat.mod_lt _ (by decide)⟩

theorem peer_eq (c : Dev nD) (t : Fin 15) : peer c t = dst c t := Fin.ext (peerN_eq c t)

/-- The way back is the distance reversed. -/
theorem dst_rev : ∀ (c : Dev nD) (t : Fin 15), dst (dst c t) t.rev = c := by decide
theorem dst_rev' (c : Dev nD) (t : Fin 15) : dst (dst c t.rev) t = c := by
  have := dst_rev c t.rev; rwa [Fin.rev_rev] at this
theorem dst_injective : ∀ (c : Dev nD), Function.Injective (dst c) := by
  unfold Function.Injective; decide
theorem dst_ne : ∀ (c : Dev nD) (t : Fin 15), dst c t ≠ c := by decide
theorem univ_peers : ∀ c : Dev nD, (Finset.univ : Finset (Dev nD)) = insert c (Finset.univ.map ⟨dst c, dst_injective c⟩) := by
  intro c
  ext d
  simp only [Finset.mem_univ, true_iff, Finset.mem_insert, Finset.mem_map, true_and, Function.Embedding.coeFn_mk]
  revert c d; decide
theorem notMem_peers (c : Dev nD) : c ∉ (Finset.univ.map ⟨dst c, dst_injective c⟩ : Finset (Dev nD)) := fun h => by
  obtain ⟨t, -, e⟩ := Finset.mem_map.mp h
  exact dst_ne c t e

/-! ## Cuts -/

/-- The elements with a given key. -/
def fib {I J : Type} [Fintype I] [DecidableEq J] (g : I → J) (j : J) : Finset I := Finset.univ.filter fun i => g i = j

theorem mem_fib {I J : Type} [Fintype I] [DecidableEq J] {g : I → J} {j : J} {i : I} : i ∈ fib g j ↔ g i = j := by
  unfold fib; rw [Finset.mem_filter]; exact ⟨fun h => h.2, fun h => ⟨Finset.mem_univ i, h⟩⟩

theorem fib_disjoint {I J : Type} [Fintype I] [DecidableEq J] (g : I → J) (j j' : J) (h : j ≠ j') : Disjoint (fib g j) (fib g j') :=
  Finset.disjoint_left.mpr fun i hi hi' => h ((mem_fib.mp hi).symm.trans (mem_fib.mp hi'))

theorem fib_cover {I J : Type} [Fintype I] [DecidableEq I] [Fintype J] [DecidableEq J] (g : I → J) :
    (Finset.univ : Finset J).biUnion (fib g) = Finset.univ := by
  ext i
  simp only [Finset.mem_biUnion, Finset.mem_univ, true_and, iff_true]
  exact ⟨g i, mem_fib.mpr rfl⟩

/-- The head and the slot of a gathered row, -/
def slotOf (i : S8x4352x128.Idx) : Fin 8 × Fin 68 := (i 0, ⟨(i 1).val / 64, by have : (i 1).val < 4352 := (i 1).isLt; omega⟩)
/-- the query block and the head of an element of the context, -/
def ctxOf (i : S256x1024.Idx) : Fin 4 × Fin 8 :=
  (⟨(i 0).val / 64, by have : (i 0).val < 256 := (i 0).isLt; omega⟩, ⟨(i 1).val / 128, by have : (i 1).val < 1024 := (i 1).isLt; omega⟩)
/-- the device a row of the result is of, -/
def chunkOf (i : S256x1024.Idx) : Dev nD := ⟨(i 0).val / 16, by have : (i 0).val < 256 := (i 0).isLt; show _ < 16; omega⟩
/-- the slab of an element of the landing buffer. -/
def slabOf (i : S16x16x1024.Idx) : Dev nD := i 0

theorem slot_set (h : Fin 8) (i : Fin 68) :
    (Rect.unit (s := S8x4352x128) ![h.val, 64 * i.val, 0] S1x64x128.size (slot_inb h i)).set = fib slotOf (h, i) := by
  ext x
  rw [Rect.mem_set_unit, mem_fib]
  have h2 : (x 2).val < 128 := (x 2).isLt
  constructor
  · intro H
    have a0 : h.val ≤ (x 0).val ∧ (x 0).val < h.val + 1 := H 0
    have a1 : 64 * i.val ≤ (x 1).val ∧ (x 1).val < 64 * i.val + 64 := H 1
    refine Prod.ext (Fin.ext ?_) (Fin.ext ?_)
    · show (x 0).val = h.val; omega
    · show (x 1).val / 64 = i.val; omega
  · intro H d
    have a0 : (x 0).val = h.val := congrArg (fun z => z.1.val) H
    have a1 : (x 1).val / 64 = i.val := congrArg (fun z => z.2.val) H
    match d with
    | ⟨0, _⟩ => show h.val ≤ (x 0).val ∧ (x 0).val < h.val + 1; omega
    | ⟨1, _⟩ => show 64 * i.val ≤ (x 1).val ∧ (x 1).val < 64 * i.val + 64; omega
    | ⟨2, _⟩ => show 0 ≤ (x 2).val ∧ (x 2).val < 0 + 128; omega

theorem kSl_set (h : Fin 8) (i : Fin 68) : (dstSl kM h i).view.set = fib slotOf (h, i) :=
  (View.set_reshape _ _).trans ((View.set_slice_whole _ _).trans (slot_set h i))
theorem vSl_set (h : Fin 8) (i : Fin 68) : (dstSl vM h i).view.set = fib slotOf (h, i) :=
  (View.set_reshape _ _).trans ((View.set_slice_whole _ _).trans (slot_set h i))

theorem ctx_set (b : Fin 4) (h : Fin 8) : (ctxRect b h).set = fib ctxOf (b, h) := by
  ext x
  rw [Rect.mem_set_unit, mem_fib]
  constructor
  · intro H
    have a0 : 64 * b.val ≤ (x 0).val ∧ (x 0).val < 64 * b.val + 64 := H 0
    have a1 : 128 * h.val ≤ (x 1).val ∧ (x 1).val < 128 * h.val + 128 := H 1
    refine Prod.ext (Fin.ext ?_) (Fin.ext ?_)
    · show (x 0).val / 64 = b.val; omega
    · show (x 1).val / 128 = h.val; omega
  · intro H d
    have a0 : (x 0).val / 64 = b.val := congrArg (fun z => z.1.val) H
    have a1 : (x 1).val / 128 = h.val := congrArg (fun z => z.2.val) H
    match d with
    | ⟨0, _⟩ => show 64 * b.val ≤ (x 0).val ∧ (x 0).val < 64 * b.val + 64; omega
    | ⟨1, _⟩ => show 128 * h.val ≤ (x 1).val ∧ (x 1).val < 128 * h.val + 128; omega

theorem ctxAt_set (b : Fin 4) (h : Fin 8) : (ctxM.access (ctxRect b h)).set = fib ctxOf (b, h) := (View.set_slice_whole _ _).trans (ctx_set b h)

theorem rows_set (d : Dev nD) {off : Fin 2 → ℕ} (ho : off = ![16 * d.val, 0]) (inb) :
    (Rect.unit (s := S256x1024) off S16x1024.size inb).set = fib chunkOf d := by
  subst ho
  ext x
  rw [Rect.mem_set_unit, mem_fib]
  have h1 : (x 1).val < 1024 := (x 1).isLt
  constructor
  · intro H
    have a0 : 16 * d.val ≤ (x 0).val ∧ (x 0).val < 16 * d.val + 16 := H 0
    exact Fin.ext (show (x 0).val / 16 = d.val by omega)
  · intro H a
    have a0 : (x 0).val / 16 = d.val := congrArg Fin.val H
    match a with
    | ⟨0, _⟩ => show 16 * d.val ≤ (x 0).val ∧ (x 0).val < 16 * d.val + 16; omega
    | ⟨1, _⟩ => show 0 ≤ (x 1).val ∧ (x 1).val < 0 + 1024; omega

theorem pSl_set (c : Dev nD) (t : Fin 15) : (pSl c t).view.set = fib chunkOf (dst c t) :=
  (View.set_slice_whole _ _).trans (rows_set (dst c t) (peerOff_eq c t) _)
theorem mySl_set (c : Dev nD) : (mySl c).view.set = fib chunkOf c := (View.set_slice_whole _ _).trans (rows_set c (myOff_eq c) _)
theorem ownP_set (c : Dev nD) : (pM.access (myRect c)).set = fib chunkOf c := (View.set_slice_whole _ _).trans (rows_set c (myOff_eq c) _)
theorem ownO_set (c : Dev nD) : (outM.access (myRect c)).set = fib chunkOf c := (View.set_slice_whole _ _).trans (rows_set c (myOff_eq c) _)

theorem rsSl_set (t : Fin 15) : (rsSl t).view.set = fib slabOf (dst 0 t) := by
  refine (View.set_reshape _ _).trans ((View.set_slice_whole _ _).trans ?_)
  ext x
  rw [Rect.mem_set_unit, mem_fib]
  have hd : (dst 0 t).val = 1 + t.val := by revert t; decide
  have h1 : (x 1).val < 16 := (x 1).isLt
  have h2 : (x 2).val < 1024 := (x 2).isLt
  constructor
  · intro H
    have a0 : 1 + t.val ≤ (x 0).val ∧ (x 0).val < 1 + t.val + 1 := H 0
    exact Fin.ext (show (x 0).val = _ by rw [hd]; omega)
  · intro H a
    have a0 : (x 0).val = 1 + t.val := (congrArg Fin.val H).trans hd
    match a with
    | ⟨0, _⟩ => show 1 + t.val ≤ (x 0).val ∧ (x 0).val < 1 + t.val + 1; omega
    | ⟨1, _⟩ => show 0 ≤ (x 1).val ∧ (x 1).val < 0 + 16; omega
    | ⟨2, _⟩ => show 0 ≤ (x 2).val ∧ (x 2).val < 0 + 1024; omega

/-- The slabs read together are those of the fifteen peers. -/
theorem got_set : (rsM.access gotRect).set ⊆ (Finset.univ : Finset (Fin 15)).biUnion fun t => fib slabOf (dst 0 t) := by
  rw [show (rsM.access gotRect).set = gotRect.set from View.set_slice_whole _ _]
  intro x hx
  rw [Rect.mem_set_unit] at hx
  have a0 : 1 ≤ (x 0).val ∧ (x 0).val < 1 + 15 := hx 0
  refine Finset.mem_biUnion.mpr ⟨⟨(x 0).val - 1, by omega⟩, Finset.mem_univ _, mem_fib.mpr (Fin.ext ?_)⟩
  show (x 0).val = (0 + (1 + ((x 0).val - 1))) % 16
  omega

/-- The runs of rows one head reads lie in its slots. -/
theorem head_sub (r : Rect S8x4352x128) (h : Fin 8) (hr : ∀ x ∈ r.set, (x 0).val = h.val) :
    r.set ⊆ (Finset.univ : Finset (Fin 68)).biUnion fun i => fib slotOf (h, i) := fun x hx =>
  Finset.mem_biUnion.mpr ⟨(slotOf x).2, Finset.mem_univ _, mem_fib.mpr (Prod.ext (Fin.ext (hr x hx)) rfl)⟩

theorem run0_head (h : Fin 8) : ∀ x ∈ (run0 h).set, (x 0).val = h.val := fun x hx => by
  rw [Rect.mem_set_unit] at hx
  have a0 : h.val ≤ (x 0).val ∧ (x 0).val < h.val + 1 := hx 0
  omega
theorem run1_head (h : Fin 8) (j : Fin 2) : ∀ x ∈ (run1 h j).set, (x 0).val = h.val := fun x hx => by
  rw [Rect.mem_set_unit] at hx
  have a0 : h.val ≤ (x 0).val ∧ (x 0).val < h.val + 1 := hx 0
  omega

/-! ## Contents -/

/-- The rows device `c` gathers from the keys (values) `f`. -/
def gathered (c : Dev nD) (f : Ext F) : Big F := fun i =>
  f (ix4 (0 : Fin 1) (Fin.ofNat 4096 (64 * kb ((i 1).val / 64) + (i 1).val % 64)) (Fin.ofNat 128 (8 * c.val + (i 0).val)) (i 2))

theorem squeeze_src (h : (⟨2, ![64, 128]⟩ : Shape).numel = (⟨4, ![1, 64, 1, 128]⟩ : Shape).numel) (x : (⟨2, ![64, 128]⟩ : Shape).Idx) :
    Shape.reshapeEquiv h x = ix4 (0 : Fin 1) (x 0) (0 : Fin 1) (x 1) :=
  Shape.reshapeEquiv_eq_of_rowMajor h (by
    refine (Shape.rowMajor_val_four _).trans (Eq.trans ?_ (Shape.rowMajor_val_two _).symm)
    show (((0 * 64 + (x 0).val) * 1 + 0) * 128 + (x 1).val) = (x 0).val * 128 + (x 1).val
    omega)

theorem squeeze_dst {a b : ℕ} (h : (⟨2, ![a, b]⟩ : Shape).numel = (⟨3, ![1, a, b]⟩ : Shape).numel) (x : (⟨2, ![a, b]⟩ : Shape).Idx) :
    Shape.reshapeEquiv h x = ix3 (0 : Fin 1) (x 0) (x 1) :=
  Shape.reshapeEquiv_eq_of_rowMajor h (by
    refine (Shape.rowMajor_val_three _).trans (Eq.trans ?_ (Shape.rowMajor_val_two _).symm)
    show ((0 * a + (x 0).val) * b + (x 1).val) = (x 0).val * b + (x 1).val
    rw [Nat.zero_mul, Nat.zero_add])

theorem gathered_at (c : Dev nD) (h : Fin 8) (i : Fin 68) (f : Ext F) {w : S1x4096x128x128.Idx} {z : S8x4352x128.Idx} {r l : ℕ} (hr : r < 64)
    (z0 : (z 0).val = h.val) (z1 : (z 1).val = 64 * i.val + r) (z2 : (z 2).val = l)
    (w1 : (w 1).val = 64 * kb i.val + r) (w2 : (w 2).val = 8 * c.val + h.val) (w3 : (w 3).val = l) : f w = gathered c f z := by
  have hk := kb_lt i
  have hc : c.val < 16 := c.isLt
  have hh := h.isLt
  have w0 : (w 0).val < 1 := (w 0).isLt
  unfold gathered
  refine congrArg f (funext fun a => Fin.ext ?_)
  match a with
  | ⟨0, _⟩ => show (w 0).val = 0; omega
  | ⟨1, _⟩ =>
    show (w 1).val = (64 * kb ((z 1).val / 64) + (z 1).val % 64) % 4096
    rw [w1, z1, show (64 * i.val + r) / 64 = i.val by omega]
    omega
  | ⟨2, _⟩ => show (w 2).val = (8 * c.val + (z 0).val) % 128; omega
  | ⟨3, _⟩ => show (w 3).val = (z 2).val; omega

/-- One slot's source index and its place. -/
theorem slot_index (c : Dev nD) (h : Fin 8) (i : Fin 68) (x : (⟨2, ![64, 128]⟩ : Shape).Idx) (hn hn') (f : Ext F) :
    f ((Rect.unit (s := S1x4096x128x128) (srcOff c h.val i.val) S1x64x1x128.size (srcOff_inb c h i)).emb (Shape.reshapeEquiv (s' := ⟨2, ![64, 128]⟩) (s := S1x64x1x128) hn x))
      = gathered c f ((Rect.unit (s := S8x4352x128) ![h.val, 64 * i.val, 0] S1x64x128.size (slot_inb h i)).emb (Shape.reshapeEquiv (s' := ⟨2, ![64, 128]⟩) (s := S1x64x128) hn' x)) := by
  have a := squeeze_src hn x
  have b := squeeze_dst hn' x
  refine gathered_at c h i f (r := (x 0).val) (l := (x 1).val) (x 0).isLt ?_ ?_ ?_ ?_ ?_ ?_
  · exact (Rect.emb_apply _ _ _).trans ((congrArg (fun u : S1x64x128.Idx => h.val + 1 * (u 0).val) b).trans rfl)
  · exact (Rect.emb_apply _ _ _).trans ((congrArg (fun u : S1x64x128.Idx => 64 * i.val + 1 * (u 1).val) b).trans (congrArg (64 * i.val + ·) (Nat.one_mul _)))
  · exact (Rect.emb_apply _ _ _).trans ((congrArg (fun u : S1x64x128.Idx => 0 + 1 * (u 2).val) b).trans (by show 0 + 1 * (x 1).val = (x 1).val; omega))
  · exact (Rect.emb_apply _ _ _).trans ((congrArg (fun u : S1x64x1x128.Idx => 64 * kb i.val + 1 * (u 1).val) a).trans (congrArg (64 * kb i.val + ·) (Nat.one_mul _)))
  · exact (Rect.emb_apply _ _ _).trans ((congrArg (fun u : S1x64x1x128.Idx => srcOff c h.val i.val 2 + 1 * (u 2).val) a).trans (head_word c h))
  · exact (Rect.emb_apply _ _ _).trans ((congrArg (fun u : S1x64x1x128.Idx => 0 + 1 * (u 3).val) a).trans (by show 0 + 1 * (x 1).val = (x 1).val; omega))

theorem k_slot (c : Dev nD) (h : Fin 8) (i : Fin 68) (f : Ext F) (g : Big F) : ∀ x ∈ fib slotOf (h, i),
    (dstSl kM h i).view.write (Elt F) g ((srcSl keyM c h i).view.read (Elt F) f) Finset.univ x = gathered c f x := fun x hx => by
  rw [← kSl_set] at hx
  obtain ⟨y, -, rfl⟩ := Finset.mem_map.mp hx
  rw [View.write_emb_of_mem _ _ (Finset.mem_univ y)]
  exact slot_index c h i y _ _ f
theorem v_slot (c : Dev nD) (h : Fin 8) (i : Fin 68) (f : Ext F) (g : Big F) : ∀ x ∈ fib slotOf (h, i),
    (dstSl vM h i).view.write (Elt F) g ((srcSl valM c h i).view.read (Elt F) f) Finset.univ x = gathered c f x := fun x hx => by
  rw [← vSl_set] at hx
  obtain ⟨y, -, rfl⟩ := Finset.mem_map.mp hx
  rw [View.write_emb_of_mem _ _ (Finset.mem_univ y)]
  exact slot_index c h i y _ _ f

def readK0 (k : Big F) (h : Fin 8) : Vec F S1x1408x128 .f32 := fun j => k ((run0 h).emb j)
def readK1 (k : Big F) (h : Fin 8) (j : Fin 2) : Vec F S1x1472x128 .f32 := fun x => k ((run1 h j).emb x)

/-- One head's output for query blocks 0 and 3, -/
def both03 (q : FVec F S256x128 .f32) (k v : Big F) (h : Fin 8) : FVec F S128x128 .f32 :=
  out03 (num03 q (readK0 k h) (readK0 v h)) (den03 q (readK0 k h))
/-- and for each query block. -/
def outBlock (q : FVec F S256x128 .f32) (k v : Big F) (h : Fin 8) : Fin 4 → FVec F S64x128 .f32
  | 0 => extractStridedSlice S64x128 ![0, 0] (both03 q k v h) slices_S128x128_o0_0_S64x128
  | 1 => out12 (rowsQ q 1) (readK1 k h 0) (readK1 v h 0)
  | 2 => out12 (rowsQ q 2) (readK1 k h 1) (readK1 v h 1)
  | 3 => extractStridedSlice S64x128 ![64, 0] (both03 q k v h) slices_S128x128_o64_0_S64x128

/-- The context: every head, every query block. -/
def ctxVal (q : FVec F S256x1024 .f32) (k v : Big F) : Ctx F := fun i =>
  outBlock (headQ q (ctxOf i).2) k v (ctxOf i).2 (ctxOf i).1 (ix2 (Fin.ofNat 64 (i 0).val) (Fin.ofNat 128 (i 1).val))

theorem put_val (b : Fin 4) (h : Fin 8) (q : FVec F S256x1024 .f32) (k v : Big F) (g : Ctx F) : ∀ x ∈ fib ctxOf (b, h),
    (ctxM.access (ctxRect b h)).write (Elt F) g (shapeCast S64x128 (outBlock (headQ q h) k v h b) shapeCasts_S64x128_S64x128) Finset.univ x = ctxVal q k v x := fun x hx => by
  have hk : ctxOf x = (b, h) := mem_fib.mp hx
  rw [← ctx_set, ← Rect.map_emb_univ] at hx
  obtain ⟨y, -, rfl⟩ := Finset.mem_map.mp hx
  refine (View.write_emb_of_mem (v := ctxM.access (ctxRect b h)) _ _ (Finset.mem_univ y)).trans ?_
  rw [shapeCast_self]
  unfold ctxVal
  rw [hk]
  have h0 : (y 0).val < 64 := (y 0).isLt
  have h1 : (y 1).val < 128 := (y 1).isLt
  have e0 : (((ctxRect b h).emb y) 0 : ℕ) = 64 * b.val + 1 * (y 0).val := Rect.emb_apply _ _ _
  have e1 : (((ctxRect b h).emb y) 1 : ℕ) = 128 * h.val + 1 * (y 1).val := Rect.emb_apply _ _ _
  refine congrArg (outBlock (headQ q h) k v h b) (funext fun a => Fin.ext ?_)
  match a with
  | ⟨0, _⟩ => show (y 0).val = _ % 64; rw [e0]; omega
  | ⟨1, _⟩ => show (y 1).val = _ % 128; rw [e1]; omega

/-- What lands on device `c`: in slab `s`, the rows of chunk `c` of the partial product of the device `s` before it. -/
def landed (pr : Dev nD → Arr F) (c : Dev nD) : Land F := fun i =>
  pr ⟨(c.val + 16 - (i 0).val) % 16, Nat.mod_lt _ (by decide)⟩ (ix2 (Fin.ofNat 256 (16 * c.val + (i 1).val)) (i 2))

theorem landed_at (pr : Dev nD → Arr F) (c : Dev nD) (t : Fin 15) {w : S256x1024.Idx} {z : S16x16x1024.Idx} {r l : ℕ} (hr : r < 16)
    (z0 : (z 0).val = 1 + t.val) (z1 : (z 1).val = r) (z2 : (z 2).val = l)
    (w0 : (w 0).val = 16 * ((c.val + (1 + t.val)) % 16) + r) (w1 : (w 1).val = l) : pr c w = landed pr (dst c t) z := by
  have hc : c.val < 16 := c.isLt
  have ht := t.isLt
  unfold landed
  refine congr (congrArg pr (Fin.ext ?_)) (funext fun a => Fin.ext ?_)
  · show c.val = ((c.val + (1 + t.val)) % 16 + 16 - (z 0).val) % 16
    omega
  · match a with
    | ⟨0, _⟩ => show (w 0).val = (16 * ((c.val + (1 + t.val)) % 16) + (z 1).val) % 256; omega
    | ⟨1, _⟩ => show (w 1).val = (z 2).val; omega

theorem land_val (pr : Dev nD → Arr F) (c : Dev nD) (t : Fin 15) (g : Land F) : ∀ x ∈ fib slabOf (dst 0 t),
    (rsSl t).view.write (Elt F) g ((pSl c t).view.read (Elt F) (pr c)) Finset.univ x = landed pr (dst c t) x := fun x hx => by
  rw [← rsSl_set] at hx
  obtain ⟨y, -, rfl⟩ := Finset.mem_map.mp hx
  rw [View.write_emb_of_mem _ _ (Finset.mem_univ y)]
  have b := squeeze_dst (a := 16) (b := 1024) (by decide) y
  refine landed_at pr c t (r := (y 0).val) (l := (y 1).val) (y 0).isLt ?_ ?_ ?_ ?_ ?_
  · exact (Rect.emb_apply _ _ _).trans ((congrArg (fun u : S1x16x1024.Idx => 1 + t.val + 1 * (u 0).val) b).trans rfl)
  · exact (Rect.emb_apply _ _ _).trans ((congrArg (fun u : S1x16x1024.Idx => 0 + 1 * (u 1).val) b).trans (by show 0 + 1 * (y 0).val = (y 0).val; omega))
  · exact (Rect.emb_apply _ _ _).trans ((congrArg (fun u : S1x16x1024.Idx => 0 + 1 * (u 2).val) b).trans (by show 0 + 1 * (y 1).val = (y 1).val; omega))
  · exact (Rect.emb_apply _ _ _).trans (congr (congrArg (· + ·) (congrFun (peerOff_eq c t) 0)) (Nat.one_mul _))
  · exact (Rect.emb_apply _ _ _).trans ((congrArg (· + 1 * (y 1).val) (congrFun (peerOff_eq c t) 1)).trans (by show 0 + 1 * (y 1).val = (y 1).val; omega))

/-- The rows a device sums, -/
def sumRows (pr : Dev nD → Arr F) (d : Dev nD) : FVec F S16x1024 .bf16 :=
  summed (fun y => pr d ((myRect d).emb y)) (fun y => landed pr d (gotRect.emb y))
/-- and the finished result. -/
def fin (pr : Dev nD → Arr F) : Arr F := fun i => sumRows pr (chunkOf i) (ix2 (Fin.ofNat 16 (i 0).val) (i 1))

theorem sum_val (pr : Dev nD → Arr F) (c : Dev nD) (g : Arr F) : ∀ x ∈ fib chunkOf c,
    (outM.access (myRect c)).write (Elt F) g (sumRows pr c) Finset.univ x = fin pr x := fun x hx => by
  have hk : chunkOf x = c := mem_fib.mp hx
  rw [← rows_set c (myOff_eq c) (myOff_inb c), ← Rect.map_emb_univ] at hx
  obtain ⟨y, -, rfl⟩ := Finset.mem_map.mp hx
  refine (View.write_emb_of_mem (v := outM.access (myRect c)) _ _ (Finset.mem_univ y)).trans ?_
  unfold fin
  have hk' : chunkOf ((myRect c).emb y) = c := hk
  show sumRows pr c y = sumRows pr (chunkOf ((myRect c).emb y)) (ix2 (Fin.ofNat 16 (((myRect c).emb y) 0).val) (((myRect c).emb y) 1))
  rw [hk']
  have h0 : (y 0).val < 16 := (y 0).isLt
  have e0 : (((myRect c).emb y) 0 : ℕ) = myOff c 0 + 1 * (y 0).val := Rect.emb_apply _ _ _
  have e1 : (((myRect c).emb y) 1 : ℕ) = myOff c 1 + 1 * (y 1).val := Rect.emb_apply _ _ _
  rw [show myOff c 0 = 16 * c.val from congrFun (myOff_eq c) 0] at e0
  rw [show myOff c 1 = 0 from congrFun (myOff_eq c) 1] at e1
  refine congrArg (sumRows pr c) (funext fun a => Fin.ext ?_)
  match a with
  | ⟨0, _⟩ => show (y 0).val = _ % 16; rw [e0]; omega
  | ⟨1, _⟩ => show (y 1).val = (((myRect c).emb y) 1).val; omega

theorem share_val (c : Dev nD) (f g : Arr F) : ∀ x ∈ fib chunkOf c,
    (mySl c).view.write (Elt F) g ((mySl c).view.read (Elt F) f) Finset.univ x = f x := fun x hx => by
  rw [← mySl_set] at hx
  obtain ⟨y, -, rfl⟩ := Finset.mem_map.mp hx
  rw [View.write_emb_of_mem _ _ (Finset.mem_univ y)]
  rfl

/-! ## What one device computes -/

/-- A device's operands. -/
structure In (F : FTy → Type) where
  x : Vec F S1x256x1024 .f32
  wq : Vec F S1024x1024 .f32
  k : Ext F
  v : Ext F
  wo : Vec F S1024x1024 .f32

/-- Its context and its partial product. -/
def ctxOn (I : In F) (c : Dev nD) : Ctx F := ctxVal (queries I.x I.wq) (gathered c I.k) (gathered c I.v)
def part (I : Dev nD → In F) (c : Dev nD) : Arr F := partialOf (I c).wo (ctxOn (I c) c)

end Cert.Attn

end
-- ==== Proof.Plan.lean ====
/-
# The plan: semaphore cells, what each is paid with, what a device owes

A device has sixty-one cells, one round each: the runtime's barrier (fifteen units, one from each peer) and, for every
distance `1 + t`, the send and receive semaphores of the partial products (`rsS t`, `rsR t`) and of the finished rows
(`agS t`, `agR t`). The semaphores of the gathers are not among them: those transfers stay on the device.

* The unit of the peer at distance `1 + t` on device `c`'s barrier hands over that peer's landing slab `1 + t` and its
  chunk `c` of the result: whoever passes the barrier may write them.
* A landing brings the rows sent; its send cell gives the rows they were read from back (the finished rows at a share:
  fifteen transfers read them at once).

A device pays, in this order, the barriers of its peers, their landing cells `rsR`, their landing cells `agR`: the entries
of `itemCl` from the last to the first. Each wait is on a cell of a lower number (`lvC`) than any cell still owed then.
-/
module

public import proofs.«01_k».proof.Proof.Blocks
public import Idealize.ShloMosaic.Lib.Pipeline.Launch
public import Idealize.ShloMosaic.Lib.Batch
public import Idealize.ShloMosaic.Lib.Ring
public import Mathlib.Tactic.DeriveFintype

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, this kernel's (duties named by the distance), the gathers' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## Cells -/

/-- A device's cells. -/
inductive Cl where
  | bar
  | rsS (t : Fin 15)
  | rsR (t : Fin 15)
  | agS (t : Fin 15)
  | agR (t : Fin 15)
deriving DecidableEq, Fintype

/-- The semaphore of a cell. -/
def semOf : Cl → SemLoc sig
  | .bar => .reg (0 : Fin 1)
  | .rsS t => .dma (⟨21 + t.val, by omega⟩ : Fin 84)
  | .rsR t => .dma (⟨37 + t.val, by omega⟩ : Fin 84)
  | .agS t => .dma (⟨53 + t.val, by omega⟩ : Fin 84)
  | .agR t => .dma (⟨69 + t.val, by omega⟩ : Fin 84)

/-- The cell of a semaphore, if it is one's. -/
def clOf : SemLoc sig → Option Cl
  | .reg _ => some .bar
  | .dma q =>
    if q.val < 20 then none
    else if q.val % 16 = 4 then none
    else if q.val < 36 then some (.rsS (Fin.ofNat 15 (q.val - 21)))
    else if q.val < 52 then some (.rsR (Fin.ofNat 15 (q.val - 37)))
    else if q.val < 68 then some (.agS (Fin.ofNat 15 (q.val - 53)))
    else some (.agR (Fin.ofNat 15 (q.val - 69)))

theorem clOf_semOf (k : Cl) : clOf (semOf k) = some k := by revert k; decide

theorem semOf_injective : Function.Injective semOf := fun a b h => Option.some.inj (by rw [← clOf_semOf a, ← clOf_semOf b, h])

/-- Cell `k` of device `c`. -/
abbrev cell (c : Dev nD) (k : Cl) : GSem nD τ sig := ((c : Thread nD τ), semOf k)

theorem cell_injective : Function.Injective fun ck : Dev nD × Cl => cell ck.1 ck.2 := by
  rintro ⟨c, k⟩ ⟨c', k'⟩ h
  have h1 : c = c' := congrArg (fun g : GSem nD τ sig => g.1.1) h
  have h2 : k = k' := semOf_injective (congrArg Prod.snd h)
  rw [h1, h2]

theorem cell_eq_iff {c c' : Dev nD} {k k' : Cl} : Iff (cell c k = cell c' k') (c = c' ∧ k = k') :=
  ⟨fun h => by have := @cell_injective (c, k) (c', k') h; exact ⟨congrArg Prod.fst this, congrArg Prod.snd this⟩, fun ⟨h, h'⟩ => by rw [h, h']⟩

/-- What a transfer of sixteen rows credits its cells with. -/
def cr : ℕ := (cc0_stg3_0 : Ref sig .tc).dmaCredit S16x1024 .bf16

theorem cr_pos : 0 < cr := sig.dmaCredit_pos _ _ _ _ _ (by decide)

/-- The amount of one duty of a cell. -/
def amt : Cl → ℕ
  | .bar => 1
  | _ => cr

theorem amt_pos (k : Cl) : 0 < amt k := by
  cases k
  · exact Nat.one_pos
  all_goals exact cr_pos

/-- The duties of a cell's round. -/
def duts : Cl → Finset (Fin 15)
  | .bar => Finset.univ
  | _ => {0}

/-! ## Assertions on the buffers -/

/-- Slab `1 + t` of device `c`'s landing buffer holds `f`; -/
def rsPts (c : Dev nD) (t : Fin 15) (f : Land F) : sProp 𝕄 := ((c : Thread nD τ).loc cc0_scratch4) ↦[fib slabOf (dst 0 t)]{fullShare} f
/-- chunk `d` of its partial product; -/
def pPts (c d : Dev nD) (f : Arr F) : sProp 𝕄 := ((c : Thread nD τ).loc cc0_scratch3) ↦[fib chunkOf d]{fullShare} f
/-- chunk `d` of its result, at share `q`. -/
def oPts (c d : Dev nD) (q : PosShare TreeShare) (f : Arr F) : sProp 𝕄 := ((c : Thread nD τ).loc cc0_stg3_0) ↦[fib chunkOf d]{q} f

omit [FloatOps F] in
instance rsPts_storable (c : Dev nD) (t f) : BI.Storable (upEmb : UEmb _ 𝕄) (rsPts (F := F) c t f) := by unfold rsPts; infer_instance
omit [FloatOps F] in
instance pPts_storable (c d : Dev nD) (f) : BI.Storable (upEmb : UEmb _ 𝕄) (pPts (F := F) c d f) := by unfold pPts; infer_instance
omit [FloatOps F] in
instance oPts_storable (c d : Dev nD) (q f) : BI.Storable (upEmb : UEmb _ 𝕄) (oPts (F := F) c d q f) := by unfold oPts; infer_instance

/-- The share at which the transfer to distance `1 + t` reads the finished rows. -/
def shr (t : Fin 15) : PosShare TreeShare := Transfers.dealOf fullShare Finset.univ t

/-! ## The schedule -/

/-- What duty `d` of cell `k` of device `c` is paid with. -/
def pay (x : Dev nD → Arr F) (c : Dev nD) : Cl → Fin 15 → sProp 𝕄
  | .bar, d => iprop((∃ f, rsPts (dst c d) d f) ∗ ∃ g, oPts (dst c d) c fullShare g)
  | .rsS t, _ => pPts c (dst c t) (x c)
  | .rsR t, _ => rsPts c t (landed x c)
  | .agS t, _ => oPts c c (shr t) (fin x)
  | .agR t, _ => oPts c (dst c t.rev) fullShare (fin x)

instance pay_storable (x : Dev nD → Arr F) (c : Dev nD) (k : Cl) (d : Fin 15) : BI.Storable (upEmb : UEmb _ 𝕄) (pay x c k d) := by
  cases k <;> (unfold pay; infer_instance)

/-- One round, round 0, of every cell. -/
def Rd (x : Dev nD → Arr F) : Rounds.Schedule (GSem nD τ sig) (Fin 15) 𝕄 where
  duties g r := if r = 0 ∧ g.1.2 = .tc then ((clOf g.2).map duts).getD ∅ else ∅
  unitless _ := False
  amount g _ _ := ((clOf g.2).map amt).getD 1
  payload g _ d := ((clOf g.2).map fun k => pay x g.1.1 k d).getD iprop(emp)
  amount_pos g _ _ _ := by
    cases clOf g.2 with
    | none => exact Nat.one_pos
    | some k => exact amt_pos k

instance Rd_storable (x : Dev nD → Arr F) (g : GSem nD τ sig) (r : ℕ) (d : Fin 15) :
    BI.Storable (upEmb : UEmb _ 𝕄) ((Rd x).payload g r d) := by
  show BI.Storable upEmb (((clOf g.2).map fun k => pay x g.1.1 k d).getD iprop(emp))
  cases clOf g.2 with
  | none => show BI.Storable upEmb iprop(emp); infer_instance
  | some k => show BI.Storable upEmb (pay x g.1.1 k d); infer_instance

section Sched
variable (x : Dev nD → Arr F) (c : Dev nD) (k : Cl)

theorem duties_cell : (Rd x).duties (cell c k) 0 = duts k := by
  show (if (0 : ℕ) = 0 ∧ (cell c k).1.2 = .tc then ((clOf (semOf k)).map duts).getD ∅ else ∅) = duts k
  rw [if_pos ⟨rfl, rfl⟩, clOf_semOf]; rfl

theorem duties_later (g : GSem nD τ sig) : ∀ r, 1 ≤ r → (Rd x).duties g r = ∅ :=
  fun r hr => if_neg fun h => by have := h.1; omega

theorem amount_cell (d : Fin 15) : (Rd x).amount (cell c k) 0 d = amt k := by
  show ((clOf (semOf k)).map amt).getD 1 = amt k
  rw [clOf_semOf]; rfl

theorem payload_cell (d : Fin 15) : (Rd x).payload (cell c k) 0 d = pay x c k d := by
  show ((clOf (semOf k)).map fun k => pay x c k d).getD iprop(emp) = pay x c k d
  rw [clOf_semOf]; rfl

/-- The amount a wait for the whole round takes. -/
theorem expect_cell : (Rd x).expect (cell c k) 0 = (duts k).card * amt k := by
  unfold Schedule.expect Schedule.amountOf
  rw [duties_cell, Finset.sum_congr rfl fun d _ => amount_cell x c k d, Finset.sum_const, smul_eq_mul]

/-- The whole round's payloads. -/
theorem rest_cell : bigSep ((Rd x).duties (cell c k) 0 \ ∅) (fun d => (Rd x).payload (cell c k) 0 d) = bigSep (duts k) fun d => pay x c k d := by
  rw [Finset.sdiff_empty, duties_cell]
  exact bigSep_congr fun d _ => payload_cell x c k d

end Sched

/-! ## What a device owes -/

/-- The distance of the `i`-th payment from the end, -/
def itemT (i : ℕ) : Fin 15 := Fin.ofNat 15 (14 - i % 15)
/-- its cell at that peer. -/
def itemCl (i : ℕ) : Cl := if i < 15 then .agR (itemT i) else if i < 30 then .rsR (itemT i) else .bar

/-- What device `c` owes when `n` payments are left. -/
def Owe (c : Dev nD) : ℕ → CellTallies nD τ sig Unit
  | 0 => 0
  | n + 1 => Owe c n + tallyAt (cell (dst c (itemT n)) (itemCl n)) () (amt (itemCl n))

/-- The payment to the peer at distance `1 + t` in each of the three turns. -/
theorem owe_bar (c : Dev nD) : ∀ t : Fin 15, Owe c (45 - t.val) = Owe c (45 - (t.val + 1)) + tallyAt (cell (dst c t) .bar) () 1 := by
  intro t; fin_cases t <;> rfl
theorem owe_rs (c : Dev nD) : ∀ t : Fin 15, Owe c (30 - t.val) = Owe c (30 - (t.val + 1)) + tallyAt (cell (dst c t) (.rsR t)) () cr := by
  intro t; fin_cases t <;> rfl
theorem owe_ag (c : Dev nD) : ∀ t : Fin 15, Owe c (15 - t.val) = Owe c (15 - (t.val + 1)) + tallyAt (cell (dst c t) (.agR t)) () cr := by
  intro t; fin_cases t <;> rfl

theorem Owe_pos {c : Dev nD} {n : ℕ} {g : GSem nD τ sig} {u : Unit} (h : 0 < Owe c n g u) : ∃ i < n, g = cell (dst c (itemT i)) (itemCl i) := by
  induction n with
  | zero => exact absurd h (Nat.lt_irrefl 0)
  | succ n ih =>
    rw [Owe, Pi.add_apply, Finsupp.add_apply, tallyAt_apply] at h
    by_cases hg : g = cell (dst c (itemT n)) (itemCl n)
    · exact ⟨n, Nat.lt_succ_self n, hg⟩
    · rw [if_neg fun h' => hg h'.1, Nat.add_zero] at h
      obtain ⟨i, hi, e⟩ := ih h
      exact ⟨i, Nat.lt_succ_of_lt hi, e⟩

/-! ## Levels of the waits -/

/-- The number of a cell: barrier 1, the landings of partial products 2, those of finished rows 3, send cells 0. -/
def lvC : Cl → ℕ
  | .bar => 1
  | .rsR _ => 2
  | .agR _ => 3
  | _ => 0

/-- The number of a semaphore; one that is no cell of the kernel's (a staging buffer's, a gather's) has 0. -/
def lvS (s : SemLoc sig) : ℕ := ((clOf s).map lvC).getD 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_semOf (k : Cl) : lvS (semOf k) = lvC k := by unfold lvS; rw [clOf_semOf]; rfl

omit [FloatOps F] in
/-- A wait on `sm` is allowed while the last `n` payments are owed if `sm`'s number is below all of their cells'. -/
theorem mayWait (c : Dev nD) (sm : SemLoc sig) (n : ℕ) (h : ∀ i < n, lvS sm < lvC (itemCl i)) :
    (levAts L lv : sProp 𝕄) ⊢ MayWait (c : Thread nD τ) sm () (Owe c n) :=
  MayOwe.of_cut (L := L) (lev := lv) (lvS sm) (fun p hp => by rw [Finset.mem_singleton.mp hp, L_tc]; exact Finset.mem_singleton_self _)
    (fun g u hg => by obtain ⟨i, -, rfl⟩ := Owe_pos hg; exact Finset.mem_singleton_self _)
    (fun p hp => by rw [Finset.mem_singleton.mp hp]; exact le_refl _)
    (fun g u hg => by
      obtain ⟨i, hi, rfl⟩ := Owe_pos hg
      show lvS sm < lvS (semOf (itemCl i))
      rw [lvS_semOf]; exact h i hi)

end Cert.Attn

end
-- ==== Proof.Steps.lean ====
/-
# The steps of the kernel's protocol

One lemma per kind of step, for any distance: a wait for a cell's whole round (which also closes the cell), a barrier
signal, the transfer of a chunk of the partial product, the transfer of the finished rows.
-/
module

public import proofs.«01_k».proof.Proof.Plan

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (x : Dev nD → Arr F) (K : Dev nD × Cl → ℕ)

/-! ## What everyone knows -/

/-- Every cell's invariant, and that its round 0 has been reached. -/
def records : sProp 𝕄 :=
  iprop((bigSep Finset.univ fun ck : Dev nD × Cl => cellInv ER (Rd x) (K ck) (cell ck.1 ck.2))
    ∗ bigSep Finset.univ fun ck : Dev nD × Cl => reached ER (cell ck.1 ck.2) 0)

instance records_persistent : BI.Persistent (records x K) := by unfold records; infer_instance

theorem inv_of (ck : Dev nD × Cl) :
    (bigSep Finset.univ fun ck : Dev nD × Cl => (cellInv ER (Rd x) (K ck) (cell ck.1 ck.2) : sProp 𝕄)) ⊢ cellInv ER (Rd x) (K ck) (cell ck.1 ck.2) :=
  bigSep_elim (Finset.mem_univ ck)
omit [FloatOps F] in
theorem reached_of (ck : Dev nD × Cl) :
    (bigSep Finset.univ fun ck : Dev nD × Cl => (reached ER (cell ck.1 ck.2) 0 : sProp 𝕄)) ⊢ reached ER (cell ck.1 ck.2) 0 :=
  bigSep_elim (Finset.mem_univ ck)

theorem inv_at (c : Dev nD) (k : Cl) : records x K ⊢ cellInv ER (Rd x) (K (c, k)) (cell c k) := by
  unfold records
  iintro ⟨HI, -⟩
  iapply (inv_of x K (c, k))
  iexact HI

theorem reached_at (c : Dev nD) (k : Cl) : records x K ⊢ reached ER (cell c k) 0 := by
  unfold records
  iintro ⟨-, HR⟩
  iapply (reached_of (F := F) (c, k))
  iexact HR

/-- Device `c` owes `O`, whatever waits it has recorded. -/
def owesE (c : Dev nD) (O : CellTallies nD τ sig Unit) : sProp 𝕄 := iprop(∃ W : Waits sig Unit, owes (c : Thread nD τ) O W)

/-! ## A wait for a whole round -/

/-- The wait for all of cell `k`'s round: the round's payloads, and the cell closed, its counter at zero. -/
theorem wp_whole (c : Dev nD) (k : Cl) (n : ℕ) (hn : ∀ i < n, lvC k < lvC (itemCl i))
    {w : TpuEff nD τ sig (Elt F) Λ₀ .tc PUnit} {a N : ℕ} (hN : (duts k).card * amt k = N) (ha : a = N) (sm : SemLoc sig) (hsm : sm = semOf k)
    (hw : ∀ Kt : PUnit → sProp 𝕄, wpE (defs₀ (F := F)) 𝒱₀ (c : Thread nD τ) none Set.univ w Kt = waitSpec (c : Thread nD τ) Set.univ sm a Kt)
    {α : Type} {Q : α → sProp 𝕄} {kt : PUnit → Prog (TpuEff nD τ sig (Elt F) Λ₀ .tc) α} :
    iprop(records x K ∗ levAts L lv ∗ cred (tallyAt (cell c k) () N) ∗ owesE c (Owe c n) ∗ atPos ER (cell c k) 0 ∅ 0)
      ⊢ iprop(((owesE c (Owe c n) ∗ semVal (cell c k) 0 ∗ bigSep (duts k) fun d => pay x c k d)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  subst hsm ha
  unfold owesE
  iintro ⟨#HR, #Hlev, Hc, ⟨%W, HO⟩, Hat⟩ Hk
  iapply (Rounds.wp_wait_rest_token 𝒱₀ ER (Rd x) (c : Thread nD τ) none (κ := K (c, k)) hw (Set.mem_univ _) () (O := Owe c n) (W := W)
      (R := 0) (m := 0) (T := ∅) (by rw [Nat.zero_add, expect_cell, hN])) $$ [Hc HO Hat]
  · isplitr; · iapply (inv_at x K c k); iexact HR
    isplitl [Hc]; · iexact Hc
    isplitl [HO]; · iexact HO
    isplitr; · iapply (mayWait c (semOf k) n (fun i hi => by rw [lvS_semOf]; exact hn i hi)); iexact Hlev
    iexact Hat
  iintro ⟨HO, Hat, -, Hpay⟩
  ihave Hp := (Entails.of_eq (rest_cell x c k)) $$ Hpay
  imod (Rounds.cell_close ER (Rd x) (Set.mem_univ (K (c, k))) (fun h => h) (R := 0 + 1) (duties_later x (cell c k))) $$ [Hat] with Hz
  · isplitr; · iapply (inv_at x K c k); iexact HR
    iexact Hat
  iapply Hk
  isplitl [HO]; · iexists _; iexact HO
  isplitl [Hz]; · iexact Hz
  iexact Hp

/-! ## The programs' weakest preconditions, and their loops -/

/-- A program of device `c`. -/
abbrev W (c : Dev nD) {α : Type} (p : P F α) (Q : α → sProp 𝕄) : sProp 𝕄 := wp frame (wpE (defs₀ (F := F)) 𝒱₀ (c : Thread nD τ) none) Set.univ p Q

theorem W_ret {c : Dev nD} {α : Type} {a : α} {Q : α → sProp 𝕄} : Q a ⊢ W c (.ret a) Q := by
  show Q a ⊢ iprop(|={Set.univ}=> Q a)
  iintro H
  imodintro
  iexact H

/-- A program's triple, before the rest of the program. -/
theorem run_then {c : Dev nD} {p : P F PUnit} {A B : sProp 𝕄} (h : A ⊢ W c p fun _ => B) {α : Type} {k : PUnit → P F α} {Q : α → sProp 𝕄} :
    A ⊢ iprop((B -∗ W c (k ⟨⟩) Q) -∗ W c (Prog.bind p k) Q) := by
  iintro HA Hk
  iapply (Entails.of_eq (wp_bind frame (wpE (defs₀ (F := F)) 𝒱₀ (c : Thread nD τ) none) Set.univ p k Q).symm)
  ihave Hw := h $$ HA
  iapply (wp_wand frame (wpE (defs₀ (F := F)) 𝒱₀ (c : Thread nD τ) none)) $$ Hw
  iintro %_ HB
  iapply Hk
  iexact HB

omit [FloatOps F] in
theorem bigSep_fin_succ {n : ℕ} (Φ : Fin (n + 1) → sProp 𝕄) : bigSep Finset.univ Φ = iprop(Φ 0 ∗ bigSep Finset.univ fun i : Fin n => Φ i.succ) := by
  rw [Fin.univ_succ, Finset.cons_eq_insert, BI.bigSep_insert (by simp), BI.bigSep_map]; rfl

/-- A loop: each turn takes its part of the resources and the invariant along. -/
theorem wp_seg {c : Dev nD} {R : sProp 𝕄} [BI.Persistent R] : ∀ (n : ℕ) (f : ℕ → P F PUnit) (a : ℕ) (Pre Post : Fin n → sProp 𝕄) (I : ℕ → sProp 𝕄),
    (∀ i : Fin n, iprop(R ∗ Pre i ∗ I i.val) ⊢ W c (f (a + i.val)) fun _ => iprop(Post i ∗ I (i.val + 1))) →
    iprop(R ∗ bigSep Finset.univ Pre ∗ I 0) ⊢ W c (seg f a n) fun _ => iprop(bigSep Finset.univ Post ∗ I n)
  | 0, f, a, Pre, Post, I, h => by
    iintro ⟨-, -, HI⟩
    iapply W_ret
    isplitr
    · rw [Finset.univ_eq_empty, BI.bigSep_empty]; iempintro
    iexact HI
  | n + 1, f, a, Pre, Post, I, h => by
    rw [bigSep_fin_succ, bigSep_fin_succ]
    have h0 : iprop(R ∗ Pre 0 ∗ I 0) ⊢ W c (f a) fun _ => iprop(Post 0 ∗ I (0 + 1)) := h 0
    iintro ⟨#HR, ⟨H0, Hs⟩, HI⟩
    iapply (run_then (p := f a) h0) $$ [H0 HI]
    · isplitr; · iexact HR
      isplitl [H0]; · iexact H0
      iexact HI
    iintro ⟨P0, HI⟩
    ihave Hw := (wp_seg n f (a + 1) (fun i => Pre i.succ) (fun i => Post i.succ) (fun i => I (i + 1))
      (fun i => by rw [Nat.add_right_comm]; exact h i.succ)) $$ [Hs HI]
    · isplitr; · iexact HR
      isplitl [Hs]; · iexact Hs
      iexact HI
    iapply (wp_wand frame (wpE (defs₀ (F := F)) 𝒱₀ (c : Thread nD τ) none)) $$ Hw
    iintro %_ ⟨Hs, HI⟩
    isplitl [P0 Hs]
    · isplitl [P0] <;> iassumption
    iexact HI

theorem seg_shift (f : ℕ → P F PUnit) (n : ℕ) : ∀ a b, seg f (a + b) n = seg (fun j => f (a + j)) b n := by
  induction n with
  | zero => intro a b; rfl
  | succ n ih =>
    intro a b
    show Prog.bind (f (a + b)) (fun _ => seg f (a + b + 1) n) = Prog.bind (f (a + b)) fun _ => seg (fun j => f (a + j)) (b + 1) n
    rw [Nat.add_assoc, ih]

/-- A loop of `m * n` turns as `n` loops of `m`. -/
theorem seg_mul (f : ℕ → P F PUnit) (m n : ℕ) : ∀ a, seg f a (m * n) = seg (fun j => seg f (a + m * j) m) 0 n := by
  induction n with
  | zero => intro a; rfl
  | succ n ih =>
    intro a
    rw [Nat.mul_succ, Nat.add_comm, seg_add, ih]
    show Prog.bind (seg f a m) _ = Prog.bind (seg f (a + m * 0) m) fun _ => seg (fun j => seg f (a + m * j) m) (0 + 1) n
    rw [Nat.mul_zero, Nat.add_zero, Nat.add_comm 0 1, seg_shift (fun j => seg f (a + m * j) m) n 1 0]
    refine congrArg _ (funext fun _ => congrArg (fun g => seg g 0 n) (funext fun j => ?_))
    rw [Nat.mul_add, Nat.mul_one, Nat.add_assoc]

/-! ## The protocol's effects by their distance -/

def signalAt (d : Dev nD) (t : Fin 15) : P F PUnit := semSignalWord (peer d t) barSem 1#32
def sendAt (d : Dev nD) (t : Fin 15) : P F PUnit :=
  Prog.lift (.enqueueDma (pSl d t) (.remote (Dev.tc (peer d t)) (rsSl t) (.dma (peerSem cc0_scratch7 t))) (.dma (peerSem cc0_scratch8 t))
    (pSl_words d t) (rsSl_words t) ⟨⟨rfl, Or.inl rfl⟩, trivial⟩)
def recvAt (t : Fin 15) : P F PUnit :=
  Prog.lift (.waitDma2 (peerSem cc0_scratch8 t) (rsSl t) (rsSl t) (rsSl_words t) (rsSl_words t))
def shareAt (d : Dev nD) (t : Fin 15) : P F PUnit :=
  Prog.lift (.enqueueDma (mySl d) (.remote (Dev.tc (peer d t)) (mySl d) (.dma (peerSem cc0_scratch9 t))) (.dma (peerSem cc0_scratch10 t))
    (mySl_words d) (mySl_words d) ⟨⟨rfl, Or.inl rfl⟩, trivial⟩)
def heardAt (t : Fin 15) : P F PUnit := Prog.lift (.waitDma2 (peerSem cc0_scratch10 t) topSl topSl topSl_words topSl_words)
def sentAt (d : Dev nD) (t : Fin 15) : P F PUnit :=
  Prog.lift (.waitDma2 (peerSem cc0_scratch7 t) (rsSl t) (pSl d t) (rsSl_words t) (pSl_words d t))
def sharedAt (d : Dev nD) (t : Fin 15) : P F PUnit :=
  Prog.lift (.waitDma2 (peerSem cc0_scratch9 t) (mySl d) (mySl d) (mySl_words d) (mySl_words d))

theorem per_eq (i : Fin 15) : per (0 + i.val) = i := Fin.ext (by show (0 + i.val) % 15 = i.val; omega)

theorem signal_at (d : Dev nD) (t : Fin 15) : signal (F := F) d (0 + t.val) = signalAt d t := congrArg (signalAt d) (per_eq t)
theorem send_at (d : Dev nD) (t : Fin 15) : send (F := F) d (0 + t.val) = sendAt d t := congrArg (sendAt d) (per_eq t)
theorem recv_at (t : Fin 15) : recv (F := F) (0 + t.val) = recvAt t := congrArg recvAt (per_eq t)
theorem share_at (d : Dev nD) (t : Fin 15) : share (F := F) d (0 + t.val) = shareAt d t := congrArg (shareAt d) (per_eq t)
theorem heard_at (t : Fin 15) : heard (F := F) (0 + t.val) = heardAt t := congrArg heardAt (per_eq t)
theorem sent_at (d : Dev nD) (t : Fin 15) : sent (F := F) d (0 + t.val) = sentAt d t := congrArg (sentAt d) (per_eq t)
theorem shared_at (d : Dev nD) (t : Fin 15) : shared (F := F) d (0 + t.val) = sharedAt d t := congrArg (sharedAt d) (per_eq t)

/-! ## A barrier signal -/

theorem bar_rule (c : Dev nD) (t : Fin 15) (O : CellTallies nD τ sig Unit) {W : Waits sig Unit}
    {α : Type} {Q : α → sProp 𝕄} {kt : PUnit → Prog (TpuEff nD τ sig (Elt F) Λ₀ .tc) α} :
    iprop(cellInv ER (Rd x) (K (dst c t, .bar)) (cell (dst c t) .bar) ∗ owes (c : Thread nD τ) (O + tallyAt (cell (dst c t) .bar) () 1) W
        ∗ dutyTok ER (cell (dst c t) .bar) 0 t.rev ∗ (Rd x).payload (cell (dst c t) .bar) 0 t.rev ∗ reached ER (cell (dst c t) .bar) 0)
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (dst c t : Thread nD τ) (0 : Fin 1) 1) kt) Q) :=
  Rounds.wp_signal 𝒱₀ ER (Rd x) (c : Thread nD τ) none (dst := (dst c t : Thread nD τ)) (sem := (0 : Fin 1)) (κ := K (dst c t, .bar))
    (d := t.rev) (k' := 1) (by show t.rev ∈ (Rd x).duties (cell (dst c t) .bar) 0; rw [duties_cell]; exact Finset.mem_univ _)
    (amount_cell x (dst c t) .bar t.rev) () O rfl

/-- The signal to the peer at distance `1 + t`, handing over the slab and the chunk it will write. -/
theorem run_signal (c : Dev nD) (t : Fin 15) :
    iprop(records x K ∗ (dutyTok ER (cell (dst c t) .bar) 0 t.rev ∗ (∃ f, rsPts c t.rev f) ∗ ∃ g, oPts c (dst c t) fullShare g) ∗ owesE c (Owe c (45 - t.val)))
      ⊢ W c (signal c (0 + t.val)) fun _ => iprop(emp ∗ owesE (F := F) c (Owe c (45 - (t.val + 1)))) := by
  rw [signal_at, owe_bar]
  unfold signalAt semSignalWord
  rw [peer_eq]
  unfold owesE
  have hpay : (Rd x).payload (cell (dst c t) .bar) 0 t.rev = iprop((∃ f, rsPts c t.rev f) ∗ ∃ g, oPts c (dst c t) fullShare g) := by
    rw [payload_cell]
    show iprop((∃ f, rsPts (dst (dst c t) t.rev) t.rev f) ∗ ∃ g, oPts (dst (dst c t) t.rev) (dst c t) fullShare g) = _
    rw [dst_rev]
  iintro ⟨#HR, ⟨Ht, Hr, Ho⟩, ⟨%W, HO⟩⟩
  iapply (bar_rule x K c t (Owe c (45 - (t.val + 1))) (W := W)) $$ [HO Ht Hr Ho]
  · isplitr; · iapply (inv_at x K (dst c t) .bar); iexact HR
    isplitl [HO]; · iexact HO
    isplitl [Ht]; · iexact Ht
    isplitl [Hr Ho]
    · iapply (Entails.of_eq hpay.symm)
      isplitl [Hr]; · iexact Hr
      iexact Ho
    iapply (reached_at x K (dst c t) .bar); iexact HR
  iintro HO
  iapply W_ret
  isplitr; · iempintro
  iexists W; iexact HO

/-! ## The transfers -/

theorem sem_rsS : ∀ t : Fin 15, SemLoc.dma (peerSem cc0_scratch7 t) = semOf (.rsS t) := by decide
theorem sem_rsR : ∀ t : Fin 15, SemLoc.dma (peerSem cc0_scratch8 t) = semOf (.rsR t) := by decide
theorem sem_agS : ∀ t : Fin 15, SemLoc.dma (peerSem cc0_scratch9 t) = semOf (.agS t) := by decide
theorem sem_agR : ∀ t : Fin 15, SemLoc.dma (peerSem cc0_scratch10 t) = semOf (.agR t) := by decide

/-- What a device starts the transfer to distance `1 + t` with. -/
def kit (c : Dev nD) (t : Fin 15) (s r : Fin 15 → Cl) : sProp 𝕄 :=
  iprop(dutyTok ER (cell c (s t)) 0 0 ∗ dutyTok ER (cell (dst c t) (r t)) 0 0)

theorem send_rule (c n : Dev nD) (t : Fin 15) (hn : n = dst c t) (O : CellTallies nD τ sig Unit) {W : Waits sig Unit}
    {hsc : (rsSl t : Memref sig (Dev.tc n : Thread nD τ).2.kind .vmem S16x1024 .bf16).view.ref.isScScratch = false}
    {hsrc : (pSl c t).view.WordExact} {hdst : (rsSl t).view.WordExact}
    {hsem : DmaTarget.Typed .vmem (.dma (peerSem cc0_scratch8 t)) (.remote (Dev.tc n : Thread nD τ) (rsSl t) (.dma (peerSem cc0_scratch7 t)) hsc)}
    {f : Land F} {α : Type} {Q : α → sProp 𝕄} {kt : PUnit → Prog (TpuEff nD τ sig (Elt F) Λ₀ .tc) α} :
    iprop(cellInv ER (Rd x) (K (c, .rsS t)) (cell c (.rsS t)) ∗ cellInv ER (Rd x) (K (dst c t, .rsR t)) (cell (dst c t) (.rsR t))
        ∗ pPts c (dst c t) (x c) ∗ rsPts (dst c t) t f
        ∗ owes (c : Thread nD τ) (O + tallyAt (cell (dst c t) (.rsR t)) () cr) W
        ∗ dutyTok ER (cell c (.rsS t)) 0 0 ∗ reached ER (cell c (.rsS t)) 0
        ∗ dutyTok ER (cell (dst c t) (.rsR t)) 0 0 ∗ reached ER (cell (dst c t) (.rsR t)) 0)
      ⊢ iprop(((cred (tallyAt (cell c (.rsS t)) () cr) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (pSl c t) (.remote (Dev.tc n : Thread nD τ) (rsSl t) (.dma (peerSem cc0_scratch7 t)) hsc) (.dma (peerSem cc0_scratch8 t)) hsrc hdst hsem) kt) Q) := by
  subst hn
  have key := Rounds.wp_send_pointsTo (defs := defs₀ (F := F)) 𝒱₀ ER (Rd x) (c : Thread nD τ) none (Γ := []) (c' := (dst c t : Thread nD τ))
    (src := pSl c t) (dst := rsSl t) (hsc := hsc) (sS := .dma (peerSem cc0_scratch7 t)) (sem := .dma (peerSem cc0_scratch8 t)) (hsrc := hsrc) (hdst := hdst) (hsem := hsem)
    (k := kt) (Q := Q) (q := fullShare) (fs := x c) (fd := f)
    (κ₁ := K (c, .rsS t)) (κ₂ := K (dst c t, .rsR t)) (r₁ := 0) (r₂ := 0) (d₁ := 0) (d₂ := 0)
    (by rw [sem_rsS, duties_cell]; exact Finset.mem_singleton_self _) (by rw [sem_rsR, duties_cell]; exact Finset.mem_singleton_self _)
    () () cr rfl (by rw [sem_rsS, amount_cell]; rfl) (by rw [sem_rsR, amount_cell]; rfl) O rfl (W := W)
    (by rw [sem_rsS, payload_cell, pSl_set]; exact BI.Entails.refl _)
    (by
      rw [sem_rsR, payload_cell, rsSl_set]
      exact Entails.of_eq (pointsTo_congr fun i hi => land_val x c t f i hi))
    (Es := Set.univ)
  rw [pSl_set, rsSl_set] at key
  rw [show cell c (.rsS t) = ((c : Thread nD τ), SemLoc.dma (peerSem cc0_scratch7 t)) from by rw [sem_rsS],
    show cell (dst c t) (.rsR t) = ((dst c t : Thread nD τ), SemLoc.dma (peerSem cc0_scratch8 t)) from by rw [sem_rsR]]
  exact key

/-- The chunk of the partial product that the peer at distance `1 + t` sums, into its slab. -/
theorem run_send (c : Dev nD) (t : Fin 15) :
    iprop(records x K ∗ (kit c t .rsS .rsR ∗ pPts c (dst c t) (x c) ∗ ∃ f, rsPts (dst c t) t f) ∗ owesE c (Owe c (30 - t.val)))
      ⊢ W c (send c (0 + t.val)) fun _ => iprop(cred (tallyAt (cell c (.rsS t)) () cr) ∗ owesE (F := F) c (Owe c (30 - (t.val + 1)))) := by
  rw [send_at, owe_rs]
  unfold sendAt Prog.lift
  unfold owesE kit
  iintro ⟨#HR, ⟨⟨HtS, HtR⟩, Hp, ⟨%f, Hr⟩⟩, ⟨%W, HO⟩⟩
  iapply (send_rule x K c (peer c t) t (peer_eq c t) (Owe c (30 - (t.val + 1))) (W := W) (f := f)) $$ [Hp Hr HO HtS HtR]
  · isplitr; · iapply (inv_at x K c (.rsS t)); iexact HR
    isplitr; · iapply (inv_at x K (dst c t) (.rsR t)); iexact HR
    isplitl [Hp]; · iexact Hp
    isplitl [Hr]; · iexact Hr
    isplitl [HO]; · iexact HO
    isplitl [HtS]; · iexact HtS
    isplitr; · iapply (reached_at x K c (.rsS t)); iexact HR
    isplitl [HtR]; · iexact HtR
    iapply (reached_at x K (dst c t) (.rsR t)); iexact HR
  iintro ⟨Hc, HO⟩
  iapply W_ret
  isplitl [Hc]; · iexact Hc
  iexists W; iexact HO

theorem share_rule (c n : Dev nD) (t : Fin 15) (hn : n = dst c t) (O : CellTallies nD τ sig Unit) {W : Waits sig Unit}
    {hsc : (mySl c : Memref sig (Dev.tc n : Thread nD τ).2.kind .vmem S16x1024 .bf16).view.ref.isScScratch = false}
    {hsrc hdst : (mySl c).view.WordExact}
    {hsem : DmaTarget.Typed .vmem (.dma (peerSem cc0_scratch10 t)) (.remote (Dev.tc n : Thread nD τ) (mySl c) (.dma (peerSem cc0_scratch9 t)) hsc)}
    {f : Arr F} {α : Type} {Q : α → sProp 𝕄} {kt : PUnit → Prog (TpuEff nD τ sig (Elt F) Λ₀ .tc) α} :
    iprop(cellInv ER (Rd x) (K (c, .agS t)) (cell c (.agS t)) ∗ cellInv ER (Rd x) (K (dst c t, .agR t)) (cell (dst c t) (.agR t))
        ∗ oPts c c (shr t) (fin x) ∗ oPts (dst c t) c fullShare f
        ∗ owes (c : Thread nD τ) (O + tallyAt (cell (dst c t) (.agR t)) () cr) W
        ∗ dutyTok ER (cell c (.agS t)) 0 0 ∗ reached ER (cell c (.agS t)) 0
        ∗ dutyTok ER (cell (dst c t) (.agR t)) 0 0 ∗ reached ER (cell (dst c t) (.agR t)) 0)
      ⊢ iprop(((cred (tallyAt (cell c (.agS t)) () cr) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (mySl c) (.remote (Dev.tc n : Thread nD τ) (mySl c) (.dma (peerSem cc0_scratch9 t)) hsc) (.dma (peerSem cc0_scratch10 t)) hsrc hdst hsem) kt) Q) := by
  subst hn
  have key := Rounds.wp_send_pointsTo (defs := defs₀ (F := F)) 𝒱₀ ER (Rd x) (c : Thread nD τ) none (Γ := []) (c' := (dst c t : Thread nD τ))
    (src := mySl c) (dst := mySl c) (hsc := hsc) (sS := .dma (peerSem cc0_scratch9 t)) (sem := .dma (peerSem cc0_scratch10 t)) (hsrc := hsrc) (hdst := hdst) (hsem := hsem)
    (k := kt) (Q := Q) (q := shr t) (fs := fin x) (fd := f)
    (κ₁ := K (c, .agS t)) (κ₂ := K (dst c t, .agR t)) (r₁ := 0) (r₂ := 0) (d₁ := 0) (d₂ := 0)
    (by rw [sem_agS, duties_cell]; exact Finset.mem_singleton_self _) (by rw [sem_agR, duties_cell]; exact Finset.mem_singleton_self _)
    () () cr rfl (by rw [sem_agS, amount_cell]; rfl) (by rw [sem_agR, amount_cell]; rfl) O rfl (W := W)
    (by rw [sem_agS, payload_cell, mySl_set]; exact BI.Entails.refl _)
    (by
      rw [sem_agR, payload_cell, mySl_set]
      refine (Entails.of_eq (pointsTo_congr fun i hi => share_val c (fin x) f i hi)).trans ?_
      show oPts (dst c t) c fullShare (fin x) ⊢ oPts (dst c t) (dst (dst c t) t.rev) fullShare (fin x)
      rw [dst_rev])
    (Es := Set.univ)
  rw [mySl_set] at key
  rw [show cell c (.agS t) = ((c : Thread nD τ), SemLoc.dma (peerSem cc0_scratch9 t)) from by rw [sem_agS],
    show cell (dst c t) (.agR t) = ((dst c t : Thread nD τ), SemLoc.dma (peerSem cc0_scratch10 t)) from by rw [sem_agR]]
  exact key

/-- The finished rows, into the same rows of the peer at distance `1 + t`. -/
theorem run_share (c : Dev nD) (t : Fin 15) :
    iprop(records x K ∗ (kit c t .agS .agR ∗ oPts c c (shr t) (fin x) ∗ ∃ f, oPts (dst c t) c fullShare f) ∗ owesE c (Owe c (15 - t.val)))
      ⊢ W c (share c (0 + t.val)) fun _ => iprop(cred (tallyAt (cell c (.agS t)) () cr) ∗ owesE (F := F) c (Owe c (15 - (t.val + 1)))) := by
  rw [share_at, owe_ag]
  unfold shareAt Prog.lift
  unfold owesE kit
  iintro ⟨#HR, ⟨⟨HtS, HtR⟩, Hp, ⟨%f, Hr⟩⟩, ⟨%W, HO⟩⟩
  iapply (share_rule x K c (peer c t) t (peer_eq c t) (Owe c (15 - (t.val + 1))) (W := W) (f := f)) $$ [Hp Hr HO HtS HtR]
  · isplitr; · iapply (inv_at x K c (.agS t)); iexact HR
    isplitr; · iapply (inv_at x K (dst c t) (.agR t)); iexact HR
    isplitl [Hp]; · iexact Hp
    isplitl [Hr]; · iexact Hr
    isplitl [HO]; · iexact HO
    isplitl [HtS]; · iexact HtS
    isplitr; · iapply (reached_at x K c (.agS t)); iexact HR
    isplitl [HtR]; · iexact HtR
    iapply (reached_at x K (dst c t) (.agR t)); iexact HR
  iintro ⟨Hc, HO⟩
  iapply W_ret
  isplitl [Hc]; · iexact Hc
  iexists W; iexact HO

/-! ## The waits -/

/-- A wait for a transfer's cell, `n` payments left. -/
theorem run_wait (c : Dev nD) (k : Cl) (hk : (duts k).card * amt k = cr) (d : Fin 15) (hd : duts k = {d}) (n : ℕ) (hn : ∀ i < n, lvC k < lvC (itemCl i)) (sm : SemLoc sig) (hsm : sm = semOf k)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ sm (cr : ℕ) Kt) :
    iprop((records x K ∗ levAts L lv) ∗ (cred (tallyAt (cell c k) () cr) ∗ atPos ER (cell c k) 0 ∅ 0) ∗ owesE c (Owe c n))
      ⊢ W c (Prog.lift w) fun _ => iprop((semVal (cell c k) 0 ∗ pay x c k d) ∗ owesE (F := F) c (Owe c n)) := by
  iintro ⟨⟨#HR, #Hlev⟩, ⟨Hc, Hat⟩, HO⟩
  iapply (wp_whole x K c k n hn (N := cr) hk rfl sm hsm hw) $$ [Hc HO Hat]
  · isplitr; · iexact HR
    isplitr; · iexact Hlev
    isplitl [Hc]; · iexact Hc
    isplitl [HO]; · iexact HO
    iexact Hat
  iintro ⟨HO, Hz, Hpay⟩
  ihave Hp := (Entails.of_eq (show bigSep (duts k) (fun d => pay x c k d) = pay x c k d from by rw [hd, bigSep_singleton])) $$ Hpay
  iapply W_ret
  isplitl [Hz Hp]
  · isplitl [Hz] <;> iassumption
  iexact HO

theorem run_recv (c : Dev nD) (t : Fin 15) :
    iprop((records x K ∗ levAts L lv) ∗ (cred (tallyAt (cell c (.rsR t)) () cr) ∗ atPos ER (cell c (.rsR t)) 0 ∅ 0) ∗ owesE c (Owe c 15))
      ⊢ W c (recv (0 + t.val)) fun _ => iprop((semVal (cell c (.rsR t)) 0 ∗ rsPts c t (landed x c)) ∗ owesE (F := F) c (Owe c 15)) := by
  rw [recv_at]
  exact run_wait x K c (.rsR t) (Nat.one_mul _) 0 rfl 15 (by revert t; decide) _ (sem_rsR t) (wpE_waitDma2_eq 𝒱₀ (c : Thread nD τ) none Set.univ)

theorem run_heard (c : Dev nD) (t : Fin 15) :
    iprop((records x K ∗ levAts L lv) ∗ (cred (tallyAt (cell c (.agR t)) () cr) ∗ atPos ER (cell c (.agR t)) 0 ∅ 0) ∗ owesE c (Owe c 0))
      ⊢ W c (heard (0 + t.val)) fun _ => iprop((semVal (cell c (.agR t)) 0 ∗ oPts c (dst c t.rev) fullShare (fin x)) ∗ owesE (F := F) c (Owe c 0)) := by
  rw [heard_at]
  exact run_wait x K c (.agR t) (Nat.one_mul _) 0 rfl 0 (fun i hi => absurd hi (Nat.not_lt_zero i)) _ (sem_agR t) (wpE_waitDma2_eq 𝒱₀ (c : Thread nD τ) none Set.univ)

theorem run_sent (c : Dev nD) (t : Fin 15) :
    iprop((records x K ∗ levAts L lv) ∗ (cred (tallyAt (cell c (.rsS t)) () cr) ∗ atPos ER (cell c (.rsS t)) 0 ∅ 0) ∗ owesE c (Owe c 0))
      ⊢ W c (sent c (0 + t.val)) fun _ => iprop((semVal (cell c (.rsS t)) 0 ∗ pPts c (dst c t) (x c)) ∗ owesE (F := F) c (Owe c 0)) := by
  rw [sent_at]
  exact run_wait x K c (.rsS t) (Nat.one_mul _) 0 rfl 0 (fun i hi => absurd hi (Nat.not_lt_zero i)) _ (sem_rsS t) (wpE_waitDma2_eq 𝒱₀ (c : Thread nD τ) none Set.univ)

theorem run_shared (c : Dev nD) (t : Fin 15) :
    iprop((records x K ∗ levAts L lv) ∗ (cred (tallyAt (cell c (.agS t)) () cr) ∗ atPos ER (cell c (.agS t)) 0 ∅ 0) ∗ owesE c (Owe c 0))
      ⊢ W c (shared c (0 + t.val)) fun _ => iprop((semVal (cell c (.agS t)) 0 ∗ oPts c c (shr t) (fin x)) ∗ owesE (F := F) c (Owe c 0)) := by
  rw [shared_at]
  exact run_wait x K c (.agS t) (Nat.one_mul _) 0 rfl 0 (fun i hi => absurd hi (Nat.not_lt_zero i)) _ (sem_agS t) (wpE_waitDma2_eq 𝒱₀ (c : Thread nD τ) none Set.univ)

end Cert.Attn

end
-- ==== Proof.Gather.lean ====
/-
# Gathering the keys and the values

One head's sixty-eight blocks of keys go through one semaphore, and so do its blocks of values: two batches of equal
transfers. Every block is started first; a head's blocks are awaited, all of them, before its attention, and what the two
batches then give is the head's gathered keys and values.
-/
module

public import proofs.«01_k».proof.Proof.Steps

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## What a transfer moves -/

/-- The share of the keys (values) that the transfers read: each its own piece. -/
def gq (h : Fin 8) (i : Fin 68) : PosShare TreeShare := dealOf (dealOf fullShare.right Finset.univ h) Finset.univ i

def kSrc (c : Dev nD) (h : Fin 8) (i : Fin 68) (f : Ext F) : sProp 𝕄 := ((c : Thread nD τ).loc main_arg2) ↦[(srcSl keyM c h i).view.set]{gq h i} f
def vSrc (c : Dev nD) (h : Fin 8) (i : Fin 68) (f : Ext F) : sProp 𝕄 := ((c : Thread nD τ).loc main_arg3) ↦[(srcSl valM c h i).view.set]{gq h i} f
def kSlot (c : Dev nD) (h : Fin 8) (i : Fin 68) (f : Big F) : sProp 𝕄 := ((c : Thread nD τ).loc cc0_scratch0) ↦[fib slotOf (h, i)]{fullShare} f
def vSlot (c : Dev nD) (h : Fin 8) (i : Fin 68) (f : Big F) : sProp 𝕄 := ((c : Thread nD τ).loc cc0_scratch1) ↦[fib slotOf (h, i)]{fullShare} f

instance kSlot_storable (c : Dev nD) (h i f) : BI.Storable (upEmb : UEmb _ 𝕄) (kSlot (F := F) c h i f) := by unfold kSlot; infer_instance
instance vSlot_storable (c : Dev nD) (h i f) : BI.Storable (upEmb : UEmb _ 𝕄) (vSlot (F := F) c h i f) := by unfold vSlot; infer_instance

/-- What one block's transfer pays its semaphore. -/
def bk : ℕ := (cc0_scratch0 : Ref sig .tc).dmaCredit S64x128 .f32
def bv : ℕ := (cc0_scratch1 : Ref sig .tc).dmaCredit S64x128 .f32
theorem bk_pos : 0 < bk := sig.dmaCredit_pos _ _ _ _ _ (by decide)
theorem bv_pos : 0 < bv := sig.dmaCredit_pos _ _ _ _ _ (by decide)

/-- A head's two batches: `j` started, `u` waited for. -/
def BK (c : Dev nD) (f : Ext F) (h : Fin 8) (j u : ℕ) : sProp 𝕄 :=
  Batch EC (c : Thread nD τ) (.dma (headSem cc0_scratch5 h)) () bk (fun i : Fin 68 => kSlot c h i (gathered c f)) j u
def BV (c : Dev nD) (f : Ext F) (h : Fin 8) (j u : ℕ) : sProp 𝕄 :=
  Batch EC (c : Thread nD τ) (.dma (headSem cc0_scratch6 h)) () bv (fun i : Fin 68 => vSlot c h i (gathered c f)) j u

/-! ## One block -/

theorem startK (c : Dev nD) (h : Fin 8) (i : Fin 68) (f : Ext F) :
    iprop(kSrc c h i f ∗ (∃ g, kSlot c h i g) ∗ BK c f h i.val 0) ⊢ W c (start1 keyM kM cc0_scratch5 c h i) fun _ => BK c f h (i.val + 1) 0 := by
  have key := fun (g : Big F) => wp_dmaBatch EC (defs := defs₀ (F := F)) 𝒱₀ (c : Thread nD τ) none (src := srcSl keyM c h i) (dst := dstSl kM h i) (via := .same)
    (sm := .dma (headSem cc0_scratch5 h)) (hsrc := (View.wordExact_bits rfl).reshape _ _) (hdst := (View.wordExact_bits rfl).reshape _ _) (hsem := ⟨Or.inl rfl, trivial⟩)
    (k := .ret) (Q := fun _ => BK c f h (i.val + 1) 0) (q := gq h i) (fs := f) (Sd := fib slotOf (h, i)) (fd := g)
    (D := fun i : Fin 68 => kSlot c h i (gathered c f)) (j := i.val) (u := 0) () bk rfl (by rw [kSl_set]) i.isLt (Nat.zero_le _)
    (by
      unfold kSlot
      iintro ⟨H, -⟩
      iapply (Entails.of_eq (pointsTo_congr fun x hx => k_slot c h i f g x hx))
      iexact H)
  unfold kSrc kSlot BK at key ⊢
  iintro ⟨Hs, ⟨%g, Hd⟩, HB⟩
  iapply (key g) $$ [Hs Hd HB]
  · isplitl [Hs]; · iexact Hs
    isplitl [Hd]; · iexact Hd
    iexact HB
  iintro HB
  iapply W_ret
  iexact HB

theorem startV (c : Dev nD) (h : Fin 8) (i : Fin 68) (f : Ext F) :
    iprop(vSrc c h i f ∗ (∃ g, vSlot c h i g) ∗ BV c f h i.val 0) ⊢ W c (start1 valM vM cc0_scratch6 c h i) fun _ => BV c f h (i.val + 1) 0 := by
  have key := fun (g : Big F) => wp_dmaBatch EC (defs := defs₀ (F := F)) 𝒱₀ (c : Thread nD τ) none (src := srcSl valM c h i) (dst := dstSl vM h i) (via := .same)
    (sm := .dma (headSem cc0_scratch6 h)) (hsrc := (View.wordExact_bits rfl).reshape _ _) (hdst := (View.wordExact_bits rfl).reshape _ _) (hsem := ⟨Or.inl rfl, trivial⟩)
    (k := .ret) (Q := fun _ => BV c f h (i.val + 1) 0) (q := gq h i) (fs := f) (Sd := fib slotOf (h, i)) (fd := g)
    (D := fun i : Fin 68 => vSlot c h i (gathered c f)) (j := i.val) (u := 0) () bv rfl (by rw [vSl_set]) i.isLt (Nat.zero_le _)
    (by
      unfold vSlot
      iintro ⟨H, -⟩
      iapply (Entails.of_eq (pointsTo_congr fun x hx => v_slot c h i f g x hx))
      iexact H)
  unfold vSrc vSlot BV at key ⊢
  iintro ⟨Hs, ⟨%g, Hd⟩, HB⟩
  iapply (key g) $$ [Hs Hd HB]
  · isplitl [Hs]; · iexact Hs
    isplitl [Hd]; · iexact Hd
    iexact HB
  iintro HB
  iapply W_ret
  iexact HB

theorem lv_k : ∀ h : Fin 8, lvS (.dma (headSem cc0_scratch5 h)) = 0 := by decide
theorem lv_v : ∀ h : Fin 8, lvS (.dma (headSem cc0_scratch6 h)) = 0 := by decide
theorem lv_owed : ∀ i < 30, 0 < lvC (itemCl i) := by decide

theorem awaitK (c : Dev nD) (h : Fin 8) (i : Fin 68) (f : Ext F) :
    iprop(levAts L lv ∗ BK c f h 68 (i.val * bk) ∗ owesE c (Owe c 30))
      ⊢ W c (await1 keyM kM cc0_scratch5 c h i) fun _ => iprop(BK c f h 68 ((i.val + 1) * bk) ∗ owesE c (Owe c 30)) := by
  have hi := i.isLt
  have hu : i.val * bk + 1 * bk ≤ bk * 68 := by rw [← Nat.add_mul, Nat.mul_comm]; exact Nat.mul_le_mul_left _ (by omega)
  unfold BK owesE
  iintro ⟨#Hlev, HB, ⟨%W, HO⟩⟩
  iapply (wp_waitBatchMulO EC (defs := defs₀ (F := F)) 𝒱₀ (c : Thread nD τ) none (dstw := dstSl kM h i) () (N := bk) 1 (Nat.one_mul _).symm
    (D := fun i : Fin 68 => kSlot c h i (gathered c f)) hu (O := Owe c 30) (W := W)) $$ [HB HO]
  · isplitl [HB]; · iexact HB
    isplitl [HO]; · iexact HO
    iapply (mayWait c (.dma (headSem cc0_scratch5 h)) 30 (fun n hn => by rw [lv_k]; exact lv_owed n hn)); iexact Hlev
  iintro ⟨HB, HO⟩
  iapply W_ret
  rw [Nat.add_mul]
  isplitl [HB]; · iexact HB
  iexists _; iexact HO

theorem awaitV (c : Dev nD) (h : Fin 8) (i : Fin 68) (f : Ext F) :
    iprop(levAts L lv ∗ BV c f h 68 (i.val * bv) ∗ owesE c (Owe c 30))
      ⊢ W c (await1 valM vM cc0_scratch6 c h i) fun _ => iprop(BV c f h 68 ((i.val + 1) * bv) ∗ owesE c (Owe c 30)) := by
  have hi := i.isLt
  have hu : i.val * bv + 1 * bv ≤ bv * 68 := by rw [← Nat.add_mul, Nat.mul_comm]; exact Nat.mul_le_mul_left _ (by omega)
  unfold BV owesE
  iintro ⟨#Hlev, HB, ⟨%W, HO⟩⟩
  iapply (wp_waitBatchMulO EC (defs := defs₀ (F := F)) 𝒱₀ (c : Thread nD τ) none (dstw := dstSl vM h i) () (N := bv) 1 (Nat.one_mul _).symm
    (D := fun i : Fin 68 => vSlot c h i (gathered c f)) hu (O := Owe c 30) (W := W)) $$ [HB HO]
  · isplitl [HB]; · iexact HB
    isplitl [HO]; · iexact HO
    iapply (mayWait c (.dma (headSem cc0_scratch6 h)) 30 (fun n hn => by rw [lv_v]; exact lv_owed n hn)); iexact Hlev
  iintro ⟨HB, HO⟩
  iapply W_ret
  rw [Nat.add_mul]
  isplitl [HB]; · iexact HB
  iexists _; iexact HO

/-! ## The loops over the blocks -/

theorem blk_at {n : ℕ} (i : Fin 68) (h : n % 68 = i.val) : blk n = i := Fin.ext h
theorem hd_at {n : ℕ} (h : Fin 8) (e : n % 8 = h.val) : hd n = h := Fin.ext e

theorem start_k (c : Dev nD) (h : Fin 8) (i : Fin 68) :
    start (F := F) c (0 + 136 * h.val + 2 * i.val) = start1 keyM kM cc0_scratch5 c h i := by
  have := h.isLt
  have := i.isLt
  unfold start
  rw [show (0 + 136 * h.val + 2 * i.val) % 2 = 0 by omega, hd_at h (by omega), blk_at i (by omega)]
  rfl
theorem start_v (c : Dev nD) (h : Fin 8) (i : Fin 68) :
    start (F := F) c (0 + 136 * h.val + 2 * i.val + 1) = start1 valM vM cc0_scratch6 c h i := by
  have := h.isLt
  have := i.isLt
  unfold start
  rw [show (0 + 136 * h.val + 2 * i.val + 1) % 2 = 1 by omega, hd_at h (by omega), blk_at i (by omega)]
  rfl
theorem await_k (c : Dev nD) (h : Fin 8) (i : Fin 68) : await (F := F) c h (0 + 2 * i.val) = await1 keyM kM cc0_scratch5 c h i := by
  have := i.isLt
  unfold await
  rw [show (0 + 2 * i.val) % 2 = 0 by omega, blk_at i (by omega)]
  rfl
theorem await_v (c : Dev nD) (h : Fin 8) (i : Fin 68) : await (F := F) c h (0 + 2 * i.val + 1) = await1 valM vM cc0_scratch6 c h i := by
  have := i.isLt
  unfold await
  rw [show (0 + 2 * i.val + 1) % 2 = 1 by omega, blk_at i (by omega)]
  rfl

/-- What starting one block takes. -/
def startNeeds (c : Dev nD) (fk fv : Ext F) (h : Fin 8) (i : Fin 68) : sProp 𝕄 :=
  iprop((kSrc c h i fk ∗ ∃ g, kSlot c h i g) ∗ vSrc c h i fv ∗ ∃ g, vSlot c h i g)

/-- One head's starts. -/
theorem start_head (c : Dev nD) (fk fv : Ext F) (h : Fin 8) :
    iprop((bigSep Finset.univ fun i => startNeeds c fk fv h i)
        ∗ semVal ((c : Thread nD τ), .dma (headSem cc0_scratch5 h)) 0 ∗ semVal ((c : Thread nD τ), .dma (headSem cc0_scratch6 h)) 0)
      ⊢ W c (seg (start c) (0 + 136 * h.val) 136) fun _ => iprop(BK c fk h 68 0 ∗ BV c fv h 68 0) := by
  rw [show seg (F := F) (start c) (0 + 136 * h.val) 136 = seg (fun j => seg (start c) (0 + 136 * h.val + 2 * j) 2) 0 68 from seg_mul (start c) 2 68 _]
  have step : ∀ i : Fin 68, iprop((iprop(emp) : sProp 𝕄) ∗ startNeeds c fk fv h i ∗ BK c fk h i.val 0 ∗ BV c fv h i.val 0)
      ⊢ W c (seg (start c) (0 + 136 * h.val + 2 * (0 + i.val)) 2) fun _ => iprop(emp ∗ BK c fk h (i.val + 1) 0 ∗ BV c fv h (i.val + 1) 0) := by
    intro i
    rw [Nat.zero_add i.val]
    show _ ⊢ W c (Prog.bind (start c (0 + 136 * h.val + 2 * i.val)) fun _ => Prog.bind (start c (0 + 136 * h.val + 2 * i.val + 1)) fun _ => (.ret ⟨⟩ : P F PUnit)) _
    rw [start_k, start_v]
    unfold startNeeds
    iintro ⟨-, ⟨⟨Hs, Hd⟩, Vs, Vd⟩, HB, VB⟩
    iapply (run_then (startK c h i fk)) $$ [Hs Hd HB]
    · isplitl [Hs]; · iexact Hs
      isplitl [Hd] <;> iassumption
    iintro HB
    iapply (run_then (startV c h i fv)) $$ [Vs Vd VB]
    · isplitl [Vs]; · iexact Vs
      isplitl [Vd] <;> iassumption
    iintro VB
    iapply W_ret
    isplitr; · iempintro
    isplitl [HB] <;> iassumption
  iintro ⟨Hn, Hk, Hv⟩
  imod (show (semVal ((c : Thread nD τ), .dma (headSem cc0_scratch5 h)) 0 : sProp 𝕄) ⊢ |={Set.univ}=> BK c fk h 0 0 from
    batch_alloc' EC (c : Thread nD τ) () bk (fun i : Fin 68 => kSlot c h i (gathered c fk))) $$ Hk with HB
  imod (show (semVal ((c : Thread nD τ), .dma (headSem cc0_scratch6 h)) 0 : sProp 𝕄) ⊢ |={Set.univ}=> BV c fv h 0 0 from
    batch_alloc' EC (c : Thread nD τ) () bv (fun i : Fin 68 => vSlot c h i (gathered c fv))) $$ Hv with VB
  ihave Hw := (wp_seg (R := (iprop(emp) : sProp 𝕄)) 68 (fun j => seg (start c) (0 + 136 * h.val + 2 * j) 2) 0 (startNeeds c fk fv h) (fun _ => (iprop(emp) : sProp 𝕄))
    (fun j => iprop(BK c fk h j 0 ∗ BV c fv h j 0)) step) $$ [Hn HB VB]
  · isplitr; · iempintro
    isplitl [Hn]; · iexact Hn
    isplitl [HB]; · iexact HB
    iexact VB
  iapply (wp_wand frame (wpE (defs₀ (F := F)) 𝒱₀ (c : Thread nD τ) none)) $$ Hw
  iintro %_ ⟨-, H⟩
  iexact H

/-- One head's gathered keys, or values. -/
def headK (c : Dev nD) (f : Ext F) (h : Fin 8) : sProp 𝕄 :=
  ((c : Thread nD τ).loc cc0_scratch0) ↦[(Finset.univ : Finset (Fin 68)).biUnion fun i => fib slotOf (h, i)]{fullShare} gathered c f
def headV (c : Dev nD) (f : Ext F) (h : Fin 8) : sProp 𝕄 :=
  ((c : Thread nD τ).loc cc0_scratch1) ↦[(Finset.univ : Finset (Fin 68)).biUnion fun i => fib slotOf (h, i)]{fullShare} gathered c f

theorem slots_disjoint (h : Fin 8) : ∀ t ∈ (Finset.univ : Finset (Fin 68)), ∀ t' ∈ (Finset.univ : Finset (Fin 68)), t ≠ t' → Disjoint (fib slotOf (h, t)) (fib slotOf (h, t')) :=
  fun t _ t' _ ne => fib_disjoint slotOf (h, t) (h, t') fun e => ne (congrArg Prod.snd e)

/-- One head's waits. -/
theorem await_head (c : Dev nD) (fk fv : Ext F) (h : Fin 8) :
    iprop(levAts L lv ∗ (BK c fk h 68 0 ∗ BV c fv h 68 0) ∗ owesE c (Owe c 30))
      ⊢ W c (seg (await c h) 0 136) fun _ => iprop((headK c fk h ∗ headV c fv h
          ∗ semVal ((c : Thread nD τ), .dma (headSem cc0_scratch5 h)) 0 ∗ semVal ((c : Thread nD τ), .dma (headSem cc0_scratch6 h)) 0) ∗ owesE c (Owe c 30)) := by
  rw [show seg (F := F) (await c h) 0 136 = seg (fun j => seg (await c h) (0 + 2 * j) 2) 0 68 from seg_mul (await c h) 2 68 0]
  have step : ∀ i : Fin 68, iprop(levAts L lv ∗ (iprop(emp) : sProp 𝕄) ∗ BK c fk h 68 (i.val * bk) ∗ BV c fv h 68 (i.val * bv) ∗ owesE c (Owe c 30))
      ⊢ W c (seg (await c h) (0 + 2 * (0 + i.val)) 2) fun _ => iprop(emp ∗ BK c fk h 68 ((i.val + 1) * bk) ∗ BV c fv h 68 ((i.val + 1) * bv) ∗ owesE c (Owe c 30)) := by
    intro i
    rw [Nat.zero_add i.val]
    show _ ⊢ W c (Prog.bind (await c h (0 + 2 * i.val)) fun _ => Prog.bind (await c h (0 + 2 * i.val + 1)) fun _ => (.ret ⟨⟩ : P F PUnit)) _
    rw [await_k, await_v]
    iintro ⟨#Hlev, -, HB, VB, HO⟩
    iapply (run_then (awaitK c h i fk)) $$ [HB HO]
    · isplitr; · iexact Hlev
      isplitl [HB] <;> iassumption
    iintro ⟨HB, HO⟩
    iapply (run_then (awaitV c h i fv)) $$ [VB HO]
    · isplitr; · iexact Hlev
      isplitl [VB] <;> iassumption
    iintro ⟨VB, HO⟩
    iapply W_ret
    isplitr; · iempintro
    isplitl [HB]; · iexact HB
    isplitl [VB] <;> iassumption
  iintro ⟨#Hlev, ⟨HB, VB⟩, HO⟩
  ihave Hw := (wp_seg (R := levAts L lv) 68 (fun j => seg (await c h) (0 + 2 * j) 2) 0 (fun _ => (iprop(emp) : sProp 𝕄)) (fun _ => (iprop(emp) : sProp 𝕄))
    (fun j => iprop(BK c fk h 68 (j * bk) ∗ BV c fv h 68 (j * bv) ∗ owesE c (Owe c 30))) step) $$ [HB VB HO]
  · isplitr; · iexact Hlev
    isplitr; · iapply (Entails.of_eq (BI.bigSep_emp_const (M := 𝕄) (Finset.univ : Finset (Fin 68))).symm); iempintro
    rw [Nat.zero_mul, Nat.zero_mul]
    isplitl [HB]; · iexact HB
    isplitl [VB] <;> iassumption
  iapply (wp_fupd frame (wpE (defs₀ (F := F)) 𝒱₀ (c : Thread nD τ) none))
  iapply (wp_wand frame (wpE (defs₀ (F := F)) 𝒱₀ (c : Thread nD τ) none)) $$ Hw
  rw [Nat.mul_comm 68 bk, Nat.mul_comm 68 bv]
  unfold BK BV
  iintro %_ ⟨-, HB, VB, HO⟩
  imod (batch_collect' EC (c := (c : Thread nD τ)) (sm := .dma (headSem cc0_scratch5 h)) bk_pos) $$ HB with ⟨HK, Hk⟩
  imod (batch_collect' EC (c := (c : Thread nD τ)) (sm := .dma (headSem cc0_scratch6 h)) bv_pos) $$ VB with ⟨HV, Hv⟩
  imodintro
  isplitr [HO]
  · unfold headK headV
    rw [pointsTo_biUnion _ _ (slots_disjoint h), pointsTo_biUnion _ _ (slots_disjoint h)]
    isplitl [HK]; · iexact HK
    isplitl [HV]; · iexact HV
    isplitl [Hk] <;> iassumption
  iexact HO

end Cert.Attn

end
-- ==== Proof.Attend.lean ====
/-
# The attention of a head, the projection, the sum

The loads and stores between the transfers: a head's attention writes its four blocks of the context, the projection writes
the device's partial product, the sum writes the device's own rows of the result.
-/
module

public import proofs.«01_k».proof.Proof.Gather

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## What a transfer moves -/

/-- A block of the context. -/
def cPts (c : Dev nD) (b : Fin 4) (h : Fin 8) (f : Ctx F) : sProp 𝕄 := ((c : Thread nD τ).loc cc0_scratch2) ↦[fib ctxOf (b, h)]{fullShare} f

/-! ## The loads and stores of a head -/

theorem get0K (c : Dev nD) (f : Ext F) (h : Fin 8) {α : Type} {k : Vec F S1x1408x128 .f32 → P F α} {Q : α → sProp 𝕄} :
    headK c f h ⊢ iprop((headK c f h -∗ W c (k (readK0 (gathered c f) h)) Q) -∗ W c (Prog.bind (get0 kM h) k) Q) :=
  wp_load_rect (defs := defs₀ (F := F)) 𝒱₀ (c : Thread nD τ) none Set.univ (Γ := []) (m := kM) (r := run0 h)
    (by rw [show (kM.access (run0 h)).set = (run0 h).set from View.set_slice_whole _ _]; exact head_sub (run0 h) h (run0_head h))
theorem get0V (c : Dev nD) (f : Ext F) (h : Fin 8) {α : Type} {k : Vec F S1x1408x128 .f32 → P F α} {Q : α → sProp 𝕄} :
    headV c f h ⊢ iprop((headV c f h -∗ W c (k (readK0 (gathered c f) h)) Q) -∗ W c (Prog.bind (get0 vM h) k) Q) :=
  wp_load_rect (defs := defs₀ (F := F)) 𝒱₀ (c : Thread nD τ) none Set.univ (Γ := []) (m := vM) (r := run0 h)
    (by rw [show (vM.access (run0 h)).set = (run0 h).set from View.set_slice_whole _ _]; exact head_sub (run0 h) h (run0_head h))
theorem get1K (c : Dev nD) (f : Ext F) (h : Fin 8) (j : Fin 2) {α : Type} {k : Vec F S1x1472x128 .f32 → P F α} {Q : α → sProp 𝕄} :
    headK c f h ⊢ iprop((headK c f h -∗ W c (k (readK1 (gathered c f) h j)) Q) -∗ W c (Prog.bind (get1 kM h j) k) Q) :=
  wp_load_rect (defs := defs₀ (F := F)) 𝒱₀ (c : Thread nD τ) none Set.univ (Γ := []) (m := kM) (r := run1 h j)
    (by rw [show (kM.access (run1 h j)).set = (run1 h j).set from View.set_slice_whole _ _]; exact head_sub (run1 h j) h (run1_head h j))
theorem get1V (c : Dev nD) (f : Ext F) (h : Fin 8) (j : Fin 2) {α : Type} {k : Vec F S1x1472x128 .f32 → P F α} {Q : α → sProp 𝕄} :
    headV c f h ⊢ iprop((headV c f h -∗ W c (k (readK1 (gathered c f) h j)) Q) -∗ W c (Prog.bind (get1 vM h j) k) Q) :=
  wp_load_rect (defs := defs₀ (F := F)) 𝒱₀ (c : Thread nD τ) none Set.univ (Γ := []) (m := vM) (r := run1 h j)
    (by rw [show (vM.access (run1 h j)).set = (run1 h j).set from View.set_slice_whole _ _]; exact head_sub (run1 h j) h (run1_head h j))

/-- One block of the context written. -/
theorem run_put (c : Dev nD) (b : Fin 4) (h : Fin 8) (q : FVec F S256x1024 .f32) (k v : Big F) :
    iprop(∃ f, cPts c b h f) ⊢ W c (put b h (outBlock (headQ q h) k v h b)) fun _ => cPts c b h (ctxVal q k v) := by
  unfold cPts
  iintro ⟨%f, H⟩
  iapply (wp_load_rect (defs := defs₀ (F := F)) 𝒱₀ (c : Thread nD τ) none Set.univ (Γ := []) (m := ctxM) (r := ctxRect b h)
    (S := fib ctxOf (b, h)) (q := fullShare) (f := f) (by rw [ctxAt_set])) $$ H
  iintro H
  iapply (wp_store (defs := defs₀ (F := F)) 𝒱₀ (c : Thread nD τ) none Set.univ (Γ := []) (m := ctxM) (r := ctxRect b h)
    (S := fib ctxOf (b, h)) (f := f) (by rw [View.setOn_univ, ctxAt_set])) $$ H
  iintro H
  iapply W_ret
  iapply (Entails.of_eq (pointsTo_congr fun x hx => put_val b h q k v f x hx))
  iexact H

omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

theorem run_one12 (c : Dev nD) (fk fv : Ext F) (q : FVec F S256x1024 .f32) (h : Fin 8) (b : Fin 4) (j : Fin 2)
    (e : out12 (rowsQ (headQ q h) b) (readK1 (gathered c fk) h j) (readK1 (gathered c fv) h j) = outBlock (headQ q h) (gathered c fk) (gathered c fv) h b) :
    iprop(headK c fk h ∗ headV c fv h ∗ ∃ f, cPts c b h f)
      ⊢ W c (one12 (headQ q h) h b j) fun _ => iprop(headK c fk h ∗ headV c fv h ∗ cPts c b h (ctxVal q (gathered c fk) (gathered c fv))) := by
  unfold one12
  iintro ⟨HK, HV, HC⟩
  iapply (get1K c fk h j) $$ HK
  iintro HK
  iapply (get1V c fv h j) $$ HV
  iintro HV
  rw [e]
  ihave Hw := (run_put c b h q (gathered c fk) (gathered c fv)) $$ HC
  iapply (wp_wand frame (wpE (defs₀ (F := F)) 𝒱₀ (c : Thread nD τ) none)) $$ Hw
  iintro %_ HC
  isplitl [HK]; · iexact HK
  isplitl [HV]; · iexact HV
  iexact HC

/-- A head's attention. -/
theorem run_attend (c : Dev nD) (fk fv : Ext F) (q : FVec F S256x1024 .f32) (h : Fin 8) :
    iprop(headK c fk h ∗ headV c fv h ∗ bigSep Finset.univ fun b => iprop(∃ f, cPts c b h f))
      ⊢ W c (attend (headQ q h) h) fun _ => iprop(headK c fk h ∗ headV c fv h ∗ bigSep Finset.univ fun b => cPts c b h (ctxVal q (gathered c fk) (gathered c fv))) := by
  rw [bigSep_four, bigSep_four]
  unfold attend rest03
  iintro ⟨HK, HV, C0, C1, C2, C3⟩
  iapply (get0K c fk h) $$ HK
  iintro HK
  iapply (get0V c fv h) $$ HV
  iintro HV
  iapply (run_then (run_put c 0 h q (gathered c fk) (gathered c fv))) $$ C0
  iintro C0
  iapply (run_then (run_put c 3 h q (gathered c fk) (gathered c fv))) $$ C3
  iintro C3
  iapply (run_then (run_one12 c fk fv q h 1 0 rfl)) $$ [HK HV C1]
  · isplitl [HK]; · iexact HK
    isplitl [HV]; · iexact HV
    iexact C1
  iintro ⟨HK, HV, C1⟩
  ihave Hw := (run_one12 c fk fv q h 2 1 rfl) $$ [HK HV C2]
  · isplitl [HK]; · iexact HK
    isplitl [HV]; · iexact HV
    iexact C2
  iapply (wp_wand frame (wpE (defs₀ (F := F)) 𝒱₀ (c : Thread nD τ) none)) $$ Hw
  iintro %_ ⟨HK, HV, C2⟩
  isplitl [HK]; · iexact HK
  isplitl [HV]; · iexact HV
  isplitl [C0]; · iexact C0
  isplitl [C1]; · iexact C1
  isplitl [C2]; · iexact C2
  iexact C3

/-! ## One head -/

def headAt (d : Dev nD) (q : FVec F S256x1024 .f32) (h : Fin 8) : P F PUnit := Prog.bind (seg (await d h) 0 136) fun _ => attend (headQ q h) h
theorem head_at (d : Dev nD) (q : FVec F S256x1024 .f32) (h : Fin 8) : head d q (0 + h.val) = headAt d q h :=
  congrArg (headAt d q) (hd_at h (by have := h.isLt; omega))

/-- What a head leaves. -/
def headDone (c : Dev nD) (fk fv : Ext F) (q : FVec F S256x1024 .f32) (h : Fin 8) : sProp 𝕄 :=
  iprop((headK c fk h ∗ headV c fv h ∗ bigSep Finset.univ fun b => cPts c b h (ctxVal q (gathered c fk) (gathered c fv)))
    ∗ semVal ((c : Thread nD τ), .dma (headSem cc0_scratch5 h)) 0 ∗ semVal ((c : Thread nD τ), .dma (headSem cc0_scratch6 h)) 0)

theorem run_head (c : Dev nD) (fk fv : Ext F) (q : FVec F S256x1024 .f32) (h : Fin 8) :
    iprop(levAts L lv ∗ ((BK c fk h 68 0 ∗ BV c fv h 68 0) ∗ bigSep Finset.univ fun b => iprop(∃ f, cPts c b h f)) ∗ owesE c (Owe c 30))
      ⊢ W c (head c q (0 + h.val)) fun _ => iprop(headDone c fk fv q h ∗ owesE c (Owe c 30)) := by
  rw [head_at]
  unfold headAt headDone
  iintro ⟨#Hlev, ⟨HB, HC⟩, HO⟩
  iapply (run_then (await_head c fk fv h)) $$ [HB HO]
  · isplitr; · iexact Hlev
    isplitl [HB]; · iexact HB
    iexact HO
  iintro ⟨⟨HK, HV, Sk, Sv⟩, HO⟩
  ihave Hw := (run_attend c fk fv q h) $$ [HK HV HC]
  · isplitl [HK]; · iexact HK
    isplitl [HV]; · iexact HV
    iexact HC
  iapply (wp_wand frame (wpE (defs₀ (F := F)) 𝒱₀ (c : Thread nD τ) none)) $$ Hw
  iintro %_ H
  isplitr [HO]
  · isplitl [H]; · iexact H
    isplitl [Sk]; · iexact Sk
    iexact Sv
  iexact HO

/-! ## The whole-buffer loads, the projection, the sum -/

/-- The operands and the buffers, whole. -/
def xPts (c : Dev nD) (f : Vec F S1x256x1024 .f32) : sProp 𝕄 := ((c : Thread nD τ).loc cc0_stg0_0) ↦{fullShare} f
def wqPts (c : Dev nD) (f : Vec F S1024x1024 .f32) : sProp 𝕄 := ((c : Thread nD τ).loc cc0_stg1_0) ↦{fullShare} f
def woPts (c : Dev nD) (f : Vec F S1024x1024 .f32) : sProp 𝕄 := ((c : Thread nD τ).loc cc0_stg2_0) ↦{fullShare} f
def ctxPts (c : Dev nD) (f : Ctx F) : sProp 𝕄 := ((c : Thread nD τ).loc cc0_scratch2) ↦{fullShare} f
def prodPts (c : Dev nD) (f : Arr F) : sProp 𝕄 := ((c : Thread nD τ).loc cc0_scratch3) ↦{fullShare} f

theorem zero3 : (![0, 0, 0] : Fin 3 → ℕ) = fun _ => 0 := by funext a; fin_cases a <;> rfl
theorem zero2 : (![0, 0] : Fin 2 → ℕ) = fun _ => 0 := by funext a; fin_cases a <;> rfl

theorem run_getX (c : Dev nD) (f : Vec F S1x256x1024 .f32) {α : Type} {k : Vec F S1x256x1024 .f32 → P F α} {Q : α → sProp 𝕄} :
    xPts c f ⊢ iprop((xPts c f -∗ W c (k f) Q) -∗ W c (Prog.bind getX k) Q) := by
  have key := wp_load_rect (defs := defs₀ (F := F)) 𝒱₀ (c : Thread nD τ) none Set.univ (Γ := []) (m := xM) (r := wholeX) (S := Finset.univ)
    (q := fullShare) (f := f) (hl := View.loadsAt_vmem h_S1x256x1024) (k := k) (Q := Q) (Finset.subset_univ _)
  rw [show (xM.access wholeX).read (Elt F) f = f from Memref.read_access_unit_zero (Elt F) cc0_stg0_0 zero3 _ f] at key
  exact key
theorem run_getWq (c : Dev nD) (f : Vec F S1024x1024 .f32) {α : Type} {k : Vec F S1024x1024 .f32 → P F α} {Q : α → sProp 𝕄} :
    wqPts c f ⊢ iprop((wqPts c f -∗ W c (k f) Q) -∗ W c (Prog.bind getWq k) Q) := by
  have key := wp_load_rect (defs := defs₀ (F := F)) 𝒱₀ (c : Thread nD τ) none Set.univ (Γ := []) (m := wqM) (r := wholeW) (S := Finset.univ)
    (q := fullShare) (f := f) (hl := View.loadsAt_vmem h_S1024x1024) (k := k) (Q := Q) (Finset.subset_univ _)
  rw [show (wqM.access wholeW).read (Elt F) f = f from Memref.read_access_unit_zero (Elt F) cc0_stg1_0 zero2 _ f] at key
  exact key
theorem run_getWo (c : Dev nD) (f : Vec F S1024x1024 .f32) {hl : woM.view.LoadsAt wholeW.toLoadRect} {α : Type} {k : Vec F S1024x1024 .f32 → P F α} {Q : α → sProp 𝕄} :
    woPts c f ⊢ iprop((woPts c f -∗ W c (k f) Q) -∗ W c (.op (.load woM wholeW.toLoadRect hl) k) Q) := by
  have key := wp_load_rect (defs := defs₀ (F := F)) 𝒱₀ (c : Thread nD τ) none Set.univ (Γ := []) (m := woM) (r := wholeW) (S := Finset.univ)
    (q := fullShare) (f := f) (hl := hl) (k := k) (Q := Q) (Finset.subset_univ _)
  rw [show (woM.access wholeW).read (Elt F) f = f from Memref.read_access_unit_zero (Elt F) cc0_stg2_0 zero2 _ f] at key
  exact key
theorem run_getCtx (c : Dev nD) (f : Ctx F) {hl : ctxM.view.LoadsAt wholeRect.toLoadRect} {α : Type} {k : Vec F S256x1024 .f32 → P F α} {Q : α → sProp 𝕄} :
    ctxPts c f ⊢ iprop((ctxPts c f -∗ W c (k f) Q) -∗ W c (.op (.load ctxM wholeRect.toLoadRect hl) k) Q) := by
  have key := wp_load_rect (defs := defs₀ (F := F)) 𝒱₀ (c : Thread nD τ) none Set.univ (Γ := []) (m := ctxM) (r := wholeRect) (S := Finset.univ)
    (q := fullShare) (f := f) (hl := hl) (k := k) (Q := Q) (Finset.subset_univ _)
  rw [show (ctxM.access wholeRect).read (Elt F) f = f from Memref.read_access_unit_zero (Elt F) cc0_scratch2 zero2 _ f] at key
  exact key
theorem run_putProd (c : Dev nD) (f w : Arr F) {hx : (pM.access wholeRect).Stores Finset.univ} {hm} {α : Type} {k : PUnit → P F α} {Q : α → sProp 𝕄} :
    prodPts c f ⊢ iprop((prodPts c w -∗ W c (k ⟨⟩) Q) -∗ W c (.op (.store pM wholeRect w Finset.univ hx hm) k) Q) := by
  have key := wp_store (defs := defs₀ (F := F)) 𝒱₀ (c : Thread nD τ) none Set.univ (Γ := []) (m := pM) (r := wholeRect) (S := Finset.univ)
    (w := w) (hx := hx) (hm := hm) (f := f) (k := k) (Q := Q) (Finset.subset_univ _)
  rw [show (pM.access wholeRect).write (Elt F) f w Finset.univ = w from Memref.write_access_unit_zero_univ (Elt F) cc0_scratch3 zero2 _ f w] at key
  exact key

/-- The projection, from the whole context. -/
theorem run_project (c : Dev nD) (wo : Vec F S1024x1024 .f32) (ctx : Ctx F) :
    iprop(woPts c wo ∗ ctxPts c ctx ∗ ∃ g, prodPts c g) ⊢ W c project fun _ => iprop(woPts c wo ∗ ctxPts c ctx ∗ prodPts c (partialOf wo ctx)) := by
  unfold project
  iintro ⟨Hw, Hc, ⟨%g, Hp⟩⟩
  iapply (run_getWo c wo) $$ Hw
  iintro Hw
  iapply (run_getCtx c ctx) $$ Hc
  iintro Hc
  iapply (wp_load_rect (defs := defs₀ (F := F)) 𝒱₀ (c : Thread nD τ) none Set.univ (Γ := []) (m := pM) (r := wholeRect) (S := Finset.univ)
    (q := fullShare) (f := g) (Finset.subset_univ _)) $$ [Hp]
  · unfold prodPts; iexact Hp
  iintro Hp
  rw [shapeCast_self]
  iapply (run_putProd c g (partialOf wo ctx)) $$ [Hp]
  · unfold prodPts; iexact Hp
  iintro Hp
  iapply W_ret
  isplitl [Hw]; · iexact Hw
  isplitl [Hc]; · iexact Hc
  iexact Hp

/-- The slabs that landed, as one range. -/
def slabs (c : Dev nD) (f : Land F) : sProp 𝕄 :=
  ((c : Thread nD τ).loc cc0_scratch4) ↦[(Finset.univ : Finset (Fin 15)).biUnion fun t => fib slabOf (dst 0 t)]{fullShare} f

theorem run_getOwn (c : Dev nD) (f : Arr F) {hl : pM.view.LoadsAt (myRect c).toLoadRect} {α : Type} {k : Vec F S16x1024 .bf16 → P F α} {Q : α → sProp 𝕄} :
    pPts c c f ⊢ iprop((pPts c c f -∗ W c (k fun y => f ((myRect c).emb y)) Q) -∗ W c (.op (.load pM (myRect c).toLoadRect hl) k) Q) :=
  wp_load_rect (defs := defs₀ (F := F)) 𝒱₀ (c : Thread nD τ) none Set.univ (Γ := []) (m := pM) (r := myRect c) (S := fib chunkOf c)
    (q := fullShare) (f := f) (by rw [ownP_set])
theorem run_getSlabs (c : Dev nD) (f : Land F) {hl : rsM.view.LoadsAt gotRect.toLoadRect} {α : Type} {k : Vec F S15x16x1024 .bf16 → P F α} {Q : α → sProp 𝕄} :
    slabs c f ⊢ iprop((slabs c f -∗ W c (k fun y => f (gotRect.emb y)) Q) -∗ W c (.op (.load rsM gotRect.toLoadRect hl) k) Q) :=
  wp_load_rect (defs := defs₀ (F := F)) 𝒱₀ (c : Thread nD τ) none Set.univ (Γ := []) (m := rsM) (r := gotRect)
    (S := (Finset.univ : Finset (Fin 15)).biUnion fun t => fib slabOf (dst 0 t)) (q := fullShare) (f := f) got_set
theorem run_getOut (c : Dev nD) (f : Arr F) {hl : outM.view.LoadsAt (myRect c).toLoadRect} {α : Type} {k : Vec F S16x1024 .bf16 → P F α} {Q : α → sProp 𝕄} :
    oPts c c fullShare f ⊢ iprop((oPts c c fullShare f -∗ W c (k fun y => f ((myRect c).emb y)) Q) -∗ W c (.op (.load outM (myRect c).toLoadRect hl) k) Q) :=
  wp_load_rect (defs := defs₀ (F := F)) 𝒱₀ (c : Thread nD τ) none Set.univ (Γ := []) (m := outM) (r := myRect c) (S := fib chunkOf c)
    (q := fullShare) (f := f) (by rw [ownO_set])
theorem run_putOut (c : Dev nD) (f : Arr F) (w : Vec F S16x1024 .bf16) {hx : (outM.access (myRect c)).Stores Finset.univ} {hm} {α : Type} {k : PUnit → P F α} {Q : α → sProp 𝕄} :
    oPts c c fullShare f ⊢ iprop((oPts c c fullShare ((outM.access (myRect c)).write (Elt F) f w Finset.univ) -∗ W c (k ⟨⟩) Q)
      -∗ W c (.op (.store outM (myRect c) w Finset.univ hx hm) k) Q) :=
  wp_store (defs := defs₀ (F := F)) 𝒱₀ (c : Thread nD τ) none Set.univ (Γ := []) (m := outM) (r := myRect c) (S := fib chunkOf c)
    (w := w) (hx := hx) (hm := hm) (f := f) (by rw [View.setOn_univ, ownO_set])

theorem run_combine (c : Dev nD) (pr : Dev nD → Arr F) :
    iprop(pPts c c (pr c) ∗ slabs c (landed pr c) ∗ ∃ g, oPts c c fullShare g)
      ⊢ W c (combine c) fun _ => iprop(pPts c c (pr c) ∗ slabs c (landed pr c) ∗ oPts c c fullShare (fin pr)) := by
  unfold combine
  iintro ⟨Hp, Hs, ⟨%g, Ho⟩⟩
  iapply (run_getOwn c (pr c)) $$ Hp
  iintro Hp
  iapply (run_getSlabs c (landed pr c)) $$ Hs
  iintro Hs
  iapply (run_getOut c g) $$ Ho
  iintro Ho
  iapply (run_putOut c g) $$ Ho
  iintro Ho
  iapply W_ret
  isplitl [Hp]; · iexact Hp
  isplitl [Hs]; · iexact Hs
  have e : oPts c c fullShare ((outM.access (myRect c)).write (Elt F) g (sumRows pr c) Finset.univ) = oPts (F := F) c c fullShare (fin pr) :=
    pointsTo_congr fun x hx => sum_val pr c g x hx
  iapply (Entails.of_eq e)
  unfold sumRows
  iexact Ho

end Cert.Attn

end
-- ==== Proof.Exchange.lean ====
/-
# The exchange

Reduce-scatter and all-gather: fifteen chunks of the partial product out, fifteen in, the sum, the finished rows out to
every peer and theirs in, and the waits for what was sent.
-/
module

public import proofs.«01_k».proof.Proof.Attend
public import Idealize.ShloMosaic.Lib.Ring

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## What a transfer moves -/

variable (x : Dev nD → Arr F) (K : Dev nD × Cl → ℕ)

/-! ## Cutting along the peers -/

omit [FloatOps F] in
/-- One piece of each device: one's own and the fifteen peers'. -/
theorem cut_peers (c : Dev nD) (Φ : Dev nD → sProp 𝕄) : bigSep Finset.univ Φ = iprop(Φ c ∗ bigSep Finset.univ fun t : Fin 15 => Φ (dst c t)) := by
  rw [univ_peers c, BI.bigSep_insert (notMem_peers c), BI.bigSep_map]; rfl

omit [FloatOps F] in
/-- The peers in either order. -/
theorem cut_rev (Φ : Fin 15 → sProp 𝕄) : bigSep Finset.univ Φ = bigSep Finset.univ fun t : Fin 15 => Φ t.rev :=
  BI.bigSep_univ_equiv Fin.revPerm Φ

section
variable {ℓ : Loc nD τ sig} {B : Type} [Fintype B] [DecidableEq B] (I : B → Finset (Idx ℓ)) (g : Idx ℓ → B)

omit [FloatOps F] in
/-- A buffer held whole is held piece by piece, where `I b` is what `g` sends to `b`; -/
theorem pieces (h : ∀ b i, i ∈ I b ↔ g i = b) {q : PosShare TreeShare} (f : Buf (Elt F) ℓ) : (ℓ ↦{q} f : sProp 𝕄) = bigSep Finset.univ fun b => ℓ ↦[I b]{q} f :=
  Ring.pointsTo_blocks I (fun b b' ne => Finset.disjoint_left.mpr fun i hi hi' => ne (((h b i).1 hi).symm.trans ((h b' i).1 hi')))
    (by ext i; simp only [Finset.mem_biUnion, Finset.mem_univ, true_and, iff_true]; exact ⟨g i, (h _ i).2 rfl⟩) f
omit [FloatOps F] in
/-- and from its pieces at whatever contents, whole again. -/
theorem pieces_join (h : ∀ b i, i ∈ I b ↔ g i = b) {q : PosShare TreeShare} (f : Buf (Elt F) ℓ) :
    (bigSep Finset.univ fun b => iprop(∃ f : Buf (Elt F) ℓ, ℓ ↦[I b]{q} f)) ⊢ (iprop(∃ f, ℓ ↦{q} f) : sProp 𝕄) :=
  Ring.pointsTo_blocks_join_exists I (fun b b' ne => Finset.disjoint_left.mpr fun i hi hi' => ne (((h b i).1 hi).symm.trans ((h b' i).1 hi')))
    (by ext i; simp only [Finset.mem_biUnion, Finset.mem_univ, true_and, iff_true]; exact ⟨g i, (h _ i).2 rfl⟩) f
end

def outPts (c : Dev nD) (f : Arr F) : sProp 𝕄 := ((c : Thread nD τ).loc cc0_stg3_0) ↦{fullShare} f
def landPts (c : Dev nD) (f : Land F) : sProp 𝕄 := ((c : Thread nD τ).loc cc0_scratch4) ↦{fullShare} f

theorem prod_cut (c : Dev nD) (f : Arr F) : prodPts c f = iprop(pPts c c f ∗ bigSep Finset.univ fun t : Fin 15 => pPts c (dst c t) f) := by
  unfold prodPts
  refine (pieces (ℓ := (c : Thread nD τ).loc cc0_scratch3) (fib chunkOf) chunkOf (fun _ _ => mem_fib) f).trans ((cut_peers c _).trans rfl)
theorem out_cut (c : Dev nD) (f : Arr F) : outPts c f = iprop(oPts c c fullShare f ∗ bigSep Finset.univ fun t : Fin 15 => oPts c (dst c t) fullShare f) := by
  unfold outPts
  refine (pieces (ℓ := (c : Thread nD τ).loc cc0_stg3_0) (fib chunkOf) chunkOf (fun _ _ => mem_fib) f).trans ((cut_peers c _).trans rfl)

/-- The slab that no transfer uses. -/
def slab0 (c : Dev nD) (f : Land F) : sProp 𝕄 := ((c : Thread nD τ).loc cc0_scratch4) ↦[fib slabOf 0]{fullShare} f

theorem land_cut (c : Dev nD) (f : Land F) : landPts c f = iprop(slab0 c f ∗ bigSep Finset.univ fun t : Fin 15 => rsPts c t f) := by
  unfold landPts
  refine (pieces (ℓ := (c : Thread nD τ).loc cc0_scratch4) (fib slabOf) slabOf (fun _ _ => mem_fib) f).trans ((cut_peers 0 _).trans rfl)

theorem slabs_cut (c : Dev nD) (f : Land F) : slabs c f = bigSep Finset.univ fun t : Fin 15 => rsPts c t f := by
  unfold slabs
  rw [pointsTo_biUnion _ _ fun t _ t' _ ne => fib_disjoint slabOf (dst 0 t) (dst 0 t') fun e => ne (dst_injective 0 e)]
  rfl

theorem own_shares (c : Dev nD) (f : Arr F) : oPts c c fullShare f = bigSep Finset.univ fun t : Fin 15 => oPts c c (shr t) f := by
  unfold oPts shr
  exact pointsTo_deal Finset.univ ⟨0, Finset.mem_univ _⟩ fullShare

/-- The landing buffer, whole again. -/
theorem land_join (c : Dev nD) (f g : Land F) : iprop(slab0 c f ∗ slabs c g) ⊢ iprop(∃ h, landPts c h) := by
  have e : iprop((∃ f, slab0 (F := F) c f) ∗ bigSep Finset.univ fun t : Fin 15 => iprop(∃ f, rsPts c t f))
      = bigSep Finset.univ fun d => iprop(∃ f : Land F, ((c : Thread nD τ).loc cc0_scratch4) ↦[fib slabOf d]{fullShare} f) := by rw [cut_peers 0]; rfl
  rw [slabs_cut]
  unfold landPts
  refine BIBase.Entails.trans ?_ (pieces_join (ℓ := (c : Thread nD τ).loc cc0_scratch4) (fib slabOf) slabOf (fun _ _ => mem_fib) f)
  refine BIBase.Entails.trans ?_ (Entails.of_eq e)
  iintro ⟨H0, H⟩
  isplitl [H0]; · iexists f; iexact H0
  iapply (show (bigSep Finset.univ fun t : Fin 15 => rsPts c t g) ⊢ bigSep Finset.univ fun t : Fin 15 => iprop(∃ f, rsPts c t f) from
    bigSep_mono fun t _ => show rsPts c t g ⊢ iprop(∃ f, rsPts c t f) from by iintro H; iexists g; iexact H)
  iexact H

/-! ## The exchange's ghost state -/

/-- What one peer's transfers and waits take. -/
def exNeeds (c : Dev nD) (t : Fin 15) : sProp 𝕄 :=
  iprop((kit c t .rsS .rsR ∗ ∃ f, rsPts (dst c t) t f) ∗ (kit c t .agS .agR ∗ ∃ f, oPts (dst c t) c fullShare f)
    ∗ (cred (tallyAt (cell c (.rsR t)) () cr) ∗ atPos ER (cell c (.rsR t)) 0 ∅ 0) ∗ (cred (tallyAt (cell c (.agR t)) () cr) ∗ atPos ER (cell c (.agR t)) 0 ∅ 0)
    ∗ atPos ER (cell c (.rsS t)) 0 ∅ 0 ∗ atPos ER (cell c (.agS t)) 0 ∅ 0)
/-- The cells it leaves closed. -/
def exDone (c : Dev nD) (t : Fin 15) : sProp 𝕄 :=
  iprop(semVal (cell c (.rsS t)) 0 ∗ semVal (cell c (.rsR t)) 0 ∗ semVal (cell c (.agS t)) 0 ∗ semVal (cell c (.agR t)) 0)

set_option maxHeartbeats 800000 in
theorem run_exchange (c : Dev nD) :
    iprop((records x K ∗ levAts L lv) ∗ (bigSep Finset.univ fun t => exNeeds c t) ∗ prodPts c (x c) ∗ (∃ g, oPts c c fullShare g) ∗ owesE c (Owe c 30))
      ⊢ W c (exchange c) fun _ => iprop((bigSep Finset.univ fun t => exDone c t) ∗ prodPts c (x c) ∗ outPts c (fin x) ∗ slabs c (landed x c) ∗ owesE c (Owe c 0)) := by
  unfold exchange exNeeds exDone
  rw [prod_cut, out_cut, cut_rev fun t => oPts c (dst c t) fullShare (fin x)]
  simp only [bigSep_sep']
  iintro ⟨⟨#HR, #Hlev⟩, ⟨⟨K1, L1⟩, ⟨K2, L2⟩, ⟨C1, A1⟩, ⟨C2, A2⟩, A3, A4⟩, ⟨Pc, Pt⟩, Ho, HO⟩
  have send := wp_seg (R := records x K) 15 (send (F := F) c) 0
    (fun t => iprop(kit c t .rsS .rsR ∗ pPts c (dst c t) (x c) ∗ ∃ f, rsPts (dst c t) t f)) (fun t => cred (tallyAt (cell c (.rsS t)) () cr))
    (fun n => owesE c (Owe c (30 - n))) (run_send x K c)
  have recv := wp_seg (R := iprop(records x K ∗ levAts L lv)) 15 (recv (F := F)) 0
    (fun t => iprop(cred (tallyAt (cell c (.rsR t)) () cr) ∗ atPos ER (cell c (.rsR t)) 0 ∅ 0)) (fun t => iprop(semVal (cell c (.rsR t)) 0 ∗ rsPts c t (landed x c)))
    (fun _ => owesE c (Owe c 15)) (run_recv x K c)
  have share := wp_seg (R := records x K) 15 (share (F := F) c) 0
    (fun t => iprop(kit c t .agS .agR ∗ oPts c c (shr t) (fin x) ∗ ∃ f, oPts (dst c t) c fullShare f)) (fun t => cred (tallyAt (cell c (.agS t)) () cr))
    (fun n => owesE c (Owe c (15 - n))) (run_share x K c)
  have heard := wp_seg (R := iprop(records x K ∗ levAts L lv)) 15 (heard (F := F)) 0
    (fun t => iprop(cred (tallyAt (cell c (.agR t)) () cr) ∗ atPos ER (cell c (.agR t)) 0 ∅ 0)) (fun t => iprop(semVal (cell c (.agR t)) 0 ∗ oPts c (dst c t.rev) fullShare (fin x)))
    (fun _ => owesE c (Owe c 0)) (run_heard x K c)
  have sent := wp_seg (R := iprop(records x K ∗ levAts L lv)) 15 (sent (F := F) c) 0
    (fun t => iprop(cred (tallyAt (cell c (.rsS t)) () cr) ∗ atPos ER (cell c (.rsS t)) 0 ∅ 0)) (fun t => iprop(semVal (cell c (.rsS t)) 0 ∗ pPts c (dst c t) (x c)))
    (fun _ => owesE c (Owe c 0)) (run_sent x K c)
  have shared := wp_seg (R := iprop(records x K ∗ levAts L lv)) 15 (shared (F := F) c) 0
    (fun t => iprop(cred (tallyAt (cell c (.agS t)) () cr) ∗ atPos ER (cell c (.agS t)) 0 ∅ 0)) (fun t => iprop(semVal (cell c (.agS t)) 0 ∗ oPts c c (shr t) (fin x)))
    (fun _ => owesE c (Owe c 0)) (run_shared x K c)
  simp only [bigSep_sep'] at send recv share heard sent shared
  iapply (run_then send) $$ [K1 L1 Pt HO]
  · isplitr; · iexact HR
    isplitl [K1 L1 Pt]
    · isplitl [K1]; · iexact K1
      isplitl [Pt]; · iexact Pt
      iexact L1
    iexact HO
  iintro ⟨C3, HO⟩
  iapply (run_then recv) $$ [C1 A1 HO]
  · isplitr
    · isplitr; · iexact HR
      iexact Hlev
    isplitl [C1 A1]
    · isplitl [C1]; · iexact C1
      iexact A1
    iexact HO
  iintro ⟨⟨V2, Hs⟩, HO⟩
  ihave Hs := (Entails.of_eq (slabs_cut c (landed x c)).symm) $$ Hs
  iapply (run_then (run_combine c x)) $$ [Pc Hs Ho]
  · isplitl [Pc]; · iexact Pc
    isplitl [Hs]; · iexact Hs
    iexact Ho
  iintro ⟨Pc, Hs, Ho⟩
  ihave Ho := (Entails.of_eq (own_shares c (fin x))) $$ Ho
  iapply (run_then share) $$ [K2 L2 Ho HO]
  · isplitr; · iexact HR
    isplitl [K2 L2 Ho]
    · isplitl [K2]; · iexact K2
      isplitl [Ho]; · iexact Ho
      iexact L2
    iexact HO
  iintro ⟨C4, HO⟩
  iapply (run_then heard) $$ [C2 A2 HO]
  · isplitr
    · isplitr; · iexact HR
      iexact Hlev
    isplitl [C2 A2]
    · isplitl [C2]; · iexact C2
      iexact A2
    iexact HO
  iintro ⟨⟨V4, Ht⟩, HO⟩
  iapply (run_then sent) $$ [C3 A3 HO]
  · isplitr
    · isplitr; · iexact HR
      iexact Hlev
    isplitl [C3 A3]
    · isplitl [C3]; · iexact C3
      iexact A3
    iexact HO
  iintro ⟨⟨V1, Pt⟩, HO⟩
  ihave Hw := shared $$ [C4 A4 HO]
  · isplitr
    · isplitr; · iexact HR
      iexact Hlev
    isplitl [C4 A4]
    · isplitl [C4]; · iexact C4
      iexact A4
    iexact HO
  iapply (wp_wand frame (wpE (defs₀ (F := F)) 𝒱₀ (c : Thread nD τ) none)) $$ Hw
  iintro %_ ⟨⟨V3, Ho⟩, HO⟩
  ihave Ho := (Entails.of_eq (own_shares c (fin x)).symm) $$ Ho
  isplitl [V1 V2 V3 V4]
  · isplitl [V1]; · iexact V1
    isplitl [V2]; · iexact V2
    isplitl [V3]; · iexact V3
    iexact V4
  isplitl [Pc Pt]
  · isplitl [Pc]; · iexact Pc
    iexact Pt
  isplitl [Ho Ht]
  · isplitl [Ho]; · iexact Ho
    iexact Ht
  isplitl [Hs]; · iexact Hs
  iexact HO

end Cert.Attn

end
-- ==== Proof.TextA.lean ====
/-
# The printed program is the loops (the gathers)

`cont` compares two programs effect by effect; the printed parts up to the last start of a copy.
-/
module

public import proofs.«01_k».proof.Proof.Text

@[expose] public section

set_option maxRecDepth 65536

noncomputable section

namespace Cert.Attn

open Cert.KernelIdeal Cert.KernelIdeal.Gen
open Idealize.ShloMosaic Idealize.ShloMosaic.TcCoe
open Idealize.SL.Sem

variable {F : FTy → Type} [FloatOps F]

theorem cont {α X : Type} {e : TpuEff nD τ sig (Elt F) Λ₀ .tc X} {k k' : X → P F α} (h : ∀ r, k r = k' r) : Prog.op e k = Prog.op e k' := by
  rw [funext h]

theorem bindc {α β : Type} {p p' : P F α} {k k' : α → P F β} (hp : p = p') (h : ∀ r, k r = k' r) : Prog.bind p k = Prog.bind p' k' := by
  rw [hp, funext h]

theorem part564 : k0_part564 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10
    = .op .deviceId fun d => Prog.bind (seg (signal d) 0 15) fun _ => Prog.bind bar fun _ => Prog.bind (seg (start d) 0 230) fun _ =>
        .ret ⟨d, Scalar.remsi (Scalar.divsi (Dev.word d) 1#32) 16#32, Scalar.muli (Scalar.remsi (Scalar.divsi (Dev.word d) 1#32) 16#32) 8#32⟩ := by
  iterate 247 refine cont fun _ => ?_
  rfl
theorem part565 (d : Dev nD) (v : BitVec 32) : k0_part565 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 d v = seg (start d) 230 257 := by
  iterate 257 refine cont fun _ => ?_
  rfl
theorem part566 (d : Dev nD) (v : BitVec 32) : k0_part566 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 d v = seg (start d) 487 257 := by
  iterate 257 refine cont fun _ => ?_
  rfl
theorem part567 (d : Dev nD) (v : BitVec 32) : k0_part567 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 d v = seg (start d) 744 256 := by
  iterate 256 refine cont fun _ => ?_
  rfl

end Cert.Attn
-- ==== Proof.TextB.lean ====
/-
# The printed program is the loops (the heads)

The printed parts from the last starts to the first receipts of the exchange.
-/
module

public import proofs.«01_k».proof.Proof.TextA

@[expose] public section

set_option maxRecDepth 65536

noncomputable section

namespace Cert.Attn

open Cert.KernelIdeal Cert.KernelIdeal.Gen
open Idealize.ShloMosaic Idealize.ShloMosaic.TcCoe
open Idealize.SL.Sem

variable {F : FTy → Type} [FloatOps F]

theorem part568 (d : Dev nD) : k0_part568 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 d
    = Prog.bind (seg (start d) 1000 88) fun _ => Prog.bind getX fun x => Prog.bind getWq fun wq =>
      Prog.bind (head d (queries x wq) 0) fun _ => Prog.bind (seg (await d (hd 1)) 0 24) fun _ => .ret (queries x wq) := by
  iterate 264 refine cont fun _ => ?_
  rfl
theorem part569 (d : Dev nD) (q : FVec F S256x1024 .f32) : k0_part569 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 d q
    = Prog.bind (seg (await d (hd 1)) 24 112) fun _ => Prog.bind (attend (headQ q (hd 1)) (hd 1)) fun _ =>
      Prog.bind (seg (await d (hd 2)) 0 136) fun _ => Prog.bind (get0 kM (hd 2)) fun k => Prog.bind (get0 vM (hd 2)) fun v =>
      .ret ⟨headQ q (hd 2), den03 (headQ q (hd 2)) k, num03 (headQ q (hd 2)) k v⟩ := by
  iterate 264 refine cont fun _ => ?_
  rfl
theorem part570 (d : Dev nD) (q : FVec F S256x1024 .f32) (q2 : FVec F S256x128 .f32) (den : FVec F S128x1 .f32) (num : FVec F S128x128 .f32) :
    k0_part570 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 d q q2 den num
    = Prog.bind (rest03 q2 num den (hd 2)) fun _ => Prog.bind (head d q 3) fun _ => seg (await d (hd 4)) 0 106 := by
  iterate 268 refine cont fun _ => ?_
  rfl
theorem part571 (d : Dev nD) (q : FVec F S256x1024 .f32) : k0_part571 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 d q
    = Prog.bind (seg (await d (hd 4)) 106 30) fun _ => Prog.bind (attend (headQ q (hd 4)) (hd 4)) fun _ =>
      Prog.bind (head d q 5) fun _ => seg (await d (hd 6)) 0 75 := by
  iterate 269 refine cont fun _ => ?_
  rfl
theorem part572 (d : Dev nD) (v : BitVec 32) (q : FVec F S256x1024 .f32) : k0_part572 (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 d v q
    = Prog.bind (seg (await d (hd 6)) 75 61) fun _ => Prog.bind (attend (headQ q (hd 6)) (hd 6)) fun _ =>
      Prog.bind (head d q 7) fun _ => Prog.bind project fun _ => Prog.bind (seg (send d) 0 15) fun _ => seg recv 0 2 := by
  iterate 246 refine cont fun _ => ?_
  rfl

end Cert.Attn
-- ==== Proof.TextC.lean ====
/-
# The printed program is the loops (the whole)

The parts together.
-/
module

public import proofs.«01_k».proof.Proof.TextB

@[expose] public section

set_option maxRecDepth 65536

noncomputable section

namespace Cert.Attn

open Cert.KernelIdeal Cert.KernelIdeal.Gen
open Idealize.ShloMosaic Idealize.ShloMosaic.TcCoe
open Idealize.SL.Sem

variable {F : FTy → Type} [FloatOps F]

theorem bindA {α β γ : Type} (p : P F α) (f : α → P F β) (g : β → P F γ) :
    Prog.bind (Prog.bind p f) g = Prog.bind p fun a => Prog.bind (f a) g := Prog.bind_assoc p f g
theorem bindR {α β : Type} (a : α) (f : α → P F β) : Prog.bind (.ret a) f = f a := id rfl

theorem bindO {α β X : Type} (e : TpuEff nD τ sig (Elt F) Λ₀ .tc X) (k : X → P F α) (f : α → P F β) :
    Prog.bind (.op e k) f = .op e fun x => Prog.bind (k x) f := id rfl

/-- After the first two receipts, cut where the printed parts are. -/
def tail (d : Dev nD) : P F PUnit :=
  Prog.bind (seg recv 2 3) fun _ =>
  Prog.bind (seg recv 5 3) fun _ =>
  Prog.bind (seg recv 8 3) fun _ =>
  Prog.bind (seg recv 11 3) fun _ =>
  Prog.bind (Prog.bind (seg recv 14 1) fun _ => combine d) fun _ =>
  Prog.bind (seg (share d) 0 2) fun _ =>
  Prog.bind (seg (share d) 2 2) fun _ =>
  Prog.bind (seg (share d) 4 1) fun _ =>
  Prog.bind (seg (share d) 5 2) fun _ =>
  Prog.bind (seg (share d) 7 2) fun _ =>
  Prog.bind (seg (share d) 9 1) fun _ =>
  Prog.bind (seg (share d) 10 2) fun _ =>
  Prog.bind (seg (share d) 12 1) fun _ =>
  Prog.bind (Prog.bind (seg (share d) 13 2) fun _ => seg heard 0 1) fun _ =>
  Prog.bind (seg heard 1 4) fun _ =>
  Prog.bind (seg heard 5 4) fun _ =>
  Prog.bind (seg heard 9 4) fun _ =>
  Prog.bind (Prog.bind (seg heard 13 2) fun _ => seg (sent d) 0 2) fun _ =>
  Prog.bind (seg (sent d) 2 5) fun _ =>
  Prog.bind (seg (sent d) 7 4) fun _ =>
  Prog.bind (Prog.bind (seg (sent d) 11 4) fun _ => seg (shared d) 0 1) fun _ =>
  Prog.bind (seg (shared d) 1 6) fun _ =>
  Prog.bind (seg (shared d) 7 6) fun _ =>
  seg (shared d) 13 2

/-- A part does `s` and returns something on which nothing that follows depends. -/
theorem does {α β : Type} {p : P F α} {s : P F PUnit} {k : α → P F β} {k' : P F β} (h : ∃ r, p = Prog.bind s fun _ => .ret r) (hk : ∀ r, k r = k') :
    Prog.bind p k = Prog.bind s fun _ => k' := by
  obtain ⟨r, rfl⟩ := h
  rw [funext hk]
  exact bindA s (fun _ => .ret r) fun _ => k'

theorem body_parts : cc0__body (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10
    = .op .deviceId fun d => Prog.bind (seg (signal d) 0 15) fun _ => Prog.bind bar fun _ => Prog.bind (seg (start d) 0 230) fun _ =>
      Prog.bind (seg (start d) 230 257) fun _ => Prog.bind (seg (start d) 487 257) fun _ => Prog.bind (seg (start d) 744 256) fun _ =>
      Prog.bind (seg (start d) 1000 88) fun _ => Prog.bind getX fun x => Prog.bind getWq fun wq =>
      Prog.bind (head d (queries x wq) 0) fun _ =>
      Prog.bind (seg (await d (hd 1)) 0 24) fun _ => Prog.bind (seg (await d (hd 1)) 24 112) fun _ => Prog.bind (attend (headQ (queries x wq) (hd 1)) (hd 1)) fun _ =>
      Prog.bind (seg (await d (hd 2)) 0 136) fun _ => Prog.bind (attend (headQ (queries x wq) (hd 2)) (hd 2)) fun _ =>
      Prog.bind (head d (queries x wq) 3) fun _ =>
      Prog.bind (seg (await d (hd 4)) 0 106) fun _ => Prog.bind (seg (await d (hd 4)) 106 30) fun _ => Prog.bind (attend (headQ (queries x wq) (hd 4)) (hd 4)) fun _ =>
      Prog.bind (head d (queries x wq) 5) fun _ =>
      Prog.bind (seg (await d (hd 6)) 0 75) fun _ => Prog.bind (seg (await d (hd 6)) 75 61) fun _ => Prog.bind (attend (headQ (queries x wq) (hd 6)) (hd 6)) fun _ =>
      Prog.bind (head d (queries x wq) 7) fun _ => Prog.bind project fun _ =>
      Prog.bind (seg (send d) 0 15) fun _ => Prog.bind (seg recv 0 2) fun _ => tail d := by
  refine (bindc part564 fun r => bindc (part565 r.1 r.2.2) fun _ => bindc (part566 r.1 r.2.2) fun _ => bindc (part567 r.1 r.2.2) fun _ =>
    bindc (part568 r.1) fun q => bindc (part569 r.1 q) fun s => bindc (part570 r.1 q s.1 s.2.1 s.2.2) fun _ => bindc (part571 r.1 q) fun _ =>
    bindc (k' := fun _ => tail r.1) (part572 r.1 r.2.1 q) fun _ => ?_).trans ?_
  · obtain ⟨d, a, b⟩ := r
    obtain ⟨q2, den, num⟩ := s
    dsimp only
    unfold tail
    refine does (s := seg recv 2 3) ⟨_, by (iterate 3 refine cont fun _ => ?_); rfl⟩ fun _ => ?_
    refine does (s := seg recv 5 3) ⟨_, by (iterate 3 refine cont fun _ => ?_); rfl⟩ fun _ => ?_
    refine does (s := seg recv 8 3) ⟨_, by (iterate 3 refine cont fun _ => ?_); rfl⟩ fun _ => ?_
    refine does (s := seg recv 11 3) ⟨_, by (iterate 3 refine cont fun _ => ?_); rfl⟩ fun _ => ?_
    refine does (s := Prog.bind (seg recv 14 1) fun _ => combine d) ⟨_, by (iterate 5 refine cont fun _ => ?_); rfl⟩ fun _ => ?_
    refine does (s := seg (share d) 0 2) ⟨_, by (iterate 2 refine cont fun _ => ?_); rfl⟩ fun _ => ?_
    refine does (s := seg (share d) 2 2) ⟨_, by (iterate 2 refine cont fun _ => ?_); rfl⟩ fun _ => ?_
    refine does (s := seg (share d) 4 1) ⟨_, by (iterate 1 refine cont fun _ => ?_); rfl⟩ fun _ => ?_
    refine does (s := seg (share d) 5 2) ⟨_, by (iterate 2 refine cont fun _ => ?_); rfl⟩ fun _ => ?_
    refine does (s := seg (share d) 7 2) ⟨_, by (iterate 2 refine cont fun _ => ?_); rfl⟩ fun _ => ?_
    refine does (s := seg (share d) 9 1) ⟨_, by (iterate 1 refine cont fun _ => ?_); rfl⟩ fun _ => ?_
    refine does (s := seg (share d) 10 2) ⟨_, by (iterate 2 refine cont fun _ => ?_); rfl⟩ fun _ => ?_
    refine does (s := seg (share d) 12 1) ⟨_, by (iterate 1 refine cont fun _ => ?_); rfl⟩ fun _ => ?_
    refine does (s := Prog.bind (seg (share d) 13 2) fun _ => seg heard 0 1) ⟨_, by (iterate 3 refine cont fun _ => ?_); rfl⟩ fun _ => ?_
    refine does (s := seg heard 1 4) ⟨_, by (iterate 4 refine cont fun _ => ?_); rfl⟩ fun _ => ?_
    refine does (s := seg heard 5 4) ⟨_, by (iterate 4 refine cont fun _ => ?_); rfl⟩ fun _ => ?_
    refine does (s := seg heard 9 4) ⟨_, by (iterate 4 refine cont fun _ => ?_); rfl⟩ fun _ => ?_
    refine does (s := Prog.bind (seg heard 13 2) fun _ => seg (sent d) 0 2) ⟨_, by (iterate 4 refine cont fun _ => ?_); rfl⟩ fun _ => ?_
    refine does (s := seg (sent d) 2 5) ⟨_, by (iterate 5 refine cont fun _ => ?_); rfl⟩ fun _ => ?_
    refine does (s := seg (sent d) 7 4) ⟨_, by (iterate 4 refine cont fun _ => ?_); rfl⟩ fun _ => ?_
    refine does (s := Prog.bind (seg (sent d) 11 4) fun _ => seg (shared d) 0 1) ⟨_, by (iterate 5 refine cont fun _ => ?_); rfl⟩ fun _ => ?_
    refine does (s := seg (shared d) 1 6) ⟨_, by (iterate 6 refine cont fun _ => ?_); rfl⟩ fun _ => ?_
    refine does (s := seg (shared d) 7 6) ⟨_, by (iterate 6 refine cont fun _ => ?_); rfl⟩ fun _ => ?_
    iterate 2 refine cont fun _ => ?_
    rfl
  · simp only [bindA, bindO, bindR, attend]

theorem start_split (d : Dev nD) : seg (start (F := F) d) 0 1088 = Prog.bind (seg (start d) 0 230) fun _ =>
      Prog.bind (seg (start d) 230 257) fun _ => Prog.bind (seg (start d) 487 257) fun _ => Prog.bind (seg (start d) 744 256) fun _ =>
      seg (start d) 1000 88 := by
  have h (n m k a : ℕ) (hk : k = n + m) : seg (start (F := F) d) a k = Prog.bind (seg (start d) a n) fun _ => seg (start d) (a + n) m := by
    subst hk; exact seg_add _ n m a
  rw [h 230 858 1088 0 rfl, h 257 601 858 (0 + 230) rfl, h 257 344 601 (0 + 230 + 257) rfl, h 256 88 344 (0 + 230 + 257 + 257) rfl]

theorem seg_cut (f : ℕ → P F PUnit) (n m k a : ℕ) (hk : k = n + m) : seg f a k = Prog.bind (seg f a n) fun _ => seg f (a + n) m := by
  subst hk; exact seg_add _ n m a

theorem head_split (d : Dev nD) (q : FVec F S256x1024 .f32) : seg (head d q) 0 8 = Prog.bind (head d q 0) fun _ => Prog.bind (head d q 1) fun _ => Prog.bind (head d q 2) fun _ =>
    Prog.bind (head d q 3) fun _ => Prog.bind (head d q 4) fun _ => Prog.bind (head d q 5) fun _ => Prog.bind (head d q 6) fun _ =>
    Prog.bind (head d q 7) fun _ => .ret ⟨⟩ := rfl

theorem head_cut (d : Dev nD) (m k : ℕ) (hk : 136 = m + k) : head (F := F) d = fun q n => Prog.bind (seg (await d (hd n)) 0 m) fun _ => Prog.bind (seg (await d (hd n)) m k) fun _ => attend (headQ q (hd n)) (hd n) := by
  funext q n
  unfold head
  rw [seg_cut _ m k 136 0 hk, bindA, Nat.zero_add]

theorem recv_split : seg (F := F) recv 0 15 = Prog.bind (seg recv 0 2) fun _ => Prog.bind (seg recv 2 3) fun _ => Prog.bind (seg recv 5 3) fun _ => Prog.bind (seg recv 8 3) fun _ =>
    Prog.bind (seg recv 11 3) fun _ => seg recv 14 1 := by
  rw [seg_cut recv 2 13 15 0 rfl, seg_cut recv 3 10 13 (0 + 2) rfl, seg_cut recv 3 7 10 (0 + 2 + 3) rfl, seg_cut recv 3 4 7 (0 + 2 + 3 + 3) rfl, seg_cut recv 3 1 4 (0 + 2 + 3 + 3 + 3) rfl]

theorem share_split (d : Dev nD) : seg (share (F := F) d) 0 15 = Prog.bind (seg (share d) 0 2) fun _ => Prog.bind (seg (share d) 2 2) fun _ => Prog.bind (seg (share d) 4 1) fun _ =>
    Prog.bind (seg (share d) 5 2) fun _ => Prog.bind (seg (share d) 7 2) fun _ => Prog.bind (seg (share d) 9 1) fun _ => Prog.bind (seg (share d) 10 2) fun _ =>
    Prog.bind (seg (share d) 12 1) fun _ => seg (share d) 13 2 := by
  rw [seg_cut (share d) 2 13 15 0 rfl, seg_cut (share d) 2 11 13 (0 + 2) rfl, seg_cut (share d) 1 10 11 (0 + 2 + 2) rfl, seg_cut (share d) 2 8 10 (0 + 2 + 2 + 1) rfl,
    seg_cut (share d) 2 6 8 (0 + 2 + 2 + 1 + 2) rfl, seg_cut (share d) 1 5 6 (0 + 2 + 2 + 1 + 2 + 2) rfl, seg_cut (share d) 2 3 5 (0 + 2 + 2 + 1 + 2 + 2 + 1) rfl,
    seg_cut (share d) 1 2 3 (0 + 2 + 2 + 1 + 2 + 2 + 1 + 2) rfl]

theorem heard_split : seg (F := F) heard 0 15 = Prog.bind (seg heard 0 1) fun _ => Prog.bind (seg heard 1 4) fun _ => Prog.bind (seg heard 5 4) fun _ =>
    Prog.bind (seg heard 9 4) fun _ => seg heard 13 2 := by
  rw [seg_cut heard 1 14 15 0 rfl, seg_cut heard 4 10 14 (0 + 1) rfl, seg_cut heard 4 6 10 (0 + 1 + 4) rfl, seg_cut heard 4 2 6 (0 + 1 + 4 + 4) rfl]

theorem sent_split (d : Dev nD) : seg (sent (F := F) d) 0 15 = Prog.bind (seg (sent d) 0 2) fun _ => Prog.bind (seg (sent d) 2 5) fun _ => Prog.bind (seg (sent d) 7 4) fun _ => seg (sent d) 11 4 := by
  rw [seg_cut (sent d) 2 13 15 0 rfl, seg_cut (sent d) 5 8 13 (0 + 2) rfl, seg_cut (sent d) 4 4 8 (0 + 2 + 5) rfl]

theorem shared_split (d : Dev nD) : seg (shared (F := F) d) 0 15 = Prog.bind (seg (shared d) 0 1) fun _ => Prog.bind (seg (shared d) 1 6) fun _ => Prog.bind (seg (shared d) 7 6) fun _ => seg (shared d) 13 2 := by
  rw [seg_cut (shared d) 1 14 15 0 rfl, seg_cut (shared d) 6 8 14 (0 + 1) rfl, seg_cut (shared d) 6 2 8 (0 + 1 + 6) rfl]

theorem prog_parts (d : Dev nD) : prog (F := F) d = Prog.bind (seg (signal d) 0 15) fun _ => Prog.bind bar fun _ => Prog.bind (seg (start d) 0 230) fun _ =>
      Prog.bind (seg (start d) 230 257) fun _ => Prog.bind (seg (start d) 487 257) fun _ => Prog.bind (seg (start d) 744 256) fun _ =>
      Prog.bind (seg (start d) 1000 88) fun _ => Prog.bind getX fun x => Prog.bind getWq fun wq =>
      Prog.bind (head d (queries x wq) 0) fun _ =>
      Prog.bind (seg (await d (hd 1)) 0 24) fun _ => Prog.bind (seg (await d (hd 1)) 24 112) fun _ => Prog.bind (attend (headQ (queries x wq) (hd 1)) (hd 1)) fun _ =>
      Prog.bind (seg (await d (hd 2)) 0 136) fun _ => Prog.bind (attend (headQ (queries x wq) (hd 2)) (hd 2)) fun _ =>
      Prog.bind (head d (queries x wq) 3) fun _ =>
      Prog.bind (seg (await d (hd 4)) 0 106) fun _ => Prog.bind (seg (await d (hd 4)) 106 30) fun _ => Prog.bind (attend (headQ (queries x wq) (hd 4)) (hd 4)) fun _ =>
      Prog.bind (head d (queries x wq) 5) fun _ =>
      Prog.bind (seg (await d (hd 6)) 0 75) fun _ => Prog.bind (seg (await d (hd 6)) 75 61) fun _ => Prog.bind (attend (headQ (queries x wq) (hd 6)) (hd 6)) fun _ =>
      Prog.bind (head d (queries x wq) 7) fun _ => Prog.bind project fun _ =>
      Prog.bind (seg (send d) 0 15) fun _ => Prog.bind (seg recv 0 2) fun _ => tail d := by
  have e1 (q : FVec F S256x1024 .f32) := congrFun (congrFun (head_cut d 24 112 rfl) q) 1
  have e4 (q : FVec F S256x1024 .f32) := congrFun (congrFun (head_cut d 106 30 rfl) q) 4
  have e6 (q : FVec F S256x1024 .f32) := congrFun (congrFun (head_cut d 75 61 rfl) q) 6
  have e2 (q : FVec F S256x1024 .f32) : head d q 2 = Prog.bind (seg (await d (hd 2)) 0 136) fun _ => attend (headQ q (hd 2)) (hd 2) := rfl
  unfold prog exchange tail
  rw [start_split, recv_split, share_split, heard_split, sent_split, shared_split]
  simp only [bindA, head_split, bindR, e1, e2, e4, e6]

/-- The printed body is `prog`, of the device it reads. -/
theorem body_eq : cc0__body (F := F) xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) ctxM (Memref.isWhole_whole _) pM (Memref.isWhole_whole _) rsM (Memref.isWhole_whole _) cc0_scratch5 cc0_scratch6 cc0_scratch7 cc0_scratch8 cc0_scratch9 cc0_scratch10 = .op .deviceId prog :=
  body_parts.trans (congrArg (Prog.op TpuEff.deviceId) (funext fun d => (prog_parts d).symm))

end Cert.Attn
-- ==== Proof.Body.lean ====
/-
# The kernel's body on one device

`sound_body`: from its staged operands, its share of the protocol's ghost state, its buffers and a share of the stored
keys and values, a device's kernel runs to its result buffer holding `fin (part I)`, every cell closed.
-/
module

public import proofs.«01_k».proof.Proof.Exchange
public import proofs.«01_k».proof.Proof.TextC

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## What a transfer moves -/

/-! ## The gathers and the heads -/

def kPts (c : Dev nD) (f : Big F) : sProp 𝕄 := ((c : Thread nD τ).loc cc0_scratch0) ↦{fullShare} f
def vPts (c : Dev nD) (f : Big F) : sProp 𝕄 := ((c : Thread nD τ).loc cc0_scratch1) ↦{fullShare} f
def extK (c : Dev nD) (q : PosShare TreeShare) (f : Ext F) : sProp 𝕄 := ((c : Thread nD τ).loc main_arg2) ↦{q} f
def extV (c : Dev nD) (q : PosShare TreeShare) (f : Ext F) : sProp 𝕄 := ((c : Thread nD τ).loc main_arg3) ↦{q} f

theorem k_cut (c : Dev nD) (f : Big F) : kPts c f = bigSep Finset.univ fun h : Fin 8 => bigSep Finset.univ fun i : Fin 68 => kSlot c h i f :=
  (pieces (ℓ := (c : Thread nD τ).loc cc0_scratch0) (fib slotOf) slotOf (fun _ _ => mem_fib) f).trans (BI.bigSep_univ_prod _)
theorem v_cut (c : Dev nD) (f : Big F) : vPts c f = bigSep Finset.univ fun h : Fin 8 => bigSep Finset.univ fun i : Fin 68 => vSlot c h i f :=
  (pieces (ℓ := (c : Thread nD τ).loc cc0_scratch1) (fib slotOf) slotOf (fun _ _ => mem_fib) f).trans (BI.bigSep_univ_prod _)
theorem ctx_cut (c : Dev nD) (f : Ctx F) : ctxPts c f = bigSep Finset.univ fun h : Fin 8 => bigSep Finset.univ fun b : Fin 4 => cPts c b h f :=
  (pieces (ℓ := (c : Thread nD τ).loc cc0_scratch2) (fib ctxOf) ctxOf (fun _ _ => mem_fib) f).trans ((BI.bigSep_univ_equiv (Equiv.prodComm (Fin 8) (Fin 4)) _).trans (BI.bigSep_univ_prod _))

theorem headK_cut (c : Dev nD) (f : Ext F) (h : Fin 8) : headK c f h = bigSep Finset.univ fun i : Fin 68 => kSlot c h i (gathered c f) :=
  pointsTo_biUnion (ℓ := (c : Thread nD τ).loc cc0_scratch0) Finset.univ _ (slots_disjoint h)
theorem headV_cut (c : Dev nD) (f : Ext F) (h : Fin 8) : headV c f h = bigSep Finset.univ fun i : Fin 68 => vSlot c h i (gathered c f) :=
  pointsTo_biUnion (ℓ := (c : Thread nD τ).loc cc0_scratch1) Finset.univ _ (slots_disjoint h)

theorem deal_keys (c : Dev nD) (f : Ext F) : extK c fullShare.right f ⊢ bigSep Finset.univ fun h : Fin 8 => bigSep Finset.univ fun i : Fin 68 => kSrc c h i f := by
  unfold extK
  rw [pointsTo_deal (Finset.univ : Finset (Fin 8)) ⟨0, Finset.mem_univ _⟩ fullShare.right]
  refine bigSep_mono fun h _ => ?_
  rw [pointsTo_deal (Finset.univ : Finset (Fin 68)) ⟨0, Finset.mem_univ _⟩ (dealOf fullShare.right Finset.univ h)]
  refine bigSep_mono fun i _ => ?_
  unfold kSrc gq
  exact BIBase.Entails.trans (pointsTo_split_subset (Finset.subset_univ (srcSl keyM c h i).view.set)).1 (by iintro ⟨H, -⟩; iexact H)
theorem deal_values (c : Dev nD) (f : Ext F) : extV c fullShare.right f ⊢ bigSep Finset.univ fun h : Fin 8 => bigSep Finset.univ fun i : Fin 68 => vSrc c h i f := by
  unfold extV
  rw [pointsTo_deal (Finset.univ : Finset (Fin 8)) ⟨0, Finset.mem_univ _⟩ fullShare.right]
  refine bigSep_mono fun h _ => ?_
  rw [pointsTo_deal (Finset.univ : Finset (Fin 68)) ⟨0, Finset.mem_univ _⟩ (dealOf fullShare.right Finset.univ h)]
  refine bigSep_mono fun i _ => ?_
  unfold vSrc gq
  exact BIBase.Entails.trans (pointsTo_split_subset (Finset.subset_univ (srcSl valM c h i).view.set)).1 (by iintro ⟨H, -⟩; iexact H)

/-- The semaphores of the gathers, at zero. -/
def headSems (c : Dev nD) : sProp 𝕄 :=
  iprop((bigSep Finset.univ fun h : Fin 8 => semVal ((c : Thread nD τ), .dma (headSem cc0_scratch5 h)) 0)
    ∗ bigSep Finset.univ fun h : Fin 8 => semVal ((c : Thread nD τ), .dma (headSem cc0_scratch6 h)) 0)

theorem some_k (c : Dev nD) (f : Big F) :
    (bigSep Finset.univ fun h : Fin 8 => bigSep Finset.univ fun i : Fin 68 => kSlot c h i f) ⊢ bigSep Finset.univ fun h : Fin 8 => bigSep Finset.univ fun i : Fin 68 => iprop(∃ g, kSlot c h i g) :=
  bigSep_mono fun h _ => bigSep_mono fun i _ => show kSlot c h i f ⊢ iprop(∃ g, kSlot c h i g) from by iintro H; iexists f; iexact H
theorem some_v (c : Dev nD) (f : Big F) :
    (bigSep Finset.univ fun h : Fin 8 => bigSep Finset.univ fun i : Fin 68 => vSlot c h i f) ⊢ bigSep Finset.univ fun h : Fin 8 => bigSep Finset.univ fun i : Fin 68 => iprop(∃ g, vSlot c h i g) :=
  bigSep_mono fun h _ => bigSep_mono fun i _ => show vSlot c h i f ⊢ iprop(∃ g, vSlot c h i g) from by iintro H; iexists f; iexact H
theorem some_ctx (c : Dev nD) (f : Ctx F) :
    (bigSep Finset.univ fun h : Fin 8 => bigSep Finset.univ fun b : Fin 4 => cPts c b h f) ⊢ bigSep Finset.univ fun h : Fin 8 => bigSep Finset.univ fun b : Fin 4 => iprop(∃ g, cPts c b h g) :=
  bigSep_mono fun h _ => bigSep_mono fun b _ => show cPts c b h f ⊢ iprop(∃ g, cPts c b h g) from by iintro H; iexists f; iexact H

/-- What the starts leave: every head's transfers in flight. -/
def flights (c : Dev nD) (fk fv : Ext F) : sProp 𝕄 := bigSep Finset.univ fun h : Fin 8 => iprop(BK c fk h 68 0 ∗ BV c fv h 68 0)

theorem run_starts (c : Dev nD) (fk fv : Ext F) (f g : Big F) :
    iprop(kPts c f ∗ vPts c g ∗ extK c fullShare.right fk ∗ extV c fullShare.right fv ∗ headSems c) ⊢ W c (seg (start c) 0 1088) fun _ => flights c fk fv := by
  rw [show seg (F := F) (start c) 0 1088 = seg (fun j => seg (start c) (0 + 136 * j) 136) 0 8 from seg_mul (start c) 136 8 0]
  have step : ∀ h : Fin 8, iprop((iprop(emp) : sProp 𝕄) ∗ ((bigSep Finset.univ fun i => startNeeds c fk fv h i)
        ∗ semVal ((c : Thread nD τ), .dma (headSem cc0_scratch5 h)) 0 ∗ semVal ((c : Thread nD τ), .dma (headSem cc0_scratch6 h)) 0) ∗ emp)
      ⊢ W c (seg (start c) (0 + 136 * (0 + h.val)) 136) fun _ => iprop((BK c fk h 68 0 ∗ BV c fv h 68 0) ∗ emp) := by
    intro h
    rw [Nat.zero_add h.val]
    iintro ⟨-, H, -⟩
    ihave Hw := (start_head c fk fv h) $$ H
    iapply (wp_wand frame (wpE (defs₀ (F := F)) 𝒱₀ (c : Thread nD τ) none)) $$ Hw
    iintro %_ H
    isplitl [H]; · iexact H
    iempintro
  have all := wp_seg (R := (iprop(emp) : sProp 𝕄)) 8 (fun j => seg (start c) (0 + 136 * j) 136) 0 _ _ (fun _ => (iprop(emp) : sProp 𝕄)) step
  unfold startNeeds at all
  simp only [bigSep_sep'] at all
  unfold headSems flights
  rw [k_cut, v_cut]
  simp only [bigSep_sep']
  iintro ⟨Hk, Hv, Ek, Ev, Sk, Sv⟩
  ihave Hk := (some_k c f) $$ Hk
  ihave Hv := (some_v c g) $$ Hv
  ihave Ek := (deal_keys c fk) $$ Ek
  ihave Ev := (deal_values c fv) $$ Ev
  ihave Hw := all $$ [Hk Hv Ek Ev Sk Sv]
  · isplitr; · iempintro
    isplitl
    · isplitl [Hk Hv Ek Ev]
      · isplitl [Ek Hk]
        · isplitl [Ek]; · iexact Ek
          iexact Hk
        isplitl [Ev]; · iexact Ev
        iexact Hv
      isplitl [Sk]; · iexact Sk
      iexact Sv
    iempintro
  iapply (wp_wand frame (wpE (defs₀ (F := F)) 𝒱₀ (c : Thread nD τ) none)) $$ Hw
  iintro %_ ⟨H, -⟩
  iexact H

/-- What the heads leave. -/
def headsDone (c : Dev nD) (fk fv : Ext F) (q : FVec F S256x1024 .f32) : sProp 𝕄 :=
  iprop((∃ f, kPts c f) ∗ (∃ f, vPts c f) ∗ ctxPts c (ctxVal q (gathered c fk) (gathered c fv)) ∗ headSems c)

theorem run_heads (c : Dev nD) (fk fv : Ext F) (q : FVec F S256x1024 .f32) (f : Ctx F) :
    iprop(levAts L lv ∗ flights c fk fv ∗ ctxPts c f ∗ owesE c (Owe c 30)) ⊢ W c (seg (head c q) 0 8) fun _ => iprop(headsDone c fk fv q ∗ owesE c (Owe c 30)) := by
  have all := wp_seg (R := (levAts L lv : sProp 𝕄)) 8 (head c q) 0 _ _ (fun _ => owesE c (Owe c 30)) (run_head c fk fv q)
  unfold headDone at all
  simp only [bigSep_sep'] at all
  unfold headsDone flights headSems
  simp only [bigSep_sep']
  rw [ctx_cut c f, ctx_cut c (ctxVal q (gathered c fk) (gathered c fv))]
  iintro ⟨#Hlev, HB, HC, HO⟩
  ihave HC := (some_ctx c f) $$ HC
  ihave Hw := all $$ [HB HC HO]
  · isplitr; · iexact Hlev
    isplitl [HB HC]
    · isplitl [HB]; · iexact HB
      iexact HC
    iexact HO
  iapply (wp_wand frame (wpE (defs₀ (F := F)) 𝒱₀ (c : Thread nD τ) none)) $$ Hw
  iintro %_ ⟨⟨⟨HK, HV, HC⟩, Sk, Sv⟩, HO⟩
  isplitr [HO]
  · isplitl [HK]
    · iexists (gathered c fk)
      iapply (Entails.of_eq ((k_cut c (gathered c fk)).trans (bigSep_congr fun h _ => (headK_cut c fk h).symm)).symm)
      iexact HK
    isplitl [HV]
    · iexists (gathered c fv)
      iapply (Entails.of_eq ((v_cut c (gathered c fv)).trans (bigSep_congr fun h _ => (headV_cut c fv h).symm)).symm)
      iexact HV
    isplitl [HC]; · iexact HC
    isplitl [Sk]; · iexact Sk
    iexact Sv
  iexact HO

/-! ## What a device starts from -/

def clEquiv : Unit ⊕ (Fin 15 ⊕ (Fin 15 ⊕ (Fin 15 ⊕ Fin 15))) ≃ Cl where
  toFun
    | .inl _ => .bar
    | .inr (.inl t) => .rsS t
    | .inr (.inr (.inl t)) => .rsR t
    | .inr (.inr (.inr (.inl t))) => .agS t
    | .inr (.inr (.inr (.inr t))) => .agR t
  invFun
    | .bar => .inl ()
    | .rsS t => .inr (.inl t)
    | .rsR t => .inr (.inr (.inl t))
    | .agS t => .inr (.inr (.inr (.inl t)))
    | .agR t => .inr (.inr (.inr (.inr t)))
  left_inv := by rintro (_ | _ | _ | _ | _) <;> rfl
  right_inv := by rintro (_ | _ | _ | _ | _) <;> rfl

omit [FloatOps F] in
theorem bigSep_cl (Φ : Cl → sProp 𝕄) : bigSep Finset.univ Φ = iprop(Φ .bar ∗ (bigSep Finset.univ fun t : Fin 15 => Φ (.rsS t))
    ∗ (bigSep Finset.univ fun t : Fin 15 => Φ (.rsR t)) ∗ (bigSep Finset.univ fun t : Fin 15 => Φ (.agS t)) ∗ bigSep Finset.univ fun t : Fin 15 => Φ (.agR t)) := by
  rw [BI.bigSep_univ_equiv clEquiv, BI.bigSep_univ_sum, BI.bigSep_univ_sum, BI.bigSep_univ_sum, BI.bigSep_univ_sum]
  rw [show (Finset.univ : Finset Unit) = {()} from rfl, BI.bigSep_singleton]
  rfl

/-- The duty tokens of what device `c` pays. -/
def payToks (c : Dev nD) : sProp 𝕄 :=
  iprop((bigSep Finset.univ fun t : Fin 15 => dutyTok ER (cell (dst c t) .bar) 0 t.rev)
    ∗ (bigSep Finset.univ fun t : Fin 15 => dutyTok ER (cell c (.rsS t)) 0 (0 : Fin 15))
    ∗ (bigSep Finset.univ fun t : Fin 15 => dutyTok ER (cell (dst c t) (.rsR t)) 0 (0 : Fin 15))
    ∗ (bigSep Finset.univ fun t : Fin 15 => dutyTok ER (cell c (.agS t)) 0 (0 : Fin 15))
    ∗ (bigSep Finset.univ fun t : Fin 15 => dutyTok ER (cell (dst c t) (.agR t)) 0 (0 : Fin 15)))

/-- Its positions and the tokens of what it pays. -/
def linear (c : Dev nD) : sProp 𝕄 := iprop((bigSep Finset.univ fun k : Cl => atPos ER (cell c k) 0 ∅ 0) ∗ payToks c)

/-- The credit others owe its cells. -/
def credits (c : Dev nD) : sProp 𝕄 :=
  iprop(cred (tallyAt (cell c .bar) () 15) ∗ (bigSep Finset.univ fun t : Fin 15 => cred (tallyAt (cell c (.rsR t)) () cr))
    ∗ bigSep Finset.univ fun t : Fin 15 => cred (tallyAt (cell c (.agR t)) () cr))

/-- Its buffers, at whatever contents. -/
def scratch (c : Dev nD) : sProp 𝕄 :=
  iprop((∃ f, kPts c f) ∗ (∃ f, vPts c f) ∗ (∃ f, ctxPts c f) ∗ (∃ f, prodPts c f) ∗ ∃ f, landPts c f)

/-- Its staged operands. -/
def operands (I : In F) (c : Dev nD) : sProp 𝕄 := iprop(xPts c I.x ∗ wqPts c I.wq ∗ woPts c I.wo)

/-- All of its cells, closed. -/
def closed (c : Dev nD) : sProp 𝕄 := bigSep Finset.univ fun k : Cl => semVal (cell c k) 0

theorem some_land (c : Dev nD) (f : Land F) : (bigSep Finset.univ fun t : Fin 15 => rsPts c t f) ⊢ bigSep Finset.univ fun t : Fin 15 => iprop(∃ f, rsPts c t.rev f) := by
  rw [cut_rev fun t => rsPts c t f]
  exact bigSep_mono fun t _ => show rsPts c t.rev f ⊢ iprop(∃ f, rsPts c t.rev f) from by iintro H; iexists f; iexact H
theorem some_out (c : Dev nD) (f : Arr F) : (bigSep Finset.univ fun t : Fin 15 => oPts c (dst c t) fullShare f) ⊢ bigSep Finset.univ fun t : Fin 15 => iprop(∃ f, oPts c (dst c t) fullShare f) :=
  bigSep_mono fun t _ => show oPts c (dst c t) fullShare f ⊢ iprop(∃ f, oPts c (dst c t) fullShare f) from by iintro H; iexists f; iexact H

variable (I : Dev nD → In F) (K : Dev nD × Cl → ℕ)

theorem run_bar (x : Dev nD → Arr F) (c : Dev nD) :
    iprop((records x K ∗ levAts L lv) ∗ cred (tallyAt (cell c .bar) () 15) ∗ owesE c (Owe c 30) ∗ atPos ER (cell c .bar) 0 ∅ 0)
      ⊢ W c bar fun _ => iprop(owesE c (Owe c 30) ∗ semVal (cell c .bar) 0 ∗ bigSep Finset.univ fun d => pay x c .bar d) := by
  unfold bar semWaitWord
  iintro ⟨⟨#HR, #Hlev⟩, Hc, HO, Ha⟩
  iapply (wp_whole x K c .bar 30 (by decide) (a := (15#32 : BitVec 32).toNat) (N := 15) rfl rfl (.reg (0 : Fin 1)) rfl (wpE_semWait_eq 𝒱₀ (c : Thread nD τ) none Set.univ)) $$ [Hc HO Ha]
  · isplitr; · iexact HR
    isplitr; · iexact Hlev
    isplitl [Hc]; · iexact Hc
    isplitl [HO]; · iexact HO
    iexact Ha
  iintro H
  iapply W_ret
  iexact H

/-- What a device's kernel starts from, -/
def devPre (c : Dev nD) : sProp 𝕄 :=
  iprop((records (part I) K ∗ levAts L lv) ∗ linear c ∗ credits c ∗ headSems c ∗ owesE c (Owe c 45) ∗ operands (I c) c ∗ (∃ f, outPts c f) ∗ scratch c
    ∗ extK c fullShare.right (I c).k ∗ extV c fullShare.right (I c).v)
/-- and what it leaves. -/
def devPost (c : Dev nD) : sProp 𝕄 :=
  iprop(scratch c ∗ closed c ∗ headSems c ∗ owesE c (Owe c 0) ∗ operands (I c) c ∗ outPts c (fin (part I)))

set_option maxHeartbeats 1600000 in
theorem run_prog (c : Dev nD) : devPre I K c ⊢ W c (prog c) fun _ => devPost I c := by
  unfold prog devPre devPost
  have signals := wp_seg (R := records (part I) K) 15 (signal (F := F) c) 0 _ (fun _ => (iprop(emp) : sProp 𝕄)) (fun n => owesE c (Owe c (45 - n))) (run_signal (part I) K c)
  simp only [bigSep_sep'] at signals
  unfold scratch operands linear payToks credits closed
  simp only [bigSep_cl]
  iintro ⟨⟨#HR, #Hlev⟩, ⟨⟨A0, A1, A2, A3, A4⟩, T0, T1, T2, T3, T4⟩, ⟨C0, C2, C4⟩, HS, HO, ⟨Hx, Hwq, Hwo⟩, ⟨%fo, Ho⟩, ⟨⟨%fk, Hk⟩, ⟨%fv, Hv⟩, ⟨%fc, Hc⟩, ⟨%fp, Hp⟩, ⟨%fl, Hl⟩⟩, Ek, Ev⟩
  ihave Ho := (Entails.of_eq (out_cut c fo)) $$ Ho
  icases Ho with ⟨Ho, Hot⟩
  ihave Hot := (some_out c fo) $$ Hot
  ihave Hl := (Entails.of_eq (land_cut c fl)) $$ Hl
  icases Hl with ⟨Hl0, Hl⟩
  ihave Hl := (some_land c fl) $$ Hl
  iapply (run_then signals) $$ [T0 Hl Hot HO]
  · isplitr; · iexact HR
    isplitl [T0 Hl Hot]
    · isplitl [T0]; · iexact T0
      isplitl [Hl]; · iexact Hl
      iexact Hot
    iexact HO
  iintro ⟨-, HO⟩
  iapply (run_then (run_bar K (part I) c)) $$ [C0 HO A0]
  · isplitr
    · isplitr; · iexact HR
      iexact Hlev
    isplitl [C0]; · iexact C0
    isplitl [HO]; · iexact HO
    iexact A0
  iintro ⟨HO, V0, Hpay⟩
  ihave Hpay := (Entails.of_eq (show (bigSep Finset.univ fun d => pay (part I) c .bar d)
    = iprop((bigSep Finset.univ fun t => iprop(∃ f, rsPts (dst c t) t f)) ∗ bigSep Finset.univ fun t => iprop(∃ g, oPts (dst c t) c fullShare g)) from bigSep_sep' _ _ _)) $$ Hpay
  icases Hpay with ⟨Lr, Or⟩
  iapply (run_then (run_starts c (I c).k (I c).v fk fv)) $$ [Hk Hv Ek Ev HS]
  · isplitl [Hk]; · iexact Hk
    isplitl [Hv]; · iexact Hv
    isplitl [Ek]; · iexact Ek
    isplitl [Ev]; · iexact Ev
    iexact HS
  iintro HF
  iapply (run_getX c (I c).x) $$ Hx
  iintro Hx
  iapply (run_getWq c (I c).wq) $$ Hwq
  iintro Hwq
  iapply (run_then (run_heads c (I c).k (I c).v (queries (I c).x (I c).wq) fc)) $$ [HF Hc HO]
  · isplitr; · iexact Hlev
    isplitl [HF]; · iexact HF
    isplitl [Hc]; · iexact Hc
    iexact HO
  unfold headsDone
  iintro ⟨⟨Hk, Hv, Hc, HS⟩, HO⟩
  iapply (run_then (run_project c (I c).wo (ctxOn (I c) c))) $$ [Hwo Hc Hp]
  · isplitl [Hwo]; · iexact Hwo
    isplitl [Hc]; · iexact Hc
    iexists fp; iexact Hp
  iintro ⟨Hwo, Hc, Hp⟩
  have ex := run_exchange (part I) K c
  unfold exNeeds exDone kit at ex
  simp only [bigSep_sep'] at ex
  ihave Hw := ex $$ [A1 A2 A3 A4 T1 T2 T3 T4 C2 C4 Lr Or Ho Hp HO]
  · isplitr
    · isplitr; · iexact HR
      iexact Hlev
    isplitl [A1 A2 A3 A4 T1 T2 T3 T4 C2 C4 Lr Or]
    · isplitl [T1 T2 Lr]
      · isplitl [T1 T2]
        · isplitl [T1]; · iexact T1
          iexact T2
        iexact Lr
      isplitl [T3 T4 Or]
      · isplitl [T3 T4]
        · isplitl [T3]; · iexact T3
          iexact T4
        iexact Or
      isplitl [C2 A2]
      · isplitl [C2]; · iexact C2
        iexact A2
      isplitl [C4 A4]
      · isplitl [C4]; · iexact C4
        iexact A4
      isplitl [A1]; · iexact A1
      iexact A3
    isplitl [Hp]; · iexact Hp
    isplitl [Ho]; · iexists fo; iexact Ho
    iexact HO
  iapply (wp_wand frame (wpE (defs₀ (F := F)) 𝒱₀ (c : Thread nD τ) none)) $$ Hw
  iintro %_ ⟨⟨V1, V2, V3, V4⟩, Hp, Ho, Hs, HO⟩
  ihave Hl := (land_join c fl (landed (part I) c)) $$ [Hl0 Hs]
  · isplitl [Hl0]; · iexact Hl0
    iexact Hs
  isplitl [Hk Hv Hc Hp Hl]
  · isplitl [Hk]; · iexact Hk
    isplitl [Hv]; · iexact Hv
    isplitl [Hc]; · iexists _; iexact Hc
    isplitl [Hp]; · iexists _; iexact Hp
    iexact Hl
  isplitl [V0 V1 V2 V3 V4]
  · isplitl [V0]; · iexact V0
    isplitl [V1]; · iexact V1
    isplitl [V2]; · iexact V2
    isplitl [V3]; · iexact V3
    iexact V4
  isplitl [HS]; · iexact HS
  isplitl [HO]; · iexact HO
  isplitl [Hx Hwq Hwo]
  · isplitl [Hx]; · iexact Hx
    isplitl [Hwq]; · iexact Hwq
    iexact Hwo
  iexact Ho

/-- The kernel's body, from the device's share to what it leaves. -/
theorem sound_body (c : Dev nD) (Kt : PUnit → sProp 𝕄) :
    iprop(devPre I K c ∗ (devPost I c -∗ Kt ⟨⟩)) ⊢ wp frame (wpE (defs₀ (F := F)) 𝒱₀ (c : Thread nD τ) none) Set.univ
        (cc0__body (F := F) xM (Memref.isWhole_whole _) wqM (Memref.isWhole_whole _) keyM (Memref.isWhole_whole _) valM (Memref.isWhole_whole _)
          woM (Memref.isWhole_whole _) outM (Memref.isWhole_whole _) kM (Memref.isWhole_whole _) vM (Memref.isWhole_whole _) ctxM (Memref.isWhole_whole _)
          pM (Memref.isWhole_whole _) rsM (Memref.isWhole_whole _) cc0_scratch5 cc0_scratch6 cc0_scratch7 cc0_scratch8 cc0_scratch9 cc0_scratch10) Kt := by
  rw [body_eq, wp_deviceId]
  iintro ⟨Hp, Hk⟩
  ihave Hw := (run_prog I K c) $$ Hp
  iapply (wp_wand frame (wpE (defs₀ (F := F)) 𝒱₀ (c : Thread nD τ) none)) $$ Hw
  iintro %_ H
  iapply Hk
  iexact H

end Cert.Attn

end
-- ==== Proof.Launch.lean ====
/-
# The launch on the sixteen devices

`run_main`: for any float values, from any memory with zero counters, every weakly fair execution of the sixteen kernels
ends, each device's result at `fin` of the partial products, the inputs unchanged and every counter at zero.
-/
module

public import proofs.«01_k».proof.Proof.Body
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The inputs as the kernels hold them: the staged ones in their staging buffers, the keys and values where they are. -/
def inp (c : Dev nD) : In F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  k := m ((c : Thread nD τ).loc main_arg2)
  v := m ((c : Thread nD τ).loc main_arg3)
  wo := (win0_2.blk (0 : Fin 1)).view.read (Elt F) ((s₀ m ρ).mem ((c : Thread nD τ).loc main_arg4))
/-- The partial products. -/
def xin (c : Dev nD) : Arr F := part (inp m ρ) c

/-- The semaphores nothing uses: index 0 of each of the four arrays. -/
def idle (c : Dev nD) : sProp 𝕄 :=
  iprop(semVal ((c : Thread nD τ), .dma (20 : Fin 84)) 0 ∗ semVal ((c : Thread nD τ), .dma (36 : Fin 84)) 0
    ∗ semVal ((c : Thread nD τ), .dma (52 : Fin 84)) 0 ∗ semVal ((c : Thread nD τ), .dma (68 : Fin 84)) 0)

/-! ## The body obligation -/

/-- What device `c`'s body starts from besides its buffers. -/
def launched (c : Dev nD) : sProp 𝕄 :=
  iprop((∃ K, records (xin m ρ) K ∗ linear c) ∗ credits c ∗ levAts L lv ∗ headSems c ∗ idle c ∗ extK c fullShare.right (inp m ρ c).k ∗ extV c fullShare.right (inp m ρ c).v)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m ρ c).x
    | ⟨1, _⟩ => (inp m ρ c).wq
    | ⟨2, _⟩ => (inp m ρ c).wo
    | ⟨3, _⟩ => fin (xin m ρ)
  Φ t := match t with
    | ⟨0, _⟩ => iprop(launched m ρ c ∗ scratch c)
    | ⟨_ + 1, _⟩ => iprop(scratch c ∗ closed c ∗ headSems c ∗ idle c)
  q _ := fullShare
  owed t := match t with
    | ⟨0, _⟩ => Owe c 45
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((launched m ρ c ∗ scratch c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop((scratch c ∗ closed c ∗ headSems c ∗ idle c) ∗ (dats m ρ 0 c).owesAt () t0_0.succ ∗ stg c cc0_stg0_0 (inp m ρ c).x ∗ stg c cc0_stg1_0 (inp m ρ c).wq
    ∗ stg c cc0_stg2_0 (inp m ρ c).wo ∗ stg c cc0_stg3_0 (fin (xin m ρ)))

set_option maxHeartbeats 800000 in
theorem body_run (c : Dev nD) : bodyPre m ρ c ⊢ wp frame (wpE (defs₀ (F := F)) 𝒱₀ (c : Thread nD τ) none) Set.univ
    (cc0__body (F := F) xM (Memref.isWhole_whole _) wqM (Memref.isWhole_whole _) keyM (Memref.isWhole_whole _) valM (Memref.isWhole_whole _)
      woM (Memref.isWhole_whole _) outM (Memref.isWhole_whole _) kM (Memref.isWhole_whole _) vM (Memref.isWhole_whole _) ctxM (Memref.isWhole_whole _)
      pM (Memref.isWhole_whole _) rsM (Memref.isWhole_whole _) cc0_scratch5 cc0_scratch6 cc0_scratch7 cc0_scratch8 cc0_scratch9 cc0_scratch10) (fun _ => bodyPost m ρ c) := by
  unfold bodyPre launched
  iintro ⟨⟨⟨⟨%K, #HR, Hlin⟩, Hcr, #Hlev, HS, Hid, Ek, Ev⟩, Hl⟩, Ho, ⟨%d0, %g0, %hg0, Hx⟩, ⟨%d1, %g1, %hg1, Hwq⟩, ⟨%d2, %g2, %hg2, Hwo⟩, ⟨%d3, %g3, %hg3, Hout⟩⟩
  have hx : g0 = (inp m ρ c).x := by rw [hg0]; unfold Dat.before; rw [if_pos (fetch0_0 t0_0)]; rfl
  have hwq : g1 = (inp m ρ c).wq := by rw [hg1]; unfold Dat.before; rw [if_pos (fetch0_1 t0_0)]; rfl
  have hwo : g2 = (inp m ρ c).wo := by rw [hg2]; unfold Dat.before; rw [if_pos (fetch0_2 t0_0)]; rfl
  subst hx hwq hwo
  unfold Dat.owesAt Pipeline.owesWithin
  icases Ho with ⟨%W, %hW, HO⟩
  rw [show (dats m ρ 0 c).owed t0_0.castSucc = Owe c 45 from rfl]
  iapply (sound_body (inp m ρ) K c fun _ => bodyPost m ρ c)
  unfold devPre devPost operands
  isplitr [Hid]
  · isplitr
    · isplitr; · iexact HR
      iexact Hlev
    isplitl [Hlin]; · iexact Hlin
    isplitl [Hcr]; · iexact Hcr
    isplitl [HS]; · iexact HS
    isplitl [HO]; · unfold owesE; iexists W; iexact HO
    isplitl [Hx Hwq Hwo]
    · isplitl [Hx]; · unfold xPts; iexact Hx
      isplitl [Hwq]; · unfold wqPts; iexact Hwq
      unfold woPts; iexact Hwo
    isplitl [Hout]; · iexists g3; unfold outPts; iexact Hout
    isplitl [Hl]; · iexact Hl
    isplitl [Ek]; · iexact Ek
    iexact Ev
  iintro ⟨Hl, Hc, HS, HO, ⟨Hx, Hwq, Hwo⟩, Hout⟩
  unfold bodyPost Dat.owesAt Pipeline.owesWithin owesE xPts wqPts woPts outPts
  rw [show (dats m ρ 0 c).owed t0_0.succ = 0 from rfl]
  isplitl [Hl Hc HS Hid]
  · isplitl [Hl]; · iexact Hl
    isplitl [Hc]; · iexact Hc
    isplitl [HS]; · iexact HS
    iexact Hid
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have h0 : (dats m ρ 0 c).Φ t0_0.castSucc = iprop(launched m ρ c ∗ scratch c) := rfl
  have h1 : (dats m ρ 0 c).Φ t0_0.succ = iprop(scratch c ∗ closed c ∗ headSems c ∗ idle c) := rfl
  have a0 : (dats m ρ 0 c).after (0 : Fin 4) t0_0 = (inp m ρ c).x := rfl
  have a1 : (dats m ρ 0 c).after (1 : Fin 4) t0_0 = (inp m ρ c).wq := rfl
  have a2 : (dats m ρ 0 c).after (2 : Fin 4) t0_0 = (inp m ρ c).wo := rfl
  have a3 : (dats m ρ 0 c).after (3 : Fin 4) t0_0 = fin (xin m ρ) := rfl
  have hp : defs₀ (F := F) .tc 0 (t0_0, cfg0.slots t0_0) = cc0__body (F := F) xM (Memref.isWhole_whole _) wqM (Memref.isWhole_whole _) keyM (Memref.isWhole_whole _) valM (Memref.isWhole_whole _)
      woM (Memref.isWhole_whole _) outM (Memref.isWhole_whole _) kM (Memref.isWhole_whole _) vM (Memref.isWhole_whole _) ctxM (Memref.isWhole_whole _)
      pM (Memref.isWhole_whole _) rsM (Memref.isWhole_whole _) cc0_scratch5 cc0_scratch6 cc0_scratch7 cc0_scratch8 cc0_scratch9 cc0_scratch10 := rfl
  rw [h0, h1, a0, a1, a2, a3, hp]
  iintro H
  ihave Hw := (body_run m ρ c) $$ [H]
  · unfold bodyPre stg; iexact H
  iapply (wp_wand Idealize.ShloMosaic.frame (wpE (defs₀ (F := F)) 𝒱₀ (c : Thread nD τ) none)) $$ Hw
  iintro %_ H
  unfold bodyPost stg
  iexact H

/-! ## The launch's ghost state -/

/-- The kernel's own semaphores: its six arrays of DMA semaphores. -/
abbrev osem : Fin 80 → SemLoc sig := fun i => .dma (⟨i.val + 4, by omega⟩ : Fin 84)

set_option maxRecDepth 16384 in
theorem ownSemFacts : Pipeline.OwnSemFacts cfg0.spec osem where
  isScoped := by decide
  inj := fun i j h => Fin.ext (by have e := congrArg Fin.val (SemLoc.dma.inj h); simp only at e; omega)
  disj := by decide

theorem share_eq (c : Dev nD) (w : Fin cfg0.W) : (dats m ρ 0 c).share w = fullShare := by unfold Dat.share; split <;> rfl

def allCells : Finset (GSem nD τ sig) := Finset.univ.map ⟨fun ck : Dev nD × Cl => cell ck.1 ck.2, cell_injective⟩

/-- The tokens minted: one for every duty of every cell. -/
abbrev Tk : Type := Fin 15 × Fin 5
def tkCl (t : Tk) : Cl := match t.2 with | 0 => .bar | 1 => .rsS t.1 | 2 => .rsR t.1 | 3 => .agS t.1 | 4 => .agR t.1
def tkDuty (t : Tk) : Fin 15 := match t.2 with | 0 => t.1 | _ => 0

theorem tk_injective : ∀ t t' : Tk, tkCl t = tkCl t' → tkDuty t = tkDuty t' → t = t' := by
  rintro ⟨i, a⟩ ⟨j, b⟩ h h'
  fin_cases a <;> fin_cases b <;> simp_all [tkCl, tkDuty]

def tokOf (ct : Dev nD × Tk) : GSem nD τ sig × ℕ × Fin 15 := (cell ct.1 (tkCl ct.2), 0, tkDuty ct.2)

theorem tokOf_injective : Function.Injective tokOf := by
  rintro ⟨c, t⟩ ⟨c', t'⟩ h
  have h1 := cell_eq_iff.mp (congrArg Prod.fst h)
  have h2 : tkDuty t = tkDuty t' := congrArg (fun z => z.2.2) h
  exact Prod.ext h1.1 (tk_injective t t' h1.2 h2)

def allToks : Finset (GSem nD τ sig × ℕ × Fin 15) := Finset.univ.map ⟨tokOf, tokOf_injective⟩

def u₀ : UU := (initOf (Pipeline.cells cfgs cellOf_inj) (Pipeline.launchToks cfgs cellOf_inj), (initOf allCells allToks, 1))

/-- The duty tokens of device `c`'s own cells. -/
def ownToks (c : Dev nD) : sProp 𝕄 :=
  iprop((bigSep Finset.univ fun t : Fin 15 => dutyTok ER (cell c .bar) 0 t)
    ∗ (bigSep Finset.univ fun t : Fin 15 => dutyTok ER (cell c (.rsS t)) 0 (0 : Fin 15))
    ∗ (bigSep Finset.univ fun t : Fin 15 => dutyTok ER (cell c (.rsR t)) 0 (0 : Fin 15))
    ∗ (bigSep Finset.univ fun t : Fin 15 => dutyTok ER (cell c (.agS t)) 0 (0 : Fin 15))
    ∗ (bigSep Finset.univ fun t : Fin 15 => dutyTok ER (cell c (.agR t)) 0 (0 : Fin 15)))

/-- What the launch deals device `c`, -/
def G (c : Dev nD) : sProp 𝕄 :=
  iprop((bigSep Finset.univ fun k : Cl => roundState ER (Rd (xin m ρ)) (cell c k) 0)
    ∗ (bigSep Finset.univ fun k : Cl => iprop(atPos ER (cell c k) 0 ∅ 0 ∗ reached ER (cell c k) 0)) ∗ ownToks c)

/-- and what the devices make of it together. -/
def G' (c : Dev nD) : sProp 𝕄 := iprop((∃ K, records (xin m ρ) K ∗ linear c) ∗ headSems c ∗ idle c)

omit [FloatOps F] in
theorem toks_five (c : Dev nD) :
    (bigSep Finset.univ fun t : Tk => dutyTok ER (tokOf (c, t)).1 (tokOf (c, t)).2.1 (tokOf (c, t)).2.2 : sProp 𝕄) = ownToks c := by
  rw [bigSep_univ_prod]
  have h (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
  rw [bigSep_congr (s := Finset.univ) fun (j : Fin 15) _ => h _]
  simp only [bigSep_sep']
  rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cl => Φ (cell c k) := by
    unfold allCells; rw [bigSep_map, bigSep_univ_prod]; rfl
  have hT : bigSep allToks (fun z => (dutyTok ER z.1 z.2.1 z.2.2 : sProp 𝕄)) = bigSep Finset.univ fun c : Dev nD => ownToks c := by
    unfold allToks; rw [bigSep_map, bigSep_univ_prod]
    exact bigSep_congr fun c _ => toks_five c
  iintro HX
  imod (Rounds.fund ER (Rd (xin m ρ)) allCells allToks) $$ HX with ⟨Hst, Hr, Hat, Htok⟩
  imodintro
  ihave Hst' := (Entails.of_eq (hX fun g => roundState ER (Rd (xin m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
theorem unscopedSems0_eq (c : Dev nD) : (unscopedSems0 c : sProp 𝕄) = semVal (cell c .bar) 0 := by
  unfold unscopedSems0; rw [bigSep_eq_bigSepL_of_eq [SemLoc.reg (0 : Fin 1)] (by decide) (by decide)]; rfl

omit [FloatOps F] in
/-- A family of `m + n`, cut. -/
theorem bigSep_fin_add (m n : ℕ) (Φ : Fin (m + n) → sProp 𝕄) :
    bigSep Finset.univ Φ = iprop((bigSep Finset.univ fun i : Fin m => Φ (Fin.castAdd n i)) ∗ bigSep Finset.univ fun j : Fin n => Φ (Fin.natAdd m j)) := by
  rw [BI.bigSep_univ_equiv finSumFinEquiv, BI.bigSep_univ_sum]
  simp only [finSumFinEquiv_apply_left, finSumFinEquiv_apply_right]
  rfl

/-- The own semaphores, array by array. -/
theorem arrays (c : Dev nD) (Φ : Fin 84 → sProp 𝕄) : (bigSep Finset.univ fun i : Fin 80 => Φ ⟨i.val + 4, by omega⟩)
    = iprop((bigSep Finset.univ fun h : Fin 8 => Φ ⟨h.val + 4, by omega⟩) ∗ (bigSep Finset.univ fun h : Fin 8 => Φ ⟨8 + h.val + 4, by omega⟩)
      ∗ (Φ 20 ∗ bigSep Finset.univ fun t : Fin 15 => Φ ⟨21 + t.val, by omega⟩) ∗ (Φ 36 ∗ bigSep Finset.univ fun t : Fin 15 => Φ ⟨37 + t.val, by omega⟩)
      ∗ (Φ 52 ∗ bigSep Finset.univ fun t : Fin 15 => Φ ⟨53 + t.val, by omega⟩) ∗ Φ 68 ∗ bigSep Finset.univ fun t : Fin 15 => Φ ⟨69 + t.val, by omega⟩) := by
  rw [bigSep_fin_add 8 72, bigSep_fin_add 8 64, bigSep_fin_add 16 48, bigSep_fin_add 16 32, bigSep_fin_add 16 16]
  iterate 4 rw [bigSep_fin_succ (n := 15)]
  have two {a b a' b' : sProp 𝕄} (h : a = a') (h' : b = b') : iprop(a ∗ b) = iprop(a' ∗ b') := by rw [h, h']
  have fam {n : ℕ} {f g : Fin n → Fin 84} (h : ∀ i, (f i).val = (g i).val) : (bigSep Finset.univ fun i => Φ (f i)) = bigSep Finset.univ fun i => Φ (g i) :=
    bigSep_congr fun i _ => congrArg Φ (Fin.ext (h i))
  refine two (fam fun i => ?_) (two (fam fun i => ?_) (two (two rfl (fam fun i => ?_)) (two (two rfl (fam fun i => ?_)) (two (two rfl (fam fun i => ?_)) (two rfl (fam fun i => ?_))))))
  all_goals simp only [Fin.val_natAdd, Fin.val_castAdd, Fin.val_succ]
  all_goals omega

theorem head_sem5 : ∀ h : Fin 8, (SemLoc.dma (headSem cc0_scratch5 h) : SemLoc sig) = .dma (⟨h.val + 4, by omega⟩ : Fin 84) := by decide
theorem head_sem6 : ∀ h : Fin 8, (SemLoc.dma (headSem cc0_scratch6 h) : SemLoc sig) = .dma (⟨8 + h.val + 4, by omega⟩ : Fin 84) := by decide

omit [FloatOps F] in
theorem resort (V0 V1 V2 V3 V4 Sk Sv I1 I2 I3 I4 : sProp 𝕄) :
    iprop((V0 ∗ V1 ∗ V2 ∗ V3 ∗ V4) ∗ (Sk ∗ Sv) ∗ I1 ∗ I2 ∗ I3 ∗ I4)
      = iprop(V0 ∗ Sk ∗ Sv ∗ (I1 ∗ V1) ∗ (I2 ∗ V2) ∗ (I3 ∗ V3) ∗ I4 ∗ V4) := by
  have h1 : iprop((V0 ∗ V1 ∗ V2 ∗ V3 ∗ V4) ∗ (Sk ∗ Sv) ∗ I1 ∗ I2 ∗ I3 ∗ I4) ⊢ iprop(V0 ∗ Sk ∗ Sv ∗ (I1 ∗ V1) ∗ (I2 ∗ V2) ∗ (I3 ∗ V3) ∗ I4 ∗ V4) := by
    iintro ⟨⟨V0, V1, V2, V3, V4⟩, ⟨Sk, Sv⟩, I1, I2, I3, I4⟩
    isplitl [V0]; · iexact V0
    isplitl [Sk]; · iexact Sk
    isplitl [Sv]; · iexact Sv
    isplitl [I1 V1]
    · isplitl [I1]; · iexact I1
      iexact V1
    isplitl [I2 V2]
    · isplitl [I2]; · iexact I2
      iexact V2
    isplitl [I3 V3]
    · isplitl [I3]; · iexact I3
      iexact V3
    isplitl [I4]; · iexact I4
    iexact V4
  have h2 : iprop(V0 ∗ Sk ∗ Sv ∗ (I1 ∗ V1) ∗ (I2 ∗ V2) ∗ (I3 ∗ V3) ∗ I4 ∗ V4) ⊢ iprop((V0 ∗ V1 ∗ V2 ∗ V3 ∗ V4) ∗ (Sk ∗ Sv) ∗ I1 ∗ I2 ∗ I3 ∗ I4) := by
    iintro ⟨V0, Sk, Sv, ⟨I1, V1⟩, ⟨I2, V2⟩, ⟨I3, V3⟩, I4, V4⟩
    isplitl [V0 V1 V2 V3 V4]
    · isplitl [V0]; · iexact V0
      isplitl [V1]; · iexact V1
      isplitl [V2]; · iexact V2
      isplitl [V3]; · iexact V3
      iexact V4
    isplitl [Sk Sv]
    · isplitl [Sk]; · iexact Sk
      iexact Sv
    isplitl [I1]; · iexact I1
    isplitl [I2]; · iexact I2
    isplitl [I3]; · iexact I3
    iexact I4
  exact BI.equiv_iff.mp ⟨h1, h2⟩

/-- A device's semaphores are the runtime's barrier and the kernel's own. -/
theorem sems_eq (c : Dev nD) : (iprop(closed c ∗ headSems c ∗ idle c) : sProp 𝕄)
    = iprop(unscopedSems0 c ∗ Pipeline.ownSems0 (Ix := Unit) (Name := ℕ) (U := UU) (Lvl := ℕ) (Val := Elt F) (τ := τ) osem c) := by
  unfold closed headSems idle Pipeline.ownSems0
  rw [bigSep_cl, unscopedSems0_eq, arrays c fun q => semVal ((c : Thread nD τ), .dma q) 0]
  simp only [head_sem5, head_sem6]
  exact resort _ _ _ _ _ _ _ _ _ _ _

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cl => iprop(∃ κ : ℕ, cellInv ER (Rd (xin m ρ)) κ (cell c k)))
          ∗ (bigSep Finset.univ fun k : Cl => iprop(atPos ER (cell c k) 0 ∅ 0 ∗ reached ER (cell c k) 0)) ∗ ownToks c ∗ headSems c ∗ idle c) := by
  unfold G
  iintro ⟨Hos, Hus, Hst, Hat, Htok⟩
  ihave Hv := (Entails.of_eq (sems_eq (F := F) c).symm) $$ [Hos Hus]
  · isplitl [Hus]; · iexact Hus
    iexact Hos
  icases Hv with ⟨Hv, HS, Hid⟩
  unfold closed
  imod (show iprop((bigSep Finset.univ fun k : Cl => semVal (cell c k) 0) ∗ bigSep Finset.univ fun k : Cl => roundState ER (Rd (xin m ρ)) (cell c k) 0)
      ⊢ (|={Set.univ}=> bigSep Finset.univ fun k : Cl => iprop(∃ κ : ℕ, cellInv ER (Rd (xin m ρ)) κ (cell c k)) : sProp 𝕄) from by
        rw [← bigSep_sep']
        exact (bigSep_mono fun k _ => (Rounds.body_intro ER (Rd (xin m ρ)) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HS]; · iexact HS
  iexact Hid

omit [FloatOps F] in
/-- Tokens of the cells, dealt to the peers that pay them. -/
theorem deal (Φ : Dev nD → Fin 15 → sProp 𝕄) :
    (bigSep Finset.univ fun c : Dev nD => bigSep Finset.univ fun t : Fin 15 => Φ c t)
      = bigSep Finset.univ fun c : Dev nD => bigSep Finset.univ fun t : Fin 15 => Φ (dst c t) t := by
  rw [← bigSep_univ_prod (fun z : Dev nD × Fin 15 => Φ z.1 z.2), ← bigSep_univ_prod (fun z : Dev nD × Fin 15 => Φ (dst z.1 z.2) z.2)]
  exact bigSep_univ_equiv (⟨fun z => (dst z.1 z.2, z.2), fun z => (dst z.1 z.2.rev, z.2), fun z => by simp only [dst_rev], fun z => by simp only [dst_rev']⟩ : (Dev nD × Fin 15) ≃ (Dev nD × Fin 15)) _

omit [FloatOps F] in
theorem toks_around : (bigSep Finset.univ fun c : Dev nD => (ownToks c : sProp 𝕄)) ⊢ bigSep Finset.univ fun c : Dev nD => payToks c := by
  unfold ownToks payToks
  simp only [bigSep_sep']
  rw [bigSep_congr (s := Finset.univ) (fun (c : Dev nD) _ => cut_rev fun t => dutyTok ER (cell c .bar) 0 t),
    deal fun c t => dutyTok ER (cell c .bar) 0 t.rev, deal fun c t => dutyTok ER (cell c (.rsR t)) 0 (0 : Fin 15),
    deal fun c t => dutyTok ER (cell c (.agR t)) 0 (0 : Fin 15)]

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem assembled : (iprop(((bigSep Finset.univ fun c : Dev nD => bigSep Finset.univ fun k : Cl => atPos ER (cell c k) 0 ∅ 0) ∗ bigSep Finset.univ fun c : Dev nD => payToks c)
      ∗ bigSep Finset.univ fun c : Dev nD => iprop(headSems c ∗ idle c)) : sProp 𝕄)
    = bigSep Finset.univ fun c : Dev nD => iprop(linear c ∗ headSems c ∗ idle c) := by
  unfold linear; simp only [bigSep_sep']

theorem regroup :
    (bigSep Finset.univ fun c : Dev nD => iprop((bigSep Finset.univ fun k : Cl => iprop(∃ κ : ℕ, cellInv ER (Rd (xin m ρ)) κ (cell c k)))
          ∗ (bigSep Finset.univ fun k : Cl => iprop(atPos ER (cell c k) 0 ∅ 0 ∗ reached ER (cell c k) 0)) ∗ ownToks c ∗ headSems c ∗ idle c) : sProp 𝕄)
      ⊢ bigSep Finset.univ (G' m ρ) := by
  rw [bigSep_sep', bigSep_sep', bigSep_sep', ← bigSep_univ_prod (fun ck : Dev nD × Cl => iprop(∃ κ : ℕ, cellInv ER (Rd (xin m ρ)) κ (cell ck.1 ck.2))),
    bigSep_congr (s := Finset.univ) (fun (c : Dev nD) _ => bigSep_sep' Finset.univ (fun k : Cl => (atPos ER (cell c k) 0 ∅ 0 : sProp 𝕄)) (fun k => reached ER (cell c k) 0)),
    bigSep_sep', ← bigSep_univ_prod (fun ck : Dev nD × Cl => (reached ER (cell ck.1 ck.2) 0 : sProp 𝕄))]
  iintro ⟨HI, ⟨Hat, #HR⟩, Htok, Hrest⟩
  ihave HK := (BI.bigSep_exists_pi Finset.univ (fun (ck : Dev nD × Cl) (κ : ℕ) => (cellInv ER (Rd (xin m ρ)) κ (cell ck.1 ck.2) : sProp 𝕄))) $$ HI
  icases HK with ⟨%K, #HI⟩
  ihave Htk := (toks_around (F := F)) $$ Htok
  iapply (with_persistent (R := records (xin m ρ) K) fun c _ => show iprop(records (xin m ρ) K ∗ linear c ∗ headSems c ∗ idle c) ⊢ G' m ρ c from by
    unfold G'
    iintro ⟨HR, Hl, Hrest⟩
    isplitr [Hrest]
    · iexists K
      isplitl [HR]; · iexact HR
      iexact Hl
    iexact Hrest)
  isplitr
  · unfold records; isplitl; · iexact HI
    iexact HR
  · iapply (Entails.of_eq (assembled (F := F)))
    isplitl [Hat Htk]
    · isplitl [Hat]; · iexact Hat
      iexact Htk
    iexact Hrest

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- What all devices together owe cell `k` of device `c` by the last `n` payments. -/
theorem owed_sum (c : Dev nD) (k : Cl) (n : ℕ) :
    (∑ d : Dev nD, Owe d n (cell c k) ()) = ∑ i ∈ Finset.range n, if itemCl i = k then amt k else 0 := by
  induction n with
  | zero => rw [Finset.range_zero, Finset.sum_empty]; exact Finset.sum_eq_zero fun d _ => rfl
  | succ n ih =>
    have e (d : Dev nD) : Owe d (n + 1) (cell c k) () = Owe d n (cell c k) () + if d = dst c (itemT n).rev then (if itemCl n = k then amt k else 0) else 0 := by
      rw [Owe, Pi.add_apply, Finsupp.add_apply, tallyAt_apply]
      congr 1
      by_cases hd : d = dst c (itemT n).rev
      · subst hd
        rw [dst_rev', if_pos rfl]
        by_cases hk : itemCl n = k
        · subst hk; rw [if_pos ⟨rfl, rfl⟩, if_pos rfl]
        · rw [if_neg fun h => hk (cell_eq_iff.mp h.1).2.symm, if_neg hk]
      · rw [if_neg fun h => hd (by rw [(cell_eq_iff.mp h.1).1, dst_rev]), if_neg hd]
    rw [Finset.sum_range_succ, ← ih, Finset.sum_congr rfl fun d _ => e d, Finset.sum_add_distrib,
      Finset.sum_ite_eq' Finset.univ (dst c (itemT n).rev) fun _ => if itemCl n = k then amt k else 0, if_pos (Finset.mem_univ _)]

def owed₀ (c : Dev nD) : CellTallies nD τ sig Unit := Owe c 45

theorem launch_cell (c : Dev nD) (k : Cl) :
    tallyOn (cell c k) (launchCredit (Pipeline.owing owed₀) 0 (cell c k))
      = (tallyAt (cell c k) () (∑ i ∈ Finset.range 45, if itemCl i = k then amt k else 0) : CellTallies nD τ sig Unit) := by
  unfold tallyAt; refine congrArg _ (Finsupp.ext fun u => ?_); cases u
  rw [Pipeline.launchCredit_owing, Finsupp.single_eq_same]
  exact owed_sum c k 45

theorem total_bar : (∑ i ∈ Finset.range 45, if itemCl i = .bar then amt .bar else 0) = 15 := by decide
set_option maxRecDepth 16384 in
theorem count_rsR : ∀ j : Fin 15, ((Finset.range 45).filter fun i => itemCl i = .rsR j).card = 1 := by decide
set_option maxRecDepth 16384 in
theorem count_agR : ∀ j : Fin 15, ((Finset.range 45).filter fun i => itemCl i = .agR j).card = 1 := by decide
theorem total_rsR (j : Fin 15) : (∑ i ∈ Finset.range 45, if itemCl i = .rsR j then amt (.rsR j) else 0) = cr := by
  rw [← Finset.sum_filter, Finset.sum_const, count_rsR, smul_eq_mul, Nat.one_mul]; rfl
theorem total_agR (j : Fin 15) : (∑ i ∈ Finset.range 45, if itemCl i = .agR j then amt (.agR j) else 0) = cr := by
  rw [← Finset.sum_filter, Finset.sum_const, count_agR, smul_eq_mul, Nat.one_mul]; rfl

omit [FloatOps F] in
theorem creds (c : Dev nD) : (Pipeline.launchCred owed₀ c : sProp 𝕄) ⊢ credits c := by
  unfold Pipeline.launchCred
  refine (BI.bigSep_subset (Finset.subset_univ (Finset.univ.map ⟨semOf, semOf_injective⟩))).trans ?_
  rw [bigSep_map]
  refine (Entails.of_eq (bigSep_congr (s := Finset.univ) (fun (k : Cl) _ =>
    congrArg cred (launch_cell c k)))).trans ?_
  unfold credits
  rw [bigSep_cl]
  simp only [total_bar, total_rsR, total_agR]
  iintro ⟨HB, -, HR, -, HA⟩
  isplitl [HB]; · iexact HB
  isplitl [HR]; · iexact HR
  iexact HA

/-! ## The run -/

/-- A device's stored keys and values, of which it keeps one share and lends the other to the gathers. -/
def kept (c : Dev nD) : sProp 𝕄 := iprop(extK c fullShare.left (m ((c : Thread nD τ).loc main_arg2)) ∗ extV c fullShare.left (m ((c : Thread nD τ).loc main_arg3)))

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(launched m ρ c ∗ kept m c) := by
  rw [Pipeline.unscopedRestP_none, unscopedRest0_eq]
  iintro ⟨⟨Hk, Hv⟩, Hlev, Hcr, -, HG⟩
  ihave Hc := (creds (F := F) c) $$ Hcr
  ihave Hk := (pointsTo_share (PosShare.mem_left_op_right _)).1 $$ Hk
  ihave Hv := (pointsTo_share (PosShare.mem_left_op_right _)).1 $$ Hv
  icases Hk with ⟨Kl, Kr⟩
  icases Hv with ⟨Vl, Vr⟩
  imodintro
  unfold launched G' kept extK extV
  icases HG with ⟨HG, HS, Hid⟩
  isplitr [Kl Vl]
  · isplitl [HG]; · iexact HG
    isplitl [Hc]; · iexact Hc
    isplitl [Hlev]; · iexact Hlev
    isplitl [HS]; · iexact HS
    isplitl [Hid]; · iexact Hid
    isplitl [Kr]; · iexact Kr
    iexact Vr
  · isplitl [Kl]; · iexact Kl
    iexact Vl

theorem phi0_intro (c : Dev nD) :
    iprop(launched m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(launched m ρ c ∗ scratch c) from rfl, scopedRest0_eq]
  unfold scratch kPts vPts ctxPts prodPts landPts
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ closed c ∗ headSems c ∗ idle c) from rfl, scopedRest0_eq, sems_eq]
  unfold scratch kPts vPts ctxPts prodPts landPts
  iintro ⟨Hr, HU, HS⟩
  isplitl [HU]; · iexact HU
  isplitl [HS]; · iexact HS
  iexact Hr

omit [FloatOps F] in
theorem mayWait_stage (c : Dev nD) (sm : SemLoc sig) (hs : lvS sm = 0) (O : CellTallies nD τ sig Unit) (hO : O = Owe c 45 ∨ O = 0) :
    (levAts L lv : sProp 𝕄) ⊢ MayWait (c : Thread nD τ) sm () O := by
  have h0 : ∀ i < 45, lvS sm < lvC (itemCl i) := by rw [hs]; decide
  rcases hO with rfl | rfl
  · exact mayWait c sm 45 h0
  · exact mayWait c sm 0 (fun i hi => absurd hi (Nat.not_lt_zero i))

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

theorem kept_read (c : Dev nD) (s' : Phys nD τ sig (Elt F)) :
    iprop(kept m c ∗ SI s') ⊢ iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') := by
  have key := pointsTo_read_all (Ix := Unit) (Name := ℕ) (U := UU) (Lvl := ℕ) (Val := Elt F) (Finset.univ : Finset (Fin 2))
    (fun i => if i = 0 then (c : Thread nD τ).loc main_arg2 else (c : Thread nD τ).loc main_arg3) (fun i => m _) s' fullShare.left
  rw [bigSep_fin_succ (n := 1), bigSep_fin_succ (n := 0)] at key
  unfold kept extK extV
  iintro ⟨⟨Hk, Hv⟩, HSI⟩
  ihave H := key $$ [Hk Hv HSI]
  · isplitl [Hk Hv]
    · isplitl [Hk]; · iexact Hk
      isplitl [Hv]; · iexact Hv
      iempintro
    iexact HSI
  icases H with ⟨%h, HSI⟩
  isplitr
  · ipureintro
    exact ⟨h 0 (Finset.mem_univ _), h 1 (Finset.mem_univ _)⟩
  iexact HSI

set_option maxRecDepth 32768 in
set_option maxHeartbeats 1600000 in
/-- The sixteen devices' run. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c t => by
      iintro H
      ihave Hw := (body_obligation m ρ c t) $$ [H]
      · iexact H
      iapply (wp_wand Idealize.ShloMosaic.frame (wpE (defs₀ (F := F)) 𝒱₀ (c : Thread nD τ) none)) $$ Hw
      iintro %_ H
      iexact H) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod ((show (BI.own (embR (initOf allCells allToks, (1 : Counters))) : sProp 𝕄) ⊢ BI.own (ER (initOf allCells allToks)) from Entails.of_eq rfl).trans (fund_all m ρ)) $$ HX with HG
      imodintro
      isplitl [HP] <;> iassumption)
    (hglob := glob m ρ)
    (hA := fun _ _ => rfl) (hpf := fun _ k => k.elim0)
    (X := launched m ρ) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨Hu, HZ, HSI⟩
      ihave H := (kept_read m c s') $$ [HZ HSI]
      · isplitl [HZ]; · iexact HZ
        iexact HSI
      icases H with ⟨%hz, HSI⟩
      imod (Pipeline.unscopedSems0_read (X := unscopedSems0 c) (c := c) fupd_intro s') $$ [Hu HSI] with ⟨%hu, HSI⟩
      · isplitl [Hu]; · iexact Hu
        iexact HSI
      imodintro
      isplitr; · ipureintro; exact ⟨hu, hz⟩
      iexact HSI)
    (hQ := fun _ h hs => ⟨fun c => ⟨fun w => (h c).1 w, (h c).2.2.2⟩, sem_eq_zero hs fun c => (h c).2.2.1⟩)

/-- The staged inputs end as they began. -/
theorem finalA_arg0 (c : Dev nD) : finalA m ρ c (0 : Fin 4) = m ((c : Thread nD τ).loc main_arg0) := (dats (F := F) m ρ 0 c).arrAt_in (0 : Fin 4) rfl _
theorem finalA_arg1 (c : Dev nD) : finalA m ρ c (1 : Fin 4) = m ((c : Thread nD τ).loc main_arg1) := (dats (F := F) m ρ 0 c).arrAt_in (1 : Fin 4) rfl _
theorem finalA_arg4 (c : Dev nD) : finalA m ρ c (2 : Fin 4) = m ((c : Thread nD τ).loc main_arg4) := (dats (F := F) m ρ 0 c).arrAt_in (2 : Fin 4) rfl _

end Cert.Attn

end
-- ==== Proof.Softmax.lean ====
/-
# Softmax over the extended reals

With real scores, the weights normalized after subtracting the largest score are the exponentials over their sum
(`softmax`), whatever the values weighted: a nonnegative real distributes over any sum. A scale may be moved from a factor
of the queries to the scores when all factors are real (`score_scale`).
-/
module

public import Idealize.ShloMosaic.PureOps.Ideal

@[expose] public section

noncomputable section

namespace Cert.Attn

open Idealize.ShloMosaic

/-! ## Sums of reals -/

theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => rw [Finset.sum_empty, Finset.sum_empty, zero_mul]
  | insert a s h ih =>
    rw [Finset.sum_insert h, Finset.sum_insert h, ← ih]
    exact EReal.right_distrib_of_nonneg_of_ne_top (EReal.coe_nonneg.mpr hr) (EReal.coe_ne_top r) _ _

theorem coe_ite (p : Prop) [Decidable p] (r : ℝ) : (if p then (r : EReal) else 0) = ((if p then r else 0 : ℝ) : EReal) := by
  split <;> rfl

theorem div_real (a : EReal) {r : ℝ} (hr : r ≠ 0) : Ideal.div a (r : EReal) = a * ((r⁻¹ : ℝ) : EReal) := by
  unfold Ideal.div
  rw [if_neg (fun h => hr (EReal.coe_eq_zero.mp h)), EReal.coe_inv]

/-! ## The largest score -/

theorem max_real {n : ℕ} (keep : Fin n → Prop) [DecidablePred keep] (hk : ∃ j, keep j) (s : Fin n → ℝ) :
    ∃ m : ℝ, (Finset.univ : Finset (Fin n)).fold max ⊥ (fun j => if keep j then ((s j : ℝ) : EReal) else ⊥) = (m : EReal) := by
  obtain ⟨j, hj⟩ := hk
  have ht : (Finset.univ : Finset (Fin n)).fold max ⊥ (fun j => if keep j then ((s j : ℝ) : EReal) else ⊥) < ⊤ := by
    rw [Finset.fold_max_lt]
    refine ⟨bot_lt_top, fun x _ => ?_⟩
    split
    · exact EReal.coe_lt_top _
    · exact bot_lt_top
  have hb : ((s j : ℝ) : EReal) ≤ (Finset.univ : Finset (Fin n)).fold max ⊥ (fun j => if keep j then ((s j : ℝ) : EReal) else ⊥) := by
    rw [Finset.le_fold_max]
    exact .inr ⟨j, Finset.mem_univ j, by rw [if_pos hj]⟩
  exact ⟨_, (EReal.coe_toReal ht.ne ((EReal.bot_lt_coe _).trans_le hb).ne').symm⟩

/-! ## Softmax -/

/-- The weighted sum of the values, by weights normalized after the largest score is subtracted and by exponentials alone. -/
theorem softmax {n : ℕ} (keep : Fin n → Prop) [DecidablePred keep] (hk : ∃ j, keep j) (s : Fin n → ℝ) (v : Fin n → EReal) (t : Fin n → EReal)
    (ht : ∀ j, t j = if keep j then ((s j : ℝ) : EReal) else ⊥) (M : EReal) (hM : M = (Finset.univ : Finset (Fin n)).fold max ⊥ t) :
    ∑ j, v j * Ideal.div (Ideal.exp (t j - M)) (∑ i, Ideal.exp (t i - M))
      = (∑ j, if keep j then Ideal.exp ((s j : ℝ) : EReal) * v j else 0)
        * Ideal.div 1 (∑ j, if keep j then Ideal.exp ((s j : ℝ) : EReal) else 0) := by
  obtain rfl : t = fun j => if keep j then ((s j : ℝ) : EReal) else ⊥ := funext ht
  obtain ⟨m, hm⟩ := max_real keep hk s
  rw [hm] at hM
  subst hM
  obtain ⟨j₀, hj₀⟩ := hk
  have he : ∀ j, Ideal.exp ((if keep j then ((s j : ℝ) : EReal) else ⊥) - (m : EReal)) = ((if keep j then Real.exp (s j - m) else 0 : ℝ) : EReal) := fun j => by
    split
    · rw [← EReal.coe_sub, Ideal.exp_coe]
    · rw [EReal.bot_sub, Ideal.exp_bot]; rfl
  have hd : ∀ j, (if keep j then Ideal.exp ((s j : ℝ) : EReal) else 0) = ((if keep j then Real.exp (s j) else 0 : ℝ) : EReal) := fun j => by
    rw [Ideal.exp_coe, coe_ite]
  have hD : 0 < ∑ j, (if keep j then Real.exp (s j) else 0) :=
    Finset.sum_pos' (fun j _ => by split <;> positivity) ⟨j₀, Finset.mem_univ _, by rw [if_pos hj₀]; positivity⟩
  have hW : ∑ j, (if keep j then Real.exp (s j - m) else 0) = (∑ j, (if keep j then Real.exp (s j) else 0)) * Real.exp (-m) := by
    rw [Finset.sum_mul]
    refine Finset.sum_congr rfl fun j _ => ?_
    split
    · rw [sub_eq_add_neg, Real.exp_add]
    · rw [zero_mul]
  have hW0 : ∑ j, (if keep j then Real.exp (s j - m) else 0) ≠ 0 := by rw [hW]; positivity
  simp only [he, hd]
  rw [← coe_sum, ← coe_sum, div_real _ hD.ne', one_mul, sum_mul_real _ _ (inv_nonneg.mpr hD.le)]
  refine Finset.sum_congr rfl fun j _ => ?_
  rw [div_real _ hW0, ← EReal.coe_mul]
  by_cases h : keep j
  · rw [if_pos h, if_pos h, Ideal.exp_coe, mul_comm _ (v j), mul_assoc, ← EReal.coe_mul, hW, sub_eq_add_neg, Real.exp_add]
    congr 2
    field_simp
  · rw [if_neg h, if_neg h, zero_mul, zero_mul, EReal.coe_zero, mul_zero]

/-! ## The scale -/

/-- A real scale on the rows' factors is a scale on the scores; the score is real. -/
theorem score_scale {m n : ℕ} (x : Fin m → EReal) (w : Fin n → Fin m → EReal) (k : Fin n → EReal) (c : EReal) (hc : ∃ r : ℝ, c = r)
    (hx : ∀ i, ∃ r : ℝ, x i = r) (hw : ∀ d i, ∃ r : ℝ, w d i = r) (hk : ∀ d, ∃ r : ℝ, k d = r) :
    ∃ r : ℝ, (∑ d, (∑ i, x i * w d i) * k d) * c = r ∧ ∑ d, (∑ i, x i * c * w d i) * k d = r := by
  obtain ⟨c, rfl⟩ := hc
  choose x' hx' using hx
  choose w' hw' using hw
  choose k' hk' using hk
  obtain rfl : x = fun i => (x' i : EReal) := funext hx'
  obtain rfl : w = fun d i => (w' d i : EReal) := funext fun d => funext (hw' d)
  obtain rfl : k = fun d => (k' d : EReal) := funext hk'
  refine ⟨(∑ d, (∑ i, x' i * w' d i) * k' d) * c, ?_, ?_⟩
  · simp only [EReal.coe_mul, coe_sum]
  · simp only [← EReal.coe_mul, ← coe_sum]
    congr 1
    rw [Finset.sum_mul]
    refine Finset.sum_congr rfl fun d _ => ?_
    rw [Finset.sum_mul, Finset.sum_mul, Finset.sum_mul]
    exact Finset.sum_congr rfl fun i _ => by ring

/-! ## The keys a query block keeps -/

/-- Query block `b` keeps key block `k`. -/
def keepB (b k : ℕ) : Prop := b = k ∨ k = 0 ∨ (b + k) % 3 = 0
instance (b k : ℕ) : Decidable (keepB b k) := inferInstanceAs (Decidable (_ ∨ _ ∨ _))

/-- The values weighted by the exponentials of the scores kept, over their sum. -/
def keptSum (b : ℕ) (s v : Fin 4096 → EReal) : EReal :=
  (∑ j, if keepB b (j.val / 64) then Ideal.exp (s j) * v j else 0) * Ideal.div 1 (∑ j, if keepB b (j.val / 64) then Ideal.exp (s j) else 0)

/-- The scale of the scores. -/
def scale : EReal := Ideal.ofBits .f32 0x3DB504F3#32

theorem scale_real : ∃ r : ℝ, scale = r := by
  refine ⟨11863283 / 2 ^ 27, ?_⟩
  unfold scale
  simp [Ideal.ofBits, Ideal.ieee, -EReal.coe_mul]
  norm_num

/-- `softmax` at a query block's keys, for scores that may be scaled. -/
theorem softmax_kept (b : ℕ) (s : Fin 4096 → EReal) (hs : ∀ j, ∃ r : ℝ, s j = r) (v t : Fin 4096 → EReal)
    (ht : ∀ j, t j = if keepB b (j.val / 64) then s j else ⊥) :
    ∑ j, v j * Ideal.div (Ideal.exp (t j - (Finset.univ : Finset (Fin 4096)).fold max ⊥ t)) (∑ i, Ideal.exp (t i - (Finset.univ : Finset (Fin 4096)).fold max ⊥ t))
      = keptSum b s v := by
  choose s' hs' using hs
  obtain rfl : s = fun j => ((s' j : ℝ) : EReal) := funext hs'
  exact softmax (fun j => keepB b (j.val / 64)) ⟨0, .inr (.inl rfl)⟩ s' v t ht _ rfl

end Cert.Attn

end
-- ==== Proof.Read.lean ====
/-
# The attention of one head, read at an index
-/
module

public import proofs.«01_k».proof.Proof.Blocks
public import proofs.«01_k».proof.Proof.Softmax
public import Idealize.ShloMosaic.Lib.IdealHost
public import Idealize.ShloMosaic.Lib.Pointwise

@[expose] public section

noncomputable section

namespace Cert.Attn

open Cert.KernelIdeal Cert.KernelIdeal.Gen
open Idealize.ShloMosaic

/-- A row of scores exponentiated, weighted by the values, over its sum. -/
def weighted {n : ℕ} (s : Fin n → EReal) (v : Fin n → EReal) : EReal :=
  (∑ j, Ideal.exp (s j) * v j) * Ideal.div 1 (∑ j, Ideal.exp (s j))

theorem queries_apply (x : Vec Ideal S1x256x1024 .f32) (wq : Vec Ideal S1024x1024 .f32) (r : Fin 256) (q : Fin 1024) :
    queries x wq (ix2 r q) = ∑ i : Fin 1024, (x (ix3 0 r i) * scale) * wq (ix2 i q) := by
  pointwise [queries, scale]

theorem out12_apply (q : FVec Ideal S64x128 .f32) (k v : Vec Ideal S1x1472x128 .f32) (r : Fin 64) (d : Fin 128) :
    out12 q k v (ix2 r d) = weighted (fun j : Fin 1472 => ∑ e : Fin 128, q (ix2 r e) * k (ix3 0 j e)) (fun j => v (ix3 0 j d)) := by
  pointwise [out12, e12, weighted]

theorem both03_apply (q : FVec Ideal S256x128 .f32) (k v : Big Ideal) (h : Fin 8) (r : Fin 128) (d : Fin 128) :
    both03 q k v h (ix2 r d) = weighted (fun j : Fin 1408 => ∑ e : Fin 128,
      (concatenate S128x128 0 [⟨S64x128, rowsQ q 0⟩, ⟨S64x128, rowsQ q 3⟩] concatenates_S64x128_S64x128_S128x128_d0 (ix2 r e) : EReal) * readK0 k h (ix3 0 j e)) (fun j => readK0 v h (ix3 0 j d)) := by
  pointwise [both03, num03, den03, out03, e03, weighted]

/-! ## The runs of keys -/

/-- The row of the keys that row `r` of a run starting at gathered block `o` holds. -/
def keyRow (o r : ℕ) : Fin 4096 := Fin.ofNat 4096 (64 * kb (o + r / 64) + r % 64)

theorem keyRow_val {o r : ℕ} (h : kb (o + r / 64) < 64) : (keyRow o r).val = 64 * kb (o + r / 64) + r % 64 := by
  show (64 * kb (o + r / 64) + r % 64) % 4096 = _
  omega

/-- A run's key blocks are those a query block keeps, each once. -/
structure Runs (b o n : ℕ) : Prop where
  into : ∀ i : Fin n, kb (o + i.val) < 64 ∧ keepB b (kb (o + i.val))
  inj : ∀ i i' : Fin n, kb (o + i.val) = kb (o + i'.val) → i = i'
  onto : ∀ k : Fin 64, keepB b k.val → ∃ i : Fin n, kb (o + i.val) = k.val

theorem runs0 : Runs 0 0 22 := ⟨by decide, by decide, by decide⟩
theorem runs1 : Runs 1 22 23 := ⟨by decide, by decide, by decide⟩
theorem runs2 : Runs 2 45 23 := ⟨by decide, by decide, by decide⟩
theorem runs3 : Runs 3 0 22 := ⟨by decide, by decide, by decide⟩

/-- So a sum over a run is the sum over the keys kept. -/
theorem Runs.sum {b o n N : ℕ} (h : Runs b o n) (hN : N = 64 * n) (f : Fin 4096 → EReal) :
    ∑ r : Fin N, f (keyRow o r.val) = ∑ j : Fin 4096, if keepB b (j.val / 64) then f j else 0 := by
  subst hN
  have hv : ∀ r : Fin (64 * n), (keyRow o r.val).val = 64 * kb (o + r.val / 64) + r.val % 64 := fun r =>
    keyRow_val (h.into ⟨r.val / 64, by have := r.isLt; omega⟩).1
  rw [← Finset.sum_filter]
  refine Finset.sum_bij (fun r _ => keyRow o r.val) (fun r _ => ?_) (fun r _ r' _ e => ?_) (fun j hj => ?_) (fun _ _ => rfl)
  · refine Finset.mem_filter.mpr ⟨Finset.mem_univ _, ?_⟩
    rw [hv, show (64 * kb (o + r.val / 64) + r.val % 64) / 64 = kb (o + r.val / 64) by omega]
    exact (h.into ⟨r.val / 64, by have := r.isLt; omega⟩).2
  · have e' := congrArg Fin.val e
    simp only [hv] at e'
    have e1 := h.inj ⟨r.val / 64, by have := r.isLt; omega⟩ ⟨r'.val / 64, by have := r'.isLt; omega⟩ (by
      show kb (o + r.val / 64) = kb (o + r'.val / 64); omega)
    have e2 : r.val / 64 = r'.val / 64 := congrArg Fin.val e1
    rw [e2] at e'
    exact Fin.ext (by omega)
  · have hj' := (Finset.mem_filter.mp hj).2
    have hj4 := j.isLt
    obtain ⟨i, hi⟩ := h.onto ⟨j.val / 64, by omega⟩ hj'
    have hi' : kb (o + i.val) = j.val / 64 := hi
    have hin := i.isLt
    refine ⟨⟨64 * i.val + j.val % 64, by omega⟩, Finset.mem_univ _, Fin.ext ?_⟩
    rw [hv]
    show 64 * kb (o + (64 * i.val + j.val % 64) / 64) + (64 * i.val + j.val % 64) % 64 = j.val
    rw [show (64 * i.val + j.val % 64) / 64 = i.val by omega, hi']
    omega

/-! ## The context -/

/-- The row of the heads' axis that head `h` of device `c` is. -/
def headOf (c : Dev nD) (h : ℕ) : Fin 128 := Fin.ofNat 128 (8 * c.val + h)

theorem gathered_apply (c : Dev nD) (f : Ext Ideal) (z : S8x4352x128.Idx) {h o r : ℕ} {e : Fin 128}
    (z0 : (z 0).val = h) (z1 : (z 1).val = 64 * o + r) (z2 : (z 2).val = e.val) : gathered c f z = f (ix4 0 (keyRow o r) (headOf c h) e) := by
  unfold gathered keyRow headOf
  rw [z0, z1, show (64 * o + r) / 64 = o + r / 64 by omega, show (64 * o + r) % 64 = r % 64 by omega, show z 2 = e from Fin.ext z2]

theorem readK0_apply (c : Dev nD) (f : Ext Ideal) (h : Fin 8) (j : Fin 1408) (e : Fin 128) :
    readK0 (gathered c f) h (ix3 0 j e) = f (ix4 0 (keyRow 0 j.val) (headOf c h.val) e) :=
  gathered_apply c f _ ((Rect.emb_apply _ _ _).trans (Nat.add_zero _)) ((Rect.emb_apply _ _ _).trans (by show 0 + 1 * j.val = _; omega))
    ((Rect.emb_apply _ _ _).trans (by show 0 + 1 * e.val = _; omega))

theorem readK1_apply (c : Dev nD) (f : Ext Ideal) (h : Fin 8) (p : Fin 2) (j : Fin 1472) (e : Fin 128) :
    readK1 (gathered c f) h p (ix3 0 j e) = f (ix4 0 (keyRow (22 + 23 * p.val) j.val) (headOf c h.val) e) :=
  gathered_apply c f _ ((Rect.emb_apply _ _ _).trans (Nat.add_zero _)) ((Rect.emb_apply _ _ _).trans (by show 1408 + 1472 * p.val + 1 * j.val = _; omega))
    ((Rect.emb_apply _ _ _).trans (by show 0 + 1 * e.val = _; omega))

theorem rows03_low (q : FVec Ideal S256x128 .f32) (r : Fin 64) (e : Fin 128) :
    concatenate S128x128 0 [⟨S64x128, rowsQ q 0⟩, ⟨S64x128, rowsQ q 3⟩] concatenates_S64x128_S64x128_S128x128_d0 (ix2 (Fin.ofNat 128 r.val) e)
      = q (ix2 (Fin.ofNat 256 r.val) e) := by
  have := r.isLt
  pointwise [rowsQ]
  refine (dif_pos (show r.val % 128 < 64 by omega)).trans (congrArg (fun u => q (ix2 u e)) (Fin.ext ?_))
  show r.val % 128 = r.val % 256
  omega

theorem rows03_high (q : FVec Ideal S256x128 .f32) (r : Fin 64) (e : Fin 128) :
    concatenate S128x128 0 [⟨S64x128, rowsQ q 0⟩, ⟨S64x128, rowsQ q 3⟩] concatenates_S64x128_S64x128_S128x128_d0 (ix2 (Fin.ofNat 128 (64 + r.val)) e)
      = q (ix2 (Fin.ofNat 256 (192 + r.val)) e) := by
  have := r.isLt
  pointwise [rowsQ]
  refine (dif_neg (show ¬ (64 + r.val) % 128 < 64 by omega)).trans (congrArg (fun u => q (ix2 u e)) (Fin.ext ?_))
  show 192 + ((64 + r.val) % 128 - 64) = (192 + r.val) % 256
  omega

/-- Scores of row `i` of the queries of head `h` against every key. -/
def scoreOn (q : FVec Ideal S256x1024 .f32) (k : Ext Ideal) (c : Dev nD) (h : Fin 8) (i : Fin 256) (j : Fin 4096) : EReal :=
  ∑ e : Fin 128, q (ix2 i (Fin.ofNat 1024 (128 * h.val + e.val))) * k (ix4 0 j (headOf c h.val) e)

theorem Runs.weighted {b o n N : ℕ} (h : Runs b o n) (hN : N = 64 * n) (s v : Fin 4096 → EReal) :
    weighted (fun j : Fin N => s (keyRow o j.val)) (fun j => v (keyRow o j.val)) = keptSum b s v := by
  unfold Cert.Attn.weighted keptSum
  rw [h.sum hN fun j => Ideal.exp (s j) * v j, h.sum hN fun j => Ideal.exp (s j)]

theorem headQ_apply (q : FVec Ideal S256x1024 .f32) (h : Fin 8) (i : Fin 256) (e : Fin 128) :
    headQ q h (ix2 i e) = q (ix2 i (Fin.ofNat 1024 (128 * h.val + e.val))) := by
  have := h.isLt
  have := e.isLt
  pointwise [headQ]
  exact congrArg (fun u => q (ix2 i u)) (Fin.ext (by show 128 * h.val + e.val = (128 * h.val + e.val) % 1024; omega))

theorem rowsQ_apply (q : FVec Ideal S256x128 .f32) (b : Fin 4) (r : Fin 64) (e : Fin 128) :
    rowsQ q b (ix2 r e) = q (ix2 (Fin.ofNat 256 (64 * b.val + r.val)) e) := by
  have := b.isLt
  have := r.isLt
  pointwise [rowsQ]
  exact congrArg (fun u => q (ix2 u e)) (Fin.ext (by show 64 * b.val + r.val = (64 * b.val + r.val) % 256; omega))

theorem outBlock_apply (q : FVec Ideal S256x1024 .f32) (k v : Ext Ideal) (c : Dev nD) (h : Fin 8) (b : Fin 4) (r : Fin 64) (d : Fin 128) :
    outBlock (headQ q h) (gathered c k) (gathered c v) h b (ix2 r d)
      = keptSum b.val (scoreOn q k c h (Fin.ofNat 256 (64 * b.val + r.val))) (fun j => v (ix4 0 j (headOf c h.val) d)) := by
  have hr := r.isLt
  match b with
  | 0 =>
    refine Eq.trans ?_ (runs0.weighted (N := 1408) rfl _ _)
    have e : outBlock (headQ q h) (gathered c k) (gathered c v) h 0 (ix2 r d) = both03 (headQ q h) (gathered c k) (gathered c v) h (ix2 (Fin.ofNat 128 r.val) d) := by
      pointwise [outBlock]
      exact congrArg (fun u => both03 (headQ q h) (gathered c k) (gathered c v) h (ix2 u d)) (Fin.ext (by show r.val = r.val % 128; omega))
    rw [e, both03_apply]
    unfold scoreOn
    simp only [readK0_apply, rows03_low, headQ_apply]
    rw [show 64 * (0 : Fin 4).val + r.val = r.val by show 64 * 0 + r.val = r.val; omega]
  | 1 =>
    refine Eq.trans ?_ (runs1.weighted (N := 1472) rfl _ _)
    refine (out12_apply _ _ _ r d).trans ?_
    unfold scoreOn
    simp only [readK1_apply, rowsQ_apply, headQ_apply]
    rfl
  | 2 =>
    refine Eq.trans ?_ (runs2.weighted (N := 1472) rfl _ _)
    refine (out12_apply _ _ _ r d).trans ?_
    unfold scoreOn
    simp only [readK1_apply, rowsQ_apply, headQ_apply]
    rfl
  | 3 =>
    refine Eq.trans ?_ (runs3.weighted (N := 1408) rfl _ _)
    have e : outBlock (headQ q h) (gathered c k) (gathered c v) h 3 (ix2 r d) = both03 (headQ q h) (gathered c k) (gathered c v) h (ix2 (Fin.ofNat 128 (64 + r.val)) d) := by
      pointwise [outBlock]
      exact congrArg (fun u => both03 (headQ q h) (gathered c k) (gathered c v) h (ix2 u d)) (Fin.ext (by show 64 + r.val = (64 + r.val) % 128; omega))
    rw [e, both03_apply]
    unfold scoreOn
    simp only [readK0_apply, rows03_high, headQ_apply]
    rw [show 64 * (3 : Fin 4).val + r.val = 192 + r.val by show 64 * 3 + r.val = 192 + r.val; omega]

/-- A device's context at a row and a column. -/
theorem ctxVal_apply (q : FVec Ideal S256x1024 .f32) (k v : Ext Ideal) (c : Dev nD) (i : Fin 256) (p : Fin 1024) :
    ctxVal q (gathered c k) (gathered c v) (ix2 i p)
      = keptSum (i.val / 64) (scoreOn q k c (Fin.ofNat 8 (p.val / 128)) i) (fun j => v (ix4 0 j (headOf c (p.val / 128)) (Fin.ofNat 128 p.val))) := by
  have hi := i.isLt
  have hp := p.isLt
  unfold ctxVal
  refine (outBlock_apply q k v c _ _ _ _).trans ?_
  have e1 : (Fin.ofNat 256 (64 * (ctxOf (ix2 i p)).1.val + (Fin.ofNat 64 ((ix2 i p) 0).val).val) : Fin 256) = i :=
    Fin.ext (by show (64 * (i.val / 64) + i.val % 64) % 256 = i.val; omega)
  have e2 : (ctxOf (ix2 i p)).2 = Fin.ofNat 8 (p.val / 128) := Fin.ext (by show p.val / 128 = p.val / 128 % 8; omega)
  rw [e1, e2]
  have e3 : (Fin.ofNat 8 (p.val / 128)).val = p.val / 128 := by show p.val / 128 % 8 = _; omega
  rw [e3]
  rfl

end Cert.Attn

end
-- ==== Proof.Ref.lean ====
/-
# The reference's result, stage by stage

The run's composed term is `Cert.ReferenceIdeal.Value.res_main_v46`; here it is cut into named stages, each read at an index.
-/
module

public import proofs.«01_k».proof.Proof.Softmax
public import proofs.«01_k».proof.Proof.Gen.ReferenceIdeal.Run
public import Idealize.ShloMosaic.Lib.IdealHost
public import Idealize.ShloMosaic.Lib.Pointwise

@[expose] public section

noncomputable section

namespace Cert.Attn.Ref

open Cert.ReferenceIdeal Cert.ReferenceIdeal.Gen
open Idealize.ShloMosaic Idealize.ShloMosaic.TcCoe

/-- Floor division of a vector of indices by 64, -/
def floor64 {s : Shape} (hb : S_.BroadcastsInDim s (![] : Fin 0 → Fin s.rank)) (v : IVec s 32) : IVec s 32 :=
  select (andi (cmpi .ne (signi v) (broadcastInDim s ![] hb (signi (id (constantI S_ 32 64#32)))))
      (cmpi .ne (Host.remsi v (broadcastInDim s ![] hb (id (constantI S_ 32 64#32)))) (broadcastInDim s ![] hb (constantI S_ 32 0#32))))
    (subi (Host.divsi v (broadcastInDim s ![] hb (id (constantI S_ 32 64#32)))) (broadcastInDim s ![] hb (constantI S_ 32 1#32)))
    (Host.divsi v (broadcastInDim s ![] hb (id (constantI S_ 32 64#32))))
/-- the rows' blocks, -/
def rowBlk : IVec S256x1 32 := broadcastInDim S256x1 ![0] bcast_S256_S256x1_0 (floor64 bcast_S_S256 (iotaInDim S256 32 0))
/-- the keys' blocks, -/
def keyBlk : IVec S1x4096 32 := broadcastInDim S1x4096 ![1] bcast_S4096_S1x4096_1 (floor64 bcast_S_S4096 (iotaInDim S4096 32 0))
def three : IVec S_ 32 := select (cmpi .eq (id (constantI S_ 32 3#32)) (constantI S_ 32 0#32)) (constantI S_ 32 1#32) (id (constantI S_ 32 3#32))
/-- the remainder modulo 3 (of the divisor's sign), -/
def mod3 (v : IVec S256x4096 32) : IVec S256x4096 32 :=
  select (andi (cmpi .ne (cmpi .slt (Host.remsi v (broadcastInDim S256x4096 ![] bcast_S_S256x4096 three)) (broadcastInDim S256x4096 ![] bcast_S_S256x4096 (constantI S_ 32 0#32)))
        (broadcastInDim S256x4096 ![] bcast_S_S256x4096 (cmpi .slt three (constantI S_ 32 0#32))))
      (cmpi .ne (Host.remsi v (broadcastInDim S256x4096 ![] bcast_S_S256x4096 three)) (broadcastInDim S256x4096 ![] bcast_S_S256x4096 (constantI S_ 32 0#32))))
    (addi (Host.remsi v (broadcastInDim S256x4096 ![] bcast_S_S256x4096 three)) (broadcastInDim S256x4096 ![] bcast_S_S256x4096 three))
    (Host.remsi v (broadcastInDim S256x4096 ![] bcast_S_S256x4096 three))
/-- and the mask. -/
def mask : IVec S256x4096 1 :=
  ori (ori (cmpi .eq (broadcastInDim S256x4096 ![0, 1] bcast_S256x1_S256x4096_0_1 rowBlk) (broadcastInDim S256x4096 ![0, 1] bcast_S1x4096_S256x4096_0_1 keyBlk))
      (broadcastInDim S256x4096 ![0, 1] bcast_S1x4096_S256x4096_0_1 (cmpi .eq keyBlk (broadcastInDim S1x4096 ![] bcast_S_S1x4096 (constantI S_ 32 0#32)))))
    (cmpi .eq (mod3 (addi (broadcastInDim S256x4096 ![0, 1] bcast_S256x1_S256x4096_0_1 rowBlk) (broadcastInDim S256x4096 ![0, 1] bcast_S1x4096_S256x4096_0_1 keyBlk)))
      (broadcastInDim S256x4096 ![] bcast_S_S256x4096 (constantI S_ 32 0#32)))
/-- The rows with an unmasked key. -/
def rowKeep : IVec S256 1 := Host.reduce IntOp.ori mask (constantI S_ 1 0#1) reducesTo_S256x4096_S256_d1 h_S_

section
variable {F : FTy → Type} [FloatOps F]

/-- The masked scores, -/
def scores (x : FVec F S1x256x1024 .f32) (wq : FVec F S1024x16384 .f32) (k : FVec F S1x4096x128x128 .f32) : FVec F S1x128x256x4096 .f32 :=
  select (broadcastInDim S1x128x256x4096 ![0, 1, 2, 3] bcast_S1x1x256x4096_S1x128x256x4096_0_1_2_3 (broadcastInDim S1x1x256x4096 ![2, 3] bcast_S256x4096_S1x1x256x4096_2_3 mask))
    (mulf (Host.dotGeneral dot_S1x256x128x128_S1x4096x128x128_S1x128x256x4096_3_3_1_1_02_02 none
        (shapeCast S1x256x128x128 (Host.dotGeneral dot_S1x256x1024_S1024x16384_S1x256x16384_2_0_01_1_n_n none x wq) shapeCasts_S1x256x16384_S1x256x128x128) k)
      (broadcastInDim S1x128x256x4096 ![] bcast_S_S1x128x256x4096 (constant S_ .f32 0x3DB504F3#32)))
    (broadcastInDim S1x128x256x4096 ![] bcast_S_S1x128x256x4096 (id (constant S_ .f32 0xFF800000#32)))
/-- the exponentials of their distances to the largest, -/
def exps (s : FVec F S1x128x256x4096 .f32) : FVec F S1x128x256x4096 .f32 :=
  Host.exp (subf s (broadcastInDim S1x128x256x4096 ![0, 1, 2, 3] bcast_S1x128x256x1_S1x128x256x4096_0_1_2_3 (broadcastInDim S1x128x256x1 ![0, 1, 2] bcast_S1x128x256_S1x128x256x1_0_1_2
    (Host.reduce FloatOps.maximumf s (constant S_ .f32 0xFF800000#32) reducesTo_S1x128x256x4096_S1x128x256_d3 h_S_))))
/-- their sums, -/
def sums (e : FVec F S1x128x256x4096 .f32) : FVec F S1x128x256x1 .f32 :=
  select (broadcastInDim S1x128x256x1 ![0, 1, 2, 3] bcast_S1x1x256x1_S1x128x256x1_0_1_2_3 (broadcastInDim S1x1x256x1 ![2] bcast_S256_S1x1x256x1_2 rowKeep))
    (broadcastInDim S1x128x256x1 ![0, 1, 2] bcast_S1x128x256_S1x128x256x1_0_1_2 (Host.reduceAdd e (constant S_ .f32 0x00000000#32) reducesTo_S1x128x256x4096_S1x128x256_d3 h_S_))
    (broadcastInDim S1x128x256x1 ![] bcast_S_S1x128x256x1 (id (constant S_ .f32 0x3F800000#32)))
/-- the weights, -/
def weights (e : FVec F S1x128x256x4096 .f32) : FVec F S1x128x256x4096 .f32 :=
  select (broadcastInDim S1x128x256x4096 ![0, 1, 2, 3] bcast_S1x1x256x1_S1x128x256x4096_0_1_2_3 (broadcastInDim S1x1x256x1 ![2] bcast_S256_S1x1x256x1_2 rowKeep))
    (Host.divf e (broadcastInDim S1x128x256x4096 ![0, 1, 2, 3] bcast_S1x128x256x1_S1x128x256x4096_0_1_2_3 (sums e)))
    (broadcastInDim S1x128x256x4096 ![] bcast_S_S1x128x256x4096 (id (constant S_ .f32 0x00000000#32)))
/-- the context -/
def context (v : FVec F S1x4096x128x128 .f32) (w : FVec F S1x128x256x4096 .f32) : FVec F S1x256x16384 .f32 :=
  shapeCast S1x256x16384 (transpose S1x256x128x128 [0, 3, 1, 2] (Host.dotGeneral dot_S1x4096x128x128_S1x128x256x4096_S1x128x128x256_1_3_3_2_02_01 none v w) transposes_S1x128x128x256_S1x256x128x128_0_3_1_2)
    shapeCasts_S1x256x128x128_S1x256x16384
/-- and its projection. -/
def projected (ctx : FVec F S1x256x16384 .f32) (wo : FVec F S16384x1024 .f32) : FVec F S256x1024 .bf16 :=
  truncf .bf16 (shapeCast S256x1024 (Host.dotGeneral dot_S1x256x16384_S16384x1024_S1x256x1024_2_0_01_1_n_n none ctx wo) shapeCasts_S1x256x1024_S256x1024) bitsLt_bf16_f32

/-- The reference, whole. -/
def out (x : FVec F S1x256x1024 .f32) (wq : FVec F S1024x16384 .f32) (k v : FVec F S1x4096x128x128 .f32) (wo : FVec F S16384x1024 .f32) : FVec F S256x1024 .bf16 :=
  projected (context v (weights (exps (scores x wq k)))) wo

set_option maxRecDepth 16384 in
theorem out_eq (m : (ℓ : Loc nD τ sig) → Buf (Elt F) ℓ) (c : Dev nD) :
    Cert.ReferenceIdeal.Value.res_main_v46 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v46 out projected context weights sums exps scores rowKeep mask mod3 three keyBlk rowBlk floor64
  rfl

end

/-! ## The mask -/

theorem rowBlk_apply (i : Fin 256) (z : Fin 1) : rowBlk (ix2 i z) = BitVec.ofNat 32 (i.val / 64) := by
  pointwise [rowBlk, floor64]
  revert i
  decide +kernel
theorem keyBlk_apply (i : Fin 4096) (z : Fin 1) : keyBlk (ix2 z i) = BitVec.ofNat 32 (i.val / 64) := by
  pointwise [keyBlk, floor64]
  revert i
  decide +kernel

theorem mask_blocks (i : Fin 256) (j : Fin 4096) (b : Fin 4) (k : Fin 64) (hb : b.val = i.val / 64) (hk : k.val = j.val / 64) :
    mask (ix2 i j) = if keepB b.val k.val then 1#1 else 0#1 := by
  pointwise [mask, mod3, three]
  simp only [rowBlk_apply, keyBlk_apply, ← hb, ← hk]
  clear hb hk
  revert b k
  decide +kernel

theorem mask_apply (i : Fin 256) (j : Fin 4096) : mask (ix2 i j) = if keepB (i.val / 64) (j.val / 64) then 1#1 else 0#1 :=
  mask_blocks i j ⟨i.val / 64, by have := i.isLt; omega⟩ ⟨j.val / 64, by have := j.isLt; omega⟩ rfl rfl

/-- Every row has an unmasked key: the first. -/
theorem rowKeep_apply (i : Fin 256) : rowKeep (ix1 i) = 1#1 := by
  pointwise [rowKeep]
  rw [← Finset.insert_erase (Finset.mem_univ (0 : Fin 4096))]
  refine (Finset.fold_insert (op := IntOp.ori) (Finset.notMem_erase _ _)).trans ?_
  rw [mask_apply, if_pos (.inr (.inl rfl))]
  exact (show ∀ y : BitVec 1, IntOp.ori 1#1 y = 1#1 by decide) _

theorem negInf : Ideal.ofBits .f32 0xFF800000#32 = ⊥ := by simp [Ideal.ofBits, Ideal.ieee]

/-! ## The stages at an index -/

theorem scores_apply (x : FVec Ideal S1x256x1024 .f32) (wq : FVec Ideal S1024x16384 .f32) (k : FVec Ideal S1x4096x128x128 .f32) (h : Fin 128) (i : Fin 256) (j : Fin 4096) :
    scores x wq k (ix4 0 h i j) = if keepB (i.val / 64) (j.val / 64) then
      (∑ e : Fin 128, (∑ m : Fin 1024, x (ix3 0 i m) * wq (ix2 m (Fin.ofNat 16384 (128 * h.val + e.val)))) * k (ix4 0 j h e)) * scale else ⊥ := by
  have hh := h.isLt
  pointwise [scores, scale]
  rw [mask_apply]
  have hc : ∀ e : Fin 128, (⟨h.val * 128 + e.val, by have := e.isLt; omega⟩ : Fin 16384) = Fin.ofNat 16384 (128 * h.val + e.val) := fun e =>
    Fin.ext (by have := e.isLt; show h.val * 128 + e.val = (128 * h.val + e.val) % 16384; omega)
  simp only [hc]
  by_cases hk : keepB (i.val / 64) (j.val / 64)
  · rw [if_pos hk, if_pos hk]; exact if_pos rfl
  · rw [if_neg hk, if_neg hk]; exact (if_neg (by decide)).trans negInf

theorem exps_apply (s : FVec Ideal S1x128x256x4096 .f32) (h : Fin 128) (i : Fin 256) (j : Fin 4096) :
    exps s (ix4 0 h i j) = Ideal.exp (s (ix4 0 h i j) - (Finset.univ : Finset (Fin 4096)).fold max ⊥ fun j => s (ix4 0 h i j)) := by
  pointwise [exps]
  rw [negInf]

theorem weights_apply (e : FVec Ideal S1x128x256x4096 .f32) (h : Fin 128) (i : Fin 256) (j : Fin 4096) :
    weights e (ix4 0 h i j) = Ideal.div (e (ix4 0 h i j)) (∑ j : Fin 4096, e (ix4 0 h i j)) := by
  pointwise [weights, sums]
  rw [rowKeep_apply]
  exact (if_pos rfl).trans (congrArg (Ideal.div (e (ix4 0 h i j))) (if_pos rfl))

theorem context_apply (v : FVec Ideal S1x4096x128x128 .f32) (w : FVec Ideal S1x128x256x4096 .f32) (i : Fin 256) (p : Fin 16384) :
    context v w (ix3 0 i p) = ∑ j : Fin 4096, v (ix4 0 j (Fin.ofNat 128 (p.val / 128)) (Fin.ofNat 128 p.val)) * w (ix4 0 (Fin.ofNat 128 (p.val / 128)) i j) := by
  have hp := p.isLt
  pointwise [context]
  have h1 : (⟨p.val / 128, by omega⟩ : Fin 128) = Fin.ofNat 128 (p.val / 128) := Fin.ext (by show p.val / 128 = p.val / 128 % 128; omega)
  have h2 : (⟨p.val % 128, by omega⟩ : Fin 128) = Fin.ofNat 128 p.val := Fin.ext rfl
  rw [h1, h2]

theorem projected_apply (ctx : FVec Ideal S1x256x16384 .f32) (wo : FVec Ideal S16384x1024 .f32) (i : Fin 256) (n : Fin 1024) :
    projected ctx wo (ix2 i n) = ∑ p : Fin 16384, ctx (ix3 0 i p) * wo (ix2 p n) := by
  pointwise [projected]

end Cert.Attn.Ref

end
-- ==== Proof.Value.lean ====
/-
# The values

At the extended reals the reduce-scatter and all-gather leave on every device the sum of the sixteen partial products
(`fin_sum`); with finite scores each of them is the reference's sum over the device's own columns (`value`). The run's
buffers are those arrays (`result_eq`, `inp_eq`), and the precondition says the scores are finite (`finite`).
-/
module

public import proofs.«01_k».proof.Proof.Launch
public import proofs.«01_k».proof.Proof.Read
public import proofs.«01_k».proof.Proof.Ref
public import proofs.«01_k».proof.Pre_finite_scores_KernelIdeal
public import proofs.«01_k».proof.Pre_finite_scores_ReferenceIdeal
public import Idealize.ShloMosaic.Lib.Layout
public import Idealize.ShloMosaic.Lib.ReduceAll

@[expose] public section

noncomputable section

namespace Cert.Attn

open Cert.KernelIdeal Cert.KernelIdeal.Gen
open Idealize.ShloMosaic Idealize.ShloMosaic.TcCoe

/-! ## The sum over the devices -/

theorem partialOf_apply (wo : Vec Ideal S1024x1024 .f32) (ctx : Vec Ideal S256x1024 .f32) (i : Fin 256) (n : Fin 1024) :
    partialOf wo ctx (ix2 i n) = ∑ q : Fin 1024, ctx (ix2 i q) * wo (ix2 q n) := by
  pointwise [partialOf]

theorem summed_apply (own : Vec Ideal S16x1024 .bf16) (got : Vec Ideal S15x16x1024 .bf16) (r : Fin 16) (n : Fin 1024) :
    summed own got (ix2 r n) = own (ix2 r n) + ∑ t : Fin 15, got (ix3 t r n) := by
  pointwise [summed]

/-- A device's own rows: of its own partial product, -/
theorem own_at (c : Dev nD) (i : Fin 256) (n : Fin 1024) (hc : c.val = i.val / 16) :
    (myRect c).emb (ix2 (Fin.ofNat 16 i.val) n) = ix2 i n := by
  have e : ∀ a, ((myRect c).emb (ix2 (Fin.ofNat 16 i.val) n) a).val = myOff c a + 1 * ((ix2 (Fin.ofNat 16 i.val) n : S16x1024.Idx) a).val :=
    fun a => Rect.emb_apply _ _ _
  rw [myOff_eq c] at e
  refine funext fun a => Fin.ext ((e a).trans ?_)
  match a with
  | ⟨0, _⟩ => show 16 * c.val + 1 * (i.val % 16) = i.val; omega
  | ⟨1, _⟩ => show 0 + 1 * n.val = n.val; omega

/-- and of the one that came from its peer at distance `1 + t`. -/
theorem got_at (pr : Dev nD → Arr Ideal) (c : Dev nD) (t : Fin 15) (i : Fin 256) (n : Fin 1024) (hc : c.val = i.val / 16) :
    landed pr c (gotRect.emb (ix3 t (Fin.ofNat 16 i.val) n)) = pr (dst c t.rev) (ix2 i n) := by
  have hi := i.isLt
  have ht := t.isLt
  have e : ∀ a, (gotRect.emb (ix3 t (Fin.ofNat 16 i.val) n) a).val
      = (![1, 0, 0] : Fin 3 → ℕ) a + 1 * ((ix3 t (Fin.ofNat 16 i.val) n : S15x16x1024.Idx) a).val := fun a => Rect.emb_apply _ _ _
  have e0 : (gotRect.emb (ix3 t (Fin.ofNat 16 i.val) n) 0).val = 1 + 1 * t.val := e 0
  have e1 : (gotRect.emb (ix3 t (Fin.ofNat 16 i.val) n) 1).val = 0 + 1 * (i.val % 16) := e 1
  have e2 : (gotRect.emb (ix3 t (Fin.ofNat 16 i.val) n) 2).val = 0 + 1 * n.val := e 2
  have hr : t.rev.val = 15 - (t.val + 1) := Fin.val_rev t
  unfold landed
  refine congr (congrArg pr (Fin.ext ?_)) (funext fun a => Fin.ext ?_)
  · show (c.val + 16 - (gotRect.emb (ix3 t (Fin.ofNat 16 i.val) n) 0).val) % 16 = (c.val + (1 + t.rev.val)) % 16
    rw [e0, hr]; omega
  · match a with
    | ⟨0, _⟩ =>
      show (16 * c.val + (gotRect.emb (ix3 t (Fin.ofNat 16 i.val) n) 1).val) % 256 = i.val
      rw [e1]; omega
    | ⟨1, _⟩ =>
      show (gotRect.emb (ix3 t (Fin.ofNat 16 i.val) n) 2).val = n.val
      rw [e2]; omega

/-- The result is the sum of the sixteen partial products. -/
theorem fin_sum (pr : Dev nD → Arr Ideal) (i : Fin 256) (n : Fin 1024) :
    (fin pr (ix2 i n) : EReal) = ∑ d : Dev nD, (pr d (ix2 i n) : EReal) := by
  have hc : (chunkOf (ix2 i n)).val = i.val / 16 := rfl
  refine (summed_apply _ _ _ _).trans ?_
  rw [univ_peers (chunkOf (ix2 i n)), Finset.sum_insert (notMem_peers _), Finset.sum_map]
  refine congr (congrArg HAdd.hAdd ?_) ?_
  · exact congrArg (pr (chunkOf (ix2 i n))) (own_at _ i n hc)
  · refine (Finset.sum_congr rfl fun t _ => got_at pr _ t i n hc).trans ?_
    exact Equiv.sum_comp Fin.revPerm fun t => (pr (dst (chunkOf (ix2 i n)) t) (ix2 i n) : EReal)

/-! ## One device's partial product -/

theorem part_apply (I : Dev nD → In Ideal) (c : Dev nD) (i : Fin 256) (n : Fin 1024) :
    (part I c (ix2 i n) : EReal) = ∑ q : Fin 1024, keptSum (i.val / 64) (scoreOn (queries (I c).x (I c).wq) (I c).k c (Fin.ofNat 8 (q.val / 128)) i)
      (fun j => (I c).v (ix4 0 j (headOf c (q.val / 128)) (Fin.ofNat 128 q.val))) * (I c).wo (ix2 q n) :=
  (partialOf_apply _ _ i n).trans (Finset.sum_congr rfl fun q _ => congrArg (fun u : EReal => u * (I c).wo (ix2 q n)) (ctxVal_apply _ _ _ c i q))

/-- A sum over the columns of all devices, device by device. -/
theorem sum_split (f : Fin 16384 → EReal) : ∑ p, f p = ∑ d : Fin 16, ∑ q : Fin 1024, f (Fin.ofNat 16384 (1024 * d.val + q.val)) := by
  rw [← Fintype.sum_prod_type' (f := fun (d : Fin 16) (q : Fin 1024) => f (Fin.ofNat 16384 (1024 * d.val + q.val)))]
  refine (Fintype.sum_equiv (finProdFinEquiv (m := 16) (n := 1024)) _ (fun p => f p) fun y => congrArg f (Fin.ext ?_)).symm
  have h1 := y.1.isLt
  have h2 := y.2.isLt
  show (1024 * y.1.val + y.2.val) % 16384 = y.2.val + 1024 * y.1.val
  omega

section Whole
variable (x : FVec Ideal S1x256x1024 .f32) (wq : FVec Ideal Cert.ReferenceIdeal.S1024x16384 .f32) (k v : FVec Ideal S1x4096x128x128 .f32)
  (wo : FVec Ideal Cert.ReferenceIdeal.S16384x1024 .f32)

/-- With finite queries and keys, a device's score of its head `h` is finite, and the reference's score before the mask. -/
theorem score_eq (w : Vec Ideal S1024x1024 .f32) (d : Dev nD)
    (hw : ∀ (m q : Fin 1024), w (ix2 m q) = wq (ix2 m (Fin.ofNat 16384 (1024 * d.val + q.val))))
    (fx : ∀ y, ∃ r : ℝ, x y = r) (fw : ∀ y, ∃ r : ℝ, w y = r) (fk : ∀ y, ∃ r : ℝ, k y = r) (h : Fin 8) (i : Fin 256) (j : Fin 4096) :
    ∃ r : ℝ, (∑ e : Fin 128, (∑ m : Fin 1024, x (ix3 0 i m) * wq (ix2 m (Fin.ofNat 16384 (128 * (headOf d h.val).val + e.val)))) * k (ix4 0 j (headOf d h.val) e)) * scale = r
      ∧ scoreOn (queries x w) k d h i j = r := by
  have hd : d.val < 16 := d.isLt
  have hh := h.isLt
  obtain ⟨r, h1, h2⟩ := score_scale (fun m : Fin 1024 => x (ix3 0 i m)) (fun (e : Fin 128) m => w (ix2 m (Fin.ofNat 1024 (128 * h.val + e.val))))
    (fun e => k (ix4 0 j (headOf d h.val) e)) scale scale_real (fun m => fx _) (fun e m => fw _) (fun e => fk _)
  refine ⟨r, Eq.trans ?_ h1, Eq.trans ?_ h2⟩
  · refine congrArg (fun u : EReal => u * scale) (Finset.sum_congr rfl fun e _ => congrArg (fun u : EReal => u * _) (Finset.sum_congr rfl fun m _ =>
      congrArg (fun u : EReal => x (ix3 0 i m) * u) ?_))
    have he := e.isLt
    refine Eq.trans (congrArg (fun u => wq (ix2 m u)) (Fin.ext ?_)) (hw m _).symm
    show (128 * ((8 * d.val + h.val) % 128) + e.val) % 16384 = (1024 * d.val + (128 * h.val + e.val) % 1024) % 16384
    omega
  · unfold scoreOn
    exact Finset.sum_congr rfl fun e _ => congrArg (fun u : EReal => u * _) (queries_apply x w i _)

/-- The reference's context, at a column of device `d`. -/
theorem context_eq (w : Vec Ideal S1024x1024 .f32) (d : Dev nD)
    (hw : ∀ (m q : Fin 1024), w (ix2 m q) = wq (ix2 m (Fin.ofNat 16384 (1024 * d.val + q.val))))
    (fx : ∀ y, ∃ r : ℝ, x y = r) (fw : ∀ y, ∃ r : ℝ, w y = r) (fk : ∀ y, ∃ r : ℝ, k y = r) (i : Fin 256) (q : Fin 1024) :
    (Ref.context v (Ref.weights (Ref.exps (Ref.scores x wq k))) (ix3 0 i (Fin.ofNat 16384 (1024 * d.val + q.val))) : EReal)
      = keptSum (i.val / 64) (scoreOn (queries x w) k d (Fin.ofNat 8 (q.val / 128)) i) (fun j => v (ix4 0 j (headOf d (q.val / 128)) (Fin.ofNat 128 q.val))) := by
  have hd : d.val < 16 := d.isLt
  have hq := q.isLt
  have eh : (Fin.ofNat 128 ((Fin.ofNat 16384 (1024 * d.val + q.val)).val / 128) : Fin 128) = headOf d (q.val / 128) :=
    Fin.ext (by show ((1024 * d.val + q.val) % 16384 / 128) % 128 = (8 * d.val + q.val / 128) % 128; omega)
  have ee : (Fin.ofNat 128 (Fin.ofNat 16384 (1024 * d.val + q.val)).val : Fin 128) = Fin.ofNat 128 q.val :=
    Fin.ext (by show ((1024 * d.val + q.val) % 16384) % 128 = q.val % 128; omega)
  have eg : headOf d (Fin.ofNat 8 (q.val / 128) : Fin 8).val = headOf d (q.val / 128) :=
    Fin.ext (by show (8 * d.val + (q.val / 128) % 8) % 128 = (8 * d.val + q.val / 128) % 128; omega)
  have hs := score_eq x wq k w d hw fx fw fk (Fin.ofNat 8 (q.val / 128)) i
  rw [eg] at hs
  refine (Ref.context_apply _ _ i _).trans ?_
  rw [eh, ee]
  refine Eq.trans (Finset.sum_congr rfl fun j _ => congrArg (fun u : EReal => _ * u) ?_)
    (softmax_kept (i.val / 64) _ (fun j => let ⟨r, _, h⟩ := hs j; ⟨r, h⟩) _ (fun j => Ref.scores x wq k (ix4 0 (headOf d (q.val / 128)) i j)) fun j => ?_)
  · refine (Ref.weights_apply _ _ i j).trans ?_
    exact congr (congrArg Ideal.div (Ref.exps_apply _ _ i j)) (Finset.sum_congr rfl fun l _ => Ref.exps_apply _ _ i l)
  · obtain ⟨r, h1, h2⟩ := hs j
    refine (Ref.scores_apply x wq k _ i j).trans ?_
    rw [h1, h2]

/-- With finite scores the result is the reference's. -/
theorem value (I : Dev nD → In Ideal) (hx : ∀ d, (I d).x = x) (hk : ∀ d, (I d).k = k) (hv : ∀ d, (I d).v = v)
    (hw : ∀ (d : Dev nD) (m q : Fin 1024), (I d).wq (ix2 m q) = wq (ix2 m (Fin.ofNat 16384 (1024 * d.val + q.val))))
    (ho : ∀ (d : Dev nD) (q n : Fin 1024), (I d).wo (ix2 q n) = wo (ix2 (Fin.ofNat 16384 (1024 * d.val + q.val)) n))
    (fx : ∀ y, ∃ r : ℝ, x y = r) (fw : ∀ d y, ∃ r : ℝ, (I d).wq y = r) (fk : ∀ y, ∃ r : ℝ, k y = r) :
    Ref.out x wq k v wo = fin (part I) := by
  funext y
  obtain ⟨i, n, rfl⟩ : ∃ (i : Fin 256) (n : Fin 1024), y = ix2 i n := ⟨y 0, y 1, by funext a; fin_cases a <;> rfl⟩
  refine (Ref.projected_apply _ _ i n).trans (((sum_split _).trans ?_).trans (fin_sum (part I) i n).symm)
  refine Finset.sum_congr rfl fun d _ => ((Finset.sum_congr rfl fun q _ => ?_).trans (part_apply I d i n).symm)
  rw [hx d, hk d, hv d, ho d q n]
  exact congrArg (fun u : EReal => u * _) (context_eq x wq k v (I d).wq d (hw d) fx (fw d) fk i q)

end Whole

/-! ## The run's buffers -/

section Run
variable {F : FTy → Type} [FloatOps F] (m : (ℓ : Loc nD τ sig) → Buf (Elt F) ℓ) (ρ : Dev nD → PrngReg)

/-- The staged inputs are the argument buffers. -/
theorem inp_eq (c : Dev nD) : (inp m ρ c).x = m ((c : Thread nD τ).loc main_arg0) ∧ (inp m ρ c).wq = m ((c : Thread nD τ).loc main_arg1)
    ∧ (inp m ρ c).wo = m ((c : Thread nD τ).loc main_arg4) := by
  have h0 : (fun a => (win0_0.index (0 : Fin 1)) a * main_arg0.ty.shape.size a) = fun _ => 0 := funext fun a => by fin_cases a <;> decide
  have h1 : (fun a => (win0_1.index (0 : Fin 1)) a * main_arg1.ty.shape.size a) = fun _ => 0 := funext fun a => by fin_cases a <;> decide
  have h2 : (fun a => (win0_2.index (0 : Fin 1)) a * main_arg4.ty.shape.size a) = fun _ => 0 := funext fun a => by fin_cases a <;> decide
  refine ⟨?_, ?_, ?_⟩
  · exact Memref.read_access_unit_zero (Elt F) main_arg0 h0 (fun a => by fin_cases a <;> decide) (m ((c : Thread nD τ).loc main_arg0))
  · exact Memref.read_access_unit_zero (Elt F) main_arg1 h1 (fun a => by fin_cases a <;> decide) (m ((c : Thread nD τ).loc main_arg1))
  · exact Memref.read_access_unit_zero (Elt F) main_arg4 h2 (fun a => by fin_cases a <;> decide) (m ((c : Thread nD τ).loc main_arg4))

/-- The result buffer ends as `fin` of the partial products. -/
theorem result_eq (c : Dev nD) : finalA m ρ c (3 : Fin 4) = fin (xin m ρ) := by
  have hz : (fun a => (win0_3.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_3.blk (0 : Fin 1)).view.read (Elt F) (finalA m ρ c (3 : Fin 4)) = fin (xin m ρ) := by
    unfold finalA
    rw [show cfg0.N = ((0 : Fin 1) : Fin cfg0.N).val + 1 from rfl, (dats m ρ 0 c).arrAt_succ (3 : Fin 4) (0 : Fin 1),
      show (cfg0.win (3 : Fin 4)).flush (0 : Fin 1) = true from by decide, if_pos rfl]
    exact View.read_write_univ _ _
  exact (hr _).symm.trans ho

end Run

/-! ## The layout and the precondition -/

/-- A device's block of the query weights, -/
theorem cols_at (h : Layout.Tiles ⟨2, ![1024, 1024]⟩ ⟨2, ![1024, 16384]⟩ 1 16) (w : (⟨2, ![1024, 16384]⟩ : Shape).Idx → EReal) (d : Fin 16) (m q : Fin 1024) :
    Layout.block ⟨2, ![1024, 1024]⟩ ⟨2, ![1024, 16384]⟩ 1 16 d w h (ix2 m q) = w (ix2 m (Fin.ofNat 16384 (1024 * d.val + q.val))) := by
  have hd := d.isLt
  have hq := q.isLt
  have e := Layout.idx_cols_val h d (ix2 m q)
  refine (Layout.block_apply d w h _).trans (congrArg w (funext fun a => Fin.ext ?_))
  match a with
  | ⟨0, _⟩ => exact e.1
  | ⟨1, _⟩ => exact e.2.trans (by show d.val * 1024 + q.val = (1024 * d.val + q.val) % 16384; omega)

/-- and of the output weights. -/
theorem rows_at (h : Layout.Tiles ⟨2, ![1024, 1024]⟩ ⟨2, ![16384, 1024]⟩ 0 16) (w : (⟨2, ![16384, 1024]⟩ : Shape).Idx → EReal) (d : Fin 16) (q n : Fin 1024) :
    Layout.block ⟨2, ![1024, 1024]⟩ ⟨2, ![16384, 1024]⟩ 0 16 d w h (ix2 q n) = w (ix2 (Fin.ofNat 16384 (1024 * d.val + q.val)) n) := by
  have hd := d.isLt
  have hq := q.isLt
  have e := Layout.idx_rows_val h d (ix2 q n)
  refine (Layout.block_apply d w h _).trans (congrArg w (funext fun a => Fin.ext ?_))
  match a with
  | ⟨0, _⟩ => exact e.1.trans (by show d.val * 1024 + q.val = (1024 * d.val + q.val) % 16384; omega)
  | ⟨1, _⟩ => exact e.2

theorem inf_top : Ideal.ofBits .f32 0x7F800000#32 = ⊤ := by simp [Ideal.ofBits, Ideal.ieee]

/-- An array whose absolute values are all below infinity is finite. -/
theorem finite_of_all {s u : Shape} {axes : List (Fin s.rank)} [Subsingleton u.Idx] (x : FVec Ideal s .f32) (b : FVec Ideal s .f32) (hb : ∀ i, b i = (⊤ : EReal))
    {v : Shape} (init : IVec v 1) (hr : s.ReducesTo axes u) (hv : 0 < v.numel) (j : u.Idx)
    (e : Host.reduce IntOp.andi (cmpf .olt (Host.absf x) b) init hr hv j = 1#1) (i : s.Idx) : ∃ r : ℝ, x i = r := by
  have h := Host.reduce_andi_all _ init hr hv j e i
  change Ideal.cmp .olt (max (x i : EReal) (-(x i : EReal))) (b i) = 1#1 at h
  rw [hb i] at h
  generalize (x i : EReal) = y at h ⊢
  induction y using EReal.rec with
  | bot => simp [Ideal.cmp] at h
  | top => simp [Ideal.cmp] at h
  | coe r => exact ⟨r, rfl⟩

instance : Cert.Pre_finite_scores_KernelIdeal.Facts := ⟨by decide, by decide, by decide, by decide, by decide, by decide, by decide⟩
instance : Cert.Pre_finite_scores_ReferenceIdeal.Facts := ⟨by decide, by decide, by decide, by decide, by decide, by decide, by decide⟩

theorem and_one : ∀ {a b : BitVec 1}, IntOp.andi a b = 1#1 → a = 1#1 ∧ b = 1#1 := by decide

/-- The precondition: the activations, the query weights and the keys are finite. -/
theorem finite (x : FVec Ideal S1x256x1024 .f32) (wq : FVec Ideal S1024x1024 .f32) (k v : FVec Ideal S1x4096x128x128 .f32) (wo : FVec Ideal S1024x1024 .f32)
    (h : Cert.Pre_finite_scores_KernelIdeal.fn x wq k v wo = fun _ => 1#1) :
    (∀ y, ∃ r : ℝ, x y = r) ∧ (∀ y, ∃ r : ℝ, wq y = r) ∧ ∀ y, ∃ r : ℝ, k y = r := by
  have hs : Subsingleton Cert.Pre_finite_scores_KernelIdeal.S_.Idx := ⟨fun a b => funext fun i => i.elim0⟩
  obtain ⟨h01, h2⟩ := and_one (congrFun h ix0)
  obtain ⟨h0, h1⟩ := and_one h01
  exact ⟨finite_of_all x _ (fun _ => inf_top) _ _ _ _ h0, finite_of_all wq _ (fun _ => inf_top) _ _ _ _ h1, finite_of_all k _ (fun _ => inf_top) _ _ _ _ h2⟩

end Cert.Attn

end
-- ==== Proof.Same.lean ====
/-
# The kernel and its ideal form have the same text
-/
module

public import proofs.«01_k».proof.Proof.Gen.Kernel
public import proofs.«01_k».proof.Proof.Gen.KernelIdeal

@[expose] public section

set_option maxRecDepth 65536

noncomputable section

namespace Cert.Attn

open Idealize.ShloMosaic Idealize.ShloMosaic.TcCoe Idealize.SL.Sem

open Cert.Kernel.Gen Cert.KernelIdeal.Gen in
/-- Their kernels' tables agree, -/
theorem table_eq {F : FTy → Type} [FloatOps F] : Cert.Kernel.defs₀ (F := F) = Cert.KernelIdeal.defs₀ (F := F) :=
  congrArg Defs.onTc (funext fun ℓ => funext fun a => match ℓ, a with
    | ⟨0, _⟩, (_, _) => rfl
    | ⟨_ + 1, h⟩, _ => absurd h (Nat.not_lt.2 (Nat.le_add_left _ _)))

open Cert.Kernel.Gen Cert.KernelIdeal.Gen in
/-- and so do the tables with the pipeline's labels. -/
theorem defs_eq {F : FTy → Type} [FloatOps F] : Cert.Kernel.defs (F := F) = Cert.KernelIdeal.defs (F := F) :=
  congrArg (Pipeline.defs (Cert.Kernel.pcfgs (F := F))) table_eq

end Cert.Attn
-- ==== Proof.lean ====
/-
# The certificate of the block-sparse attention

The run of the sixteen kernels is `Cert.Attn.run_main` (Proof/Launch.lean), for any float values; the values are in
Proof/Value.lean. Here the claims are read off: the frames of the kernel and of its ideal form, the reference's frame, and
the equation of the two results.
-/
module

public import proofs.«01_k».proof.Defs
public import proofs.«01_k».proof.Proof.Value
public import proofs.«01_k».proof.Proof.Same
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

section Kernel
open Cert.KernelIdeal

/-- The five arguments end as they were. -/
theorem args_kept {F : FTy → Type} [FloatOps F] (m : (ℓ : Loc nD τ sig) → Buf (Elt F) ℓ) (ρ : Dev nD → PrngReg) {r : PUnit × MemSt nD τ sig (Elt F)}
    (h : Cert.Attn.QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 (0 : Fin 4)).trans (Cert.Attn.finalA_arg0 m ρ c), ((h c).1 (1 : Fin 4)).trans (Cert.Attn.finalA_arg1 m ρ c), (h c).2.1, (h c).2.2,
    ((h c).1 (2 : Fin 4)).trans (Cert.Attn.finalA_arg4 m ρ c)⟩

/-- At any float values the sixteen kernels end, their inputs unchanged and every counter at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun _ h => ⟨args_kept m ρ h.1, h.2⟩) (Cert.Attn.run_main m ρ)

end Kernel

/-- The two programs have the same text, so `frame_any` is the kernel's frame on bit patterns -/
theorem frame_kernel : Cert.quiescent_Kernel (hKernel := Cert.Kernel.Gen.facts) := fun m ρ _ => by
  rw [Cert.Attn.defs_eq]; exact frame_any (F := Bits) m ρ

/-- and the ideal kernel's over the extended reals, -/
theorem frame_ideal : Cert.quiescent_KernelIdeal (hKernelIdeal := Cert.KernelIdeal.Gen.facts) := fun m ρ _ => frame_any (F := Ideal) m ρ

/-- with finite inputs too. -/
theorem frame_ideal_pre : Cert.quiescent_KernelIdeal_pre_finite_scores_KernelIdeal (hKernelIdeal := Cert.KernelIdeal.Gen.facts)
    (hPre_finite_scores_KernelIdeal := inferInstance) := fun m ρ _ => frame_any (F := Ideal) m ρ

/-- The reference ends, its arguments unchanged; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_scores_ReferenceIdeal (hReferenceIdeal := Cert.ReferenceIdeal.Gen.facts)
    (hPre_finite_scores_ReferenceIdeal := inferInstance) := fun m ρ _ => frame_reference m ρ trivial

/-- Every device's result is the reference's. -/
theorem values : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := inferInstance) := by
  intro m ρ m' ρ' hf hm
  have t1 : Layout.Tiles ⟨2, ![1024, 1024]⟩ ⟨2, ![1024, 16384]⟩ 1 16 := by decide
  have t4 : Layout.Tiles ⟨2, ![1024, 1024]⟩ ⟨2, ![16384, 1024]⟩ 0 16 := by decide
  refine ⟨Cert.Attn.fin (Cert.Attn.xin m ρ), (θ_run Cert.KernelIdeal.defs _ _).mono (fun _ h c => ⟨?_, args_kept m ρ h.1 c⟩)
    (Cert.Attn.run_main (F := Ideal) m ρ), (θ_run Cert.ReferenceIdeal.defs _ _).mono (fun _ h => ⟨(h 0).1.trans ?_, (h 0).2⟩)
    (Cert.ReferenceIdeal.Value.run (F := Ideal) m' ρ')⟩
  · exact ((h.1 c).1 (3 : Fin 4)).trans (Cert.Attn.result_eq m ρ c)
  · have fin := fun c => Cert.Attn.finite _ _ _ _ _ (hf c)
    refine (Cert.Attn.Ref.out_eq m' 0).trans (Cert.Attn.value _ _ _ _ _ (Cert.Attn.inp m ρ) (fun d => ?_) (fun d => (hm d).2.2.1) (fun d => (hm d).2.2.2.1)
      (fun d a q => ?_) (fun d q n => ?_) ?_ (fun d => ?_) ?_)
    · exact (Cert.Attn.inp_eq m ρ d).1.trans (hm d).1
    · exact (congrFun ((Cert.Attn.inp_eq m ρ d).2.1.trans (hm d).2.1) _).trans (Cert.Attn.cols_at t1 _ d a q)
    · exact (congrFun ((Cert.Attn.inp_eq m ρ d).2.2.trans (hm d).2.2.2.2) _).trans (Cert.Attn.rows_at t4 _ d q n)
    · exact (hm 0).1 ▸ (fin 0).1
    · rw [(Cert.Attn.inp_eq m ρ d).2.1]; exact (fin d).2.1
    · exact (hm 0).2.2.1 ▸ (fin 0).2.2

theorem claim : Cert.Claim :=
  ⟨Cert.Kernel.Gen.facts, Cert.KernelIdeal.Gen.facts, Cert.ReferenceIdeal.Gen.facts, inferInstance, inferInstance, frame_kernel, frame_ideal,
    frame_ideal_pre, frame_reference, frame_reference_pre, trivial, values⟩

end Cert.Proof

end
